-- ==== Defs.lean ====
def Pre_Kernel (m : (ℓ : Loc Cert.Kernel.nD Cert.Kernel.τ Cert.Kernel.sig) → Buf (Elt Bits) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attention [hPre_finite_attention : Cert.Pre_finite_attention.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attention [hPre_finite_attention : Cert.Pre_finite_attention.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_attention [hAttnIdeal : Cert.AttnIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attention m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_attention [hAttnRefIdeal : Cert.AttnRefIdeal.Facts] [hPre_finite_attention : Cert.Pre_finite_attention.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attention m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v11_0)) (v1 : (c : Dev Cert.InprojIdeal.nD) → Buf (Elt Ideal) ((c.tc : Thread Cert.InprojIdeal.nD Cert.InprojIdeal.τ).loc Cert.InprojIdeal.main_v11_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v11_0) = v0 c
          ∧ r.2.mem ((c.tc : Thread Cert.InprojIdeal.nD Cert.InprojIdeal.τ).loc Cert.InprojIdeal.main_v11_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v30) = v0 c
          ∧ r.2.mem ((c.tc : Thread Cert.InprojRefIdeal.nD Cert.InprojRefIdeal.τ).loc Cert.InprojRefIdeal.main_v33) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v8_0)) (v1 : (c : Dev Cert.MixIdeal.nD) → Buf (Elt Ideal) ((c.tc : Thread Cert.MixIdeal.nD Cert.MixIdeal.τ).loc Cert.MixIdeal.main_v8_1)) (v2 : (c : Dev Cert.MixIdeal.nD) → Buf (Elt Ideal) ((c.tc : Thread Cert.MixIdeal.nD Cert.MixIdeal.τ).loc Cert.MixIdeal.main_v8_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8_0) = v0 c
          ∧ r.2.mem ((c.tc : Thread Cert.MixIdeal.nD Cert.MixIdeal.τ).loc Cert.MixIdeal.main_v8_1) = v1 c
          ∧ r.2.mem ((c.tc : Thread Cert.MixIdeal.nD Cert.MixIdeal.τ).loc Cert.MixIdeal.main_v8_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v33) = v0 c
          ∧ r.2.mem ((c.tc : Thread Cert.MixRefIdeal.nD Cert.MixRefIdeal.τ).loc Cert.MixRefIdeal.main_v34) = v1 c
          ∧ r.2.mem ((c.tc : Thread Cert.MixRefIdeal.nD Cert.MixRefIdeal.τ).loc Cert.MixRefIdeal.main_v37) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Attn_AttnIdeal : Prop :=
  True

def algebraic_AttnIdeal_AttnRefIdeal_pre_finite_attention [hAttnIdeal : Cert.AttnIdeal.Facts] [hAttnRefIdeal : Cert.AttnRefIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attention m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v31)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v31) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v139) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v77)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v77) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v159) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1))

def Claim : Prop :=
  ∃ (hKernel : Cert.Kernel.Facts) (hInproj : Cert.Inproj.Facts) (hInprojIdeal : Cert.InprojIdeal.Facts) (hInprojRefIdeal : Cert.InprojRefIdeal.Facts) (hMix : Cert.Mix.Facts) (hMixIdeal : Cert.MixIdeal.Facts) (hMixRefIdeal : Cert.MixRefIdeal.Facts) (hAttn : Cert.Attn.Facts) (hAttnIdeal : Cert.AttnIdeal.Facts) (hAttnRefIdeal : Cert.AttnRefIdeal.Facts) (hRet : Cert.Ret.Facts) (hRetIdeal : Cert.RetIdeal.Facts) (hRetRefIdeal : Cert.RetRefIdeal.Facts) (hPre_finite_attention : Cert.Pre_finite_attention.Facts),
    quiescent_Kernel (hKernel := hKernel)
    ∧ quiescent_Inproj (hInproj := hInproj)
    ∧ quiescent_InprojIdeal (hInprojIdeal := hInprojIdeal)
    ∧ quiescent_InprojRefIdeal (hInprojRefIdeal := hInprojRefIdeal)
    ∧ quiescent_Mix (hMix := hMix)
    ∧ quiescent_MixIdeal (hMixIdeal := hMixIdeal)
    ∧ quiescent_MixRefIdeal (hMixRefIdeal := hMixRefIdeal)
    ∧ quiescent_Attn (hAttn := hAttn)
    ∧ quiescent_AttnIdeal (hAttnIdeal := hAttnIdeal)
    ∧ quiescent_AttnIdeal_pre_finite_attention (hAttnIdeal := hAttnIdeal) (hPre_finite_attention := hPre_finite_attention)
    ∧ quiescent_AttnRefIdeal (hAttnRefIdeal := hAttnRefIdeal)
    ∧ quiescent_AttnRefIdeal_pre_finite_attention (hAttnRefIdeal := hAttnRefIdeal) (hPre_finite_attention := hPre_finite_attention)
    ∧ quiescent_Ret (hRet := hRet)
    ∧ quiescent_RetIdeal (hRetIdeal := hRetIdeal)
    ∧ quiescent_RetRefIdeal (hRetRefIdeal := hRetRefIdeal)
    ∧ preserves_Inproj_InprojIdeal
    ∧ algebraic_InprojIdeal_InprojRefIdeal (hInprojIdeal := hInprojIdeal) (hInprojRefIdeal := hInprojRefIdeal)
    ∧ preserves_Mix_MixIdeal
    ∧ algebraic_MixIdeal_MixRefIdeal (hMixIdeal := hMixIdeal) (hMixRefIdeal := hMixRefIdeal)
    ∧ preserves_Attn_AttnIdeal
    ∧ algebraic_AttnIdeal_AttnRefIdeal_pre_finite_attention (hAttnIdeal := hAttnIdeal) (hAttnRefIdeal := hAttnRefIdeal) (hPre_finite_attention := hPre_finite_attention)
    ∧ preserves_Ret_RetIdeal
    ∧ algebraic_RetIdeal_RetRefIdeal (hRetIdeal := hRetIdeal) (hRetRefIdeal := hRetRefIdeal)
-- ==== Pre_finite_attention.lean ====
abbrev S16384x5376 : Shape := ⟨2, ![16384, 5376]⟩
abbrev S128x5376 : Shape := ⟨2, ![128, 5376]⟩
abbrev S1x16 : Shape := ⟨2, ![1, 16]⟩
abbrev S_ : Shape := ⟨0, ![]⟩

class Facts : Prop where
  bitsLt_bf16_f32 : FTy.bits .bf16 < FTy.bits .f32
  bcast_S_S16384x5376 : S_.BroadcastsInDim S16384x5376 (![] : Fin 0 → Fin S16384x5376.rank)
  reducesTo_S16384x5376_S_d0_1 : S16384x5376.ReducesTo [0, 1] S_
  h_S_ : 0 < S_.numel
  bcast_S_S128x5376 : S_.BroadcastsInDim S128x5376 (![] : Fin 0 → Fin S128x5376.rank)
  reducesTo_S128x5376_S_d0_1 : S128x5376.ReducesTo [0, 1] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S16384x5376 .bf16) (main_arg1 : FVec F S128x5376 .bf16) (main_arg2 : FVec F S1x16 .f32) : IVec S_ 1 :=
  let main_v0 : FVec F S16384x5376 .f32 := (extf .f32 · bitsLt_bf16_f32) main_arg0
  let main_v1 : FVec F S16384x5376 .f32 := Host.absf main_v0
  let main_cst : FVec F S_ .f32 := constant S_ .f32 0x7F800000#32
  let main_v2 : FVec F S16384x5376 .f32 := broadcastInDim S16384x5376 ![] bcast_S_S16384x5376 main_cst
  let main_v3 : IVec S16384x5376 1 := cmpf .olt main_v1 main_v2
  let main_c : IVec S_ 1 := constantI S_ 1 1#1
  let main_v4 : IVec S_ 1 := (fun x v => Host.reduce IntOp.andi x v reducesTo_S16384x5376_S_d0_1 h_S_) main_v3 main_c
  let main_v5 : FVec F S128x5376 .f32 := (extf .f32 · bitsLt_bf16_f32) main_arg1
  let main_v6 : FVec F S128x5376 .f32 := Host.absf main_v5
  let main_cst_0 : FVec F S_ .f32 := constant S_ .f32 0x7F800000#32
  let main_v7 : FVec F S128x5376 .f32 := broadcastInDim S128x5376 ![] bcast_S_S128x5376 main_cst_0
  let main_v8 : IVec S128x5376 1 := cmpf .olt main_v6 main_v7
  let main_c_1 : IVec S_ 1 := constantI S_ 1 1#1
  let main_v9 : IVec S_ 1 := (fun x v => Host.reduce IntOp.andi x v reducesTo_S128x5376_S_d0_1 h_S_) main_v8 main_c_1
  let main_v10 : IVec S_ 1 := andi main_v4 main_v9
  let main_v11 : FVec F S1x16 .f32 := Host.absf main_arg2
  let main_cst_2 : FVec F S_ .f32 := constant S_ .f32 0x7F800000#32
  let main_v12 : FVec F S1x16 .f32 := broadcastInDim S1x16 ![] bcast_S_S1x16 main_cst_2
  let main_v13 : IVec S1x16 1 := cmpf .olt main_v11 main_v12
  let main_c_3 : IVec S_ 1 := constantI S_ 1 1#1
  let main_v14 : IVec S_ 1 := (fun x v => Host.reduce IntOp.andi x v reducesTo_S1x16_S_d0_1 h_S_) main_v13 main_c_3
  let main_v15 : IVec S_ 1 := andi main_v10 main_v14
  main_v15
-- ==== Kernel.lean ====
abbrev S16384x2048 : Shape := ⟨2, ![16384, 2048]⟩
abbrev S1x8x2x128x128 : Shape := ⟨5, ![1, 8, 2, 128, 128]⟩
abbrev S1x16384x2048 : Shape := ⟨3, ![1, 16384, 2048]⟩
abbrev S1x2048 : Shape := ⟨2, ![1, 2048]⟩
abbrev S8x2x128x128 : Shape := ⟨4, ![8, 2, 128, 128]⟩
abbrev S2048 : Shape := ⟨1, ![2048]⟩
abbrev S1024x2048 : Shape := ⟨2, ![1024, 2048]⟩
abbrev S512x2048 : Shape := ⟨2, ![512, 2048]⟩
abbrev S33792x128 : Shape := ⟨2, ![33792, 128]⟩
abbrev S512x1024 : Shape := ⟨2, ![512, 1024]⟩
abbrev S128x512 : Shape := ⟨2, ![128, 512]⟩
abbrev S512x128 : Shape := ⟨2, ![512, 128]⟩
abbrev S2x2x2x128x128 : Shape := ⟨5, ![2, 2, 2, 128, 128]⟩
abbrev S2x2x16x128 : Shape := ⟨4, ![2, 2, 16, 128]⟩
abbrev S2x16x128 : Shape := ⟨3, ![2, 16, 128]⟩
abbrev S128x128 : Shape := ⟨2, ![128, 128]⟩
abbrev S1x128 : Shape := ⟨2, ![1, 128]⟩
abbrev S1x1x128x128 : Shape := ⟨4, ![1, 1, 128, 128]⟩
abbrev S1x1x2x128x128 : Shape := ⟨5, ![1, 1, 2, 128, 128]⟩
abbrev S2x128x128 : Shape := ⟨3, ![2, 128, 128]⟩
abbrev S1x128x128 : Shape := ⟨3, ![1, 128, 128]⟩
abbrev S8x128 : Shape := ⟨2, ![8, 128]⟩
abbrev S128 : Shape := ⟨1, ![128]⟩
abbrev S1x2x16x128 : Shape := ⟨4, ![1, 2, 16, 128]⟩
abbrev S1x1x128 : Shape := ⟨3, ![1, 1, 128]⟩
abbrev S1x16x128 : Shape := ⟨3, ![1, 16, 128]⟩
abbrev S16x128 : Shape := ⟨2, ![16, 128]⟩
abbrev S72x128 : Shape := ⟨2, ![72, 128]⟩
abbrev S256x128 : Shape := ⟨2, ![256, 128]⟩
abbrev S512 : Shape := ⟨1, ![512]⟩
abbrev S512x1 : Shape := ⟨2, ![512, 1]⟩

abbrev nBuf : Space → Nat
  | .hbm => 19
  | .vmem => 23
  | .smem => 0
  | _ => 0

abbrev bufTy : (tb : Table) → Fin (tcTables nBuf tb) → BufTy
  | .hbm, ⟨0, _⟩ => ⟨S16384x2048, .bf16⟩
  | .hbm, ⟨1, _⟩ => ⟨S1x8x2x128x128, .f32⟩
  | .hbm, ⟨2, _⟩ => ⟨S16384x2048, .bf16⟩
  | .hbm, ⟨3, _⟩ => ⟨S16384x2048, .f32⟩
  | .hbm, ⟨4, _⟩ => ⟨S1x16384x2048, .f32⟩
  | .hbm, ⟨5, _⟩ => ⟨S1x16384x2048, .f32⟩
  | .hbm, ⟨6, _⟩ => ⟨S1x2048, .f32⟩
  | .hbm, ⟨7, _⟩ => ⟨S1x2048, .f32⟩
  | .hbm, ⟨8, _⟩ => ⟨S8x2x128x128, .f32⟩
  | .hbm, ⟨9, _⟩ => ⟨S8x2x128x128, .bf16⟩
  | .hbm, ⟨10, _⟩ => ⟨S16384x2048, .f32⟩
  | .hbm, ⟨11, _⟩ => ⟨S16384x2048, .bf16⟩
  | .hbm, ⟨12, _⟩ => ⟨S16384x2048, .f32⟩
  | .hbm, ⟨13, _⟩ => ⟨S16384x2048, .bf16⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S8x2x128x128, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S33792x128, .i32⟩
  | .local _ .vmem, ⟨13, _⟩ => ⟨S512x1024, .bf16⟩
  | .local _ .vmem, ⟨14, _⟩ => ⟨S128x512, .i32⟩
  | .local _ .vmem, ⟨15, _⟩ => ⟨S128x512, .f32⟩
  | .local _ .vmem, ⟨16, _⟩ => ⟨S512x128, .i32⟩
  | .local _ .vmem, ⟨17, _⟩ => ⟨S512x128, .f32⟩
  | .local _ .vmem, ⟨18, _⟩ => ⟨S2x2x2x128x128, .f32⟩
  | .local _ .vmem, ⟨19, _⟩ => ⟨S2x2x16x128, .f32⟩
  | .local _ .vmem, ⟨20, _⟩ => ⟨S2x2x16x128, .i32⟩
  | .local _ .vmem, ⟨21, _⟩ => ⟨S2x16x128, .f32⟩
  | .local _ .vmem, ⟨22, _⟩ => ⟨S2x16x128, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [BitOps F]

abbrev grid0 : Pipeline.Grid := ⟨2, ![33, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_6438 : BitVec 32 := 0#32
  let v16760 : BitVec 1 := Scalar.cmpi .sgt arg0 c0_i32_6438
  let v16761 : BitVec 32 := Scalar.extui v16760
  let c0_i32_6439 : BitVec 32 := 0#32
  let v16762 : BitVec 1 := Scalar.cmpi .ne v16761 c0_i32_6439
  v16762

@[reducible] def k0_t1_loop : Scf.Loop 32 :=
  let c0_i32_6506 : BitVec 32 := 0#32
  let c256_i32_6507 : BitVec 32 := 256#32
  let v16824 : BitVec 32 := Scalar.addi c0_i32_6506 c256_i32_6507
  let c1_i32_6508 : BitVec 32 := 1#32
  ⟨c0_i32_6506, v16824, c1_i32_6508⟩
def k0_off1 (k0_t1 : Fin k0_t1_loop.trips) : Fin 2 → Nat :=
  let c0_i32_6506 : BitVec 32 := 0#32
  let c1_i32_6508 : BitVec 32 := 1#32
  let arg22 : BitVec 32 := Scf.iv c0_i32_6506 c1_i32_6508 k0_t1
  let v16825 : Index := Scalar.indexCast arg22
  let c0_6510 : Index := 0#32
  ![v16825.toNat, 0]
def k0_off2 (k0_t1 : Fin k0_t1_loop.trips) : Fin 2 → Nat :=
  let c0_i32_6506 : BitVec 32 := 0#32
  let c1_i32_6508 : BitVec 32 := 1#32
  let arg22 : BitVec 32 := Scf.iv c0_i32_6506 c1_i32_6508 k0_t1
  let c256_i32_6530 : BitVec 32 := 256#32
  let v16885 : BitVec 32 := Scalar.addi arg22 c256_i32_6530
  let v16886 : Index := Scalar.indexCast v16885
  let c0_6531 : Index := 0#32
  ![v16886.toNat, 0]
def k0_off3 (k0_t1 : Fin k0_t1_loop.trips) : Fin 2 → Nat :=
  let c0_i32_6506 : BitVec 32 := 0#32
  let c1_i32_6508 : BitVec 32 := 1#32
  let arg22 : BitVec 32 := Scf.iv c0_i32_6506 c1_i32_6508 k0_t1
  let v16947 : Index := Scalar.indexCast arg22
  let c0_6551 : Index := 0#32
  ![v16947.toNat, 0]
def k0_mult1 : BitVec 32 :=
  let c0_i32_6440 : BitVec 32 := 0#32
  c0_i32_6440
def k0_mult2 : BitVec 32 :=
  let c0_i32_6441 : BitVec 32 := 0#32
  c0_i32_6441
def k0_mult3 : BitVec 32 :=
  let c128_i32_6455 : BitVec 32 := 128#32
  c128_i32_6455
def k0_mult4 : BitVec 32 :=
  let c128_i32_6469 : BitVec 32 := 128#32
  c128_i32_6469
def k0_mult5 : BitVec 32 :=
  let c0_i32_6470 : BitVec 32 := 0#32
  c0_i32_6470
def k0_mult6 : BitVec 32 :=
  let c128_i32_6484 : BitVec 32 := 128#32
  c128_i32_6484
def k0_mult7 (i : grid0.Coords) : BitVec 32 :=
  let arg1 : BitVec 32 := BitVec.ofNat 32 (i 1).val
  let c2_i32_8 : BitVec 32 := 2#32
  let v17 : BitVec 32 := Scalar.muli arg1 c2_i32_8
  let c0_i32_9 : BitVec 32 := 0#32
  let v18 : BitVec 32 := Scalar.addi v17 c0_i32_9
  let c4_i32_16 : BitVec 32 := 4#32
  let c0_i32_17 : BitVec 32 := 0#32
  let v36 : BitVec 1 := Scalar.cmpi .eq c4_i32_16 c0_i32_17
  let c1_i32_18 : BitVec 32 := 1#32
  let v37 : BitVec 32 := Scalar.select v36 c1_i32_18 c4_i32_16
  let v38 : BitVec 32 := Scalar.remsi v18 v37
  let c0_i32_20 : BitVec 32 := 0#32
  let v40 : BitVec 1 := Scalar.cmpi .slt v38 c0_i32_20
  let c0_i32_21 : BitVec 32 := 0#32
  let v41 : BitVec 1 := Scalar.cmpi .slt v37 c0_i32_21
  let v42 : BitVec 1 := Scalar.xori v40 v41
  let c0_i32_19 : BitVec 32 := 0#32
  let v39 : BitVec 1 := Scalar.cmpi .ne v38 c0_i32_19
  let v43 : BitVec 1 := Scalar.andi v42 v39
  let v44 : BitVec 32 := Scalar.addi v38 v37
  let v45 : BitVec 32 := Scalar.select v43 v44 v38
  let c128_i32 : BitVec 32 := 128#32
  let v46 : BitVec 32 := Scalar.muli v45 c128_i32
  v46
def k0_off4 (i : grid0.Coords) : Fin 5 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_22 : BitVec 32 := 0#32
  let c0_i32_23 : BitVec 32 := 0#32
  let c0_i32_24 : BitVec 32 := 0#32
  let c0_i32_25 : BitVec 32 := 0#32
  ![v12.toNat, 0, 0, 0, 0]
def k0_mult8 (i : grid0.Coords) : BitVec 32 :=
  let arg1 : BitVec 32 := BitVec.ofNat 32 (i 1).val
  let c2_i32_8 : BitVec 32 := 2#32
  let v17 : BitVec 32 := Scalar.muli arg1 c2_i32_8
  let c0_i32_9 : BitVec 32 := 0#32
  let v18 : BitVec 32 := Scalar.addi v17 c0_i32_9
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32 : BitVec 32 := 4#32
  let c0_i32_12 : BitVec 32 := 0#32
  let v25 : BitVec 1 := Scalar.cmpi .sgt c4_i32 c0_i32_12
  let v26 : BitVec 32 := Scalar.extui v25
  let c0_i32_13 : BitVec 32 := 0#32
  let v27 : BitVec 1 := Scalar.cmpi .slt c4_i32 c0_i32_13
  let v28 : BitVec 32 := Scalar.extui v27
  let v29 : BitVec 32 := Scalar.subi v26 v28
  let v30 : BitVec 1 := Scalar.cmpi .ne v24 v29
  let v31 : BitVec 32 := Scalar.remsi v18 c4_i32
  let c0_i32_14 : BitVec 32 := 0#32
  let v32 : BitVec 1 := Scalar.cmpi .ne v31 c0_i32_14
  let v33 : BitVec 1 := Scalar.andi v30 v32
  let v19 : BitVec 32 := Scalar.divsi v18 c4_i32
  let c1_i32_15 : BitVec 32 := 1#32
  let v34 : BitVec 32 := Scalar.subi v19 c1_i32_15
  let v35 : BitVec 32 := Scalar.select v33 v34 v19
  let c16_i32_3115 : BitVec 32 := 16#32
  let v8197 : BitVec 32 := Scalar.muli v35 c16_i32_3115
  v8197
def k0_off5 (i : grid0.Coords) (c0_i32_9 : BitVec 32) : Fin 2 → Nat :=
  let arg1 : BitVec 32 := BitVec.ofNat 32 (i 1).val
  let c2_i32_8 : BitVec 32 := 2#32
  let v17 : BitVec 32 := Scalar.muli arg1 c2_i32_8
  let v18 : BitVec 32 := Scalar.addi v17 c0_i32_9
  let c0_i32_10 : BitVec 32 := 0#32
  let v20 : BitVec 1 := Scalar.cmpi .sgt v18 c0_i32_10
  let v21 : BitVec 32 := Scalar.extui v20
  let c0_i32_11 : BitVec 32 := 0#32
  let v22 : BitVec 1 := Scalar.cmpi .slt v18 c0_i32_11
  let v23 : BitVec 32 := Scalar.extui v22
  let v24 : BitVec 32 := Scalar.subi v21 v23
  let c4_i32 : BitVec 32 := 4#32
  let c0_i32_12 : BitVec 32 := 0#32
  let v25 : BitVec 1 := Scalar.cmpi .sgt c4_i32 c0_i32_12
  let v26 : BitVec 32 := Scalar.extui v25
  let c0_i32_13 : BitVec 32 := 0#32
  let v27 : BitVec 1 := Scalar.cmpi .slt c4_i32 c0_i32_13
  let v28 : BitVec 32 := Scalar.extui v27
  let v29 : BitVec 32 := Scalar.subi v26 v28
  let v30 : BitVec 1 := Scalar.cmpi .ne v24 v29
  let v31 : BitVec 32 := Scalar.remsi v18 c4_i32
  let c0_i32_14 : BitVec 32 := 0#32
  let v32 : BitVec 1 := Scalar.cmpi .ne v31 c0_i32_14
  let v33 : BitVec 1 := Scalar.andi v30 v32
  let v19 : BitVec 32 := Scalar.divsi v18 c4_i32
  let c1_i32_15 : BitVec 32 := 1#32
  let v34 : BitVec 32 := Scalar.subi v19 c1_i32_15
  let v35 : BitVec 32 := Scalar.select v33 v34 v19
  let c16_i32_3115 : BitVec 32 := 16#32
  let v8197 : BitVec 32 := Scalar.muli v35 c16_i32_3115
  let v8198 : BitVec 32 := v8197
  let v8201 : Index := Scalar.indexCast v8198
  let c4_i32_16 : BitVec 32 := 4#32
  let c0_i32_17 : BitVec 32 := 0#32
  let v36 : BitVec 1 := Scalar.cmpi .eq c4_i32_16 c0_i32_17
  let c1_i32_18 : BitVec 32 := 1#32
  let v37 : BitVec 32 := Scalar.select v36 c1_i32_18 c4_i32_16
  let v38 : BitVec 32 := Scalar.remsi v18 v37
  let c0_i32_20 : BitVec 32 := 0#32
  let v40 : BitVec 1 := Scalar.cmpi .slt v38 c0_i32_20
  let c0_i32_21 : BitVec 32 := 0#32
  let v41 : BitVec 1 := Scalar.cmpi .slt v37 c0_i32_21
  let v42 : BitVec 1 := Scalar.xori v40 v41
  let c0_i32_19 : BitVec 32 := 0#32
  let v39 : BitVec 1 := Scalar.cmpi .ne v38 c0_i32_19
  let v43 : BitVec 1 := Scalar.andi v42 v39
  let v44 : BitVec 32 := Scalar.addi v38 v37
  let v45 : BitVec 32 := Scalar.select v43 v44 v38
  let c128_i32 : BitVec 32 := 128#32
  let v46 : BitVec 32 := Scalar.muli v45 c128_i32
  let v47 : BitVec 32 := v46
  let v8202 : Index := Scalar.indexCast v47
  ![v8201.toNat, v8202.toNat]
def k0_mult9 (i : grid0.Coords) : BitVec 32 :=
  let arg1 : BitVec 32 := BitVec.ofNat 32 (i 1).val
  let c2_i32_3123 : BitVec 32 := 2#32
  let v8222 : BitVec 32 := Scalar.muli arg1 c2_i32_3123
  let c1_i32_3124 : BitVec 32 := 1#32
  let v8223 : BitVec 32 := Scalar.addi v8222 c1_i32_3124
  let c4_i32_3132 : BitVec 32 := 4#32
  let c0_i32_3133 : BitVec 32 := 0#32
  let v8241 : BitVec 1 := Scalar.cmpi .eq c4_i32_3132 c0_i32_3133
  let c1_i32_3134 : BitVec 32 := 1#32
  let v8242 : BitVec 32 := Scalar.select v8241 c1_i32_3134 c4_i32_3132
  let v8243 : BitVec 32 := Scalar.remsi v8223 v8242
  let c0_i32_3136 : BitVec 32 := 0#32
  let v8245 : BitVec 1 := Scalar.cmpi .slt v8243 c0_i32_3136
  let c0_i32_3137 : BitVec 32 := 0#32
  let v8246 : BitVec 1 := Scalar.cmpi .slt v8242 c0_i32_3137
  let v8247 : BitVec 1 := Scalar.xori v8245 v8246
  let c0_i32_3135 : BitVec 32 := 0#32
  let v8244 : BitVec 1 := Scalar.cmpi .ne v8243 c0_i32_3135
  let v8248 : BitVec 1 := Scalar.andi v8247 v8244
  let v8249 : BitVec 32 := Scalar.addi v8243 v8242
  let v8250 : BitVec 32 := Scalar.select v8248 v8249 v8243
  let c128_i32_3138 : BitVec 32 := 128#32
  let v8251 : BitVec 32 := Scalar.muli v8250 c128_i32_3138
  v8251
def k0_off6 (i : grid0.Coords) : Fin 5 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c1_i32_3139 : BitVec 32 := 1#32
  let c0_i32_3140 : BitVec 32 := 0#32
  let c0_i32_3141 : BitVec 32 := 0#32
  let c0_i32_3142 : BitVec 32 := 0#32
  ![v12.toNat, 1, 0, 0, 0]
def k0_mult10 (i : grid0.Coords) : BitVec 32 :=
  let arg1 : BitVec 32 := BitVec.ofNat 32 (i 1).val
  let c2_i32_3123 : BitVec 32 := 2#32
  let v8222 : BitVec 32 := Scalar.muli arg1 c2_i32_3123
  let c1_i32_3124 : BitVec 32 := 1#32
  let v8223 : BitVec 32 := Scalar.addi v8222 c1_i32_3124
  let c0_i32_3126 : BitVec 32 := 0#32
  let v8225 : BitVec 1 := Scalar.cmpi .sgt v8223 c0_i32_3126
  let v8226 : BitVec 32 := Scalar.extui v8225
  let c0_i32_3127 : BitVec 32 := 0#32
  let v8227 : BitVec 1 := Scalar.cmpi .slt v8223 c0_i32_3127
  let v8228 : BitVec 32 := Scalar.extui v8227
  let v8229 : BitVec 32 := Scalar.subi v8226 v8228
  let c4_i32_3125 : BitVec 32 := 4#32
  let c0_i32_3128 : BitVec 32 := 0#32
  let v8230 : BitVec 1 := Scalar.cmpi .sgt c4_i32_3125 c0_i32_3128
  let v8231 : BitVec 32 := Scalar.extui v8230
  let c0_i32_3129 : BitVec 32 := 0#32
  let v8232 : BitVec 1 := Scalar.cmpi .slt c4_i32_3125 c0_i32_3129
  let v8233 : BitVec 32 := Scalar.extui v8232
  let v8234 : BitVec 32 := Scalar.subi v8231 v8233
  let v8235 : BitVec 1 := Scalar.cmpi .ne v8229 v8234
  let v8236 : BitVec 32 := Scalar.remsi v8223 c4_i32_3125
  let c0_i32_3130 : BitVec 32 := 0#32
  let v8237 : BitVec 1 := Scalar.cmpi .ne v8236 c0_i32_3130
  let v8238 : BitVec 1 := Scalar.andi v8235 v8237
  let v8224 : BitVec 32 := Scalar.divsi v8223 c4_i32_3125
  let c1_i32_3131 : BitVec 32 := 1#32
  let v8239 : BitVec 32 := Scalar.subi v8224 c1_i32_3131
  let v8240 : BitVec 32 := Scalar.select v8238 v8239 v8224
  let c16_i32_6271 : BitVec 32 := 16#32
  let v16418 : BitVec 32 := Scalar.muli v8240 c16_i32_6271
  v16418
def k0_mult11 (i : grid0.Coords) : BitVec 32 :=
  let arg1 : BitVec 32 := BitVec.ofNat 32 (i 1).val
  let c8_i32_6281 : BitVec 32 := 8#32
  let v16448 : BitVec 32 := Scalar.muli arg1 c8_i32_6281
  let c0_i32_6282 : BitVec 32 := 0#32
  let v16449 : BitVec 32 := Scalar.addi v16448 c0_i32_6282
  let c264_i32 : BitVec 32 := 264#32
  let v16450 : BitVec 32 := Scalar.muli v16449 c264_i32
  v16450
def k0_off7 (i : grid0.Coords) (c0_i32_6282 : BitVec 32) : Fin 2 → Nat :=
  let arg1 : BitVec 32 := BitVec.ofNat 32 (i 1).val
  let c8_i32_6281 : BitVec 32 := 8#32
  let v16448 : BitVec 32 := Scalar.muli arg1 c8_i32_6281
  let v16449 : BitVec 32 := Scalar.addi v16448 c0_i32_6282
  let c264_i32 : BitVec 32 := 264#32
  let v16450 : BitVec 32 := Scalar.muli v16449 c264_i32
  let v16451 : BitVec 32 := v16450
  let v16452 : Index := Scalar.indexCast v16451
  let c0_6283 : Index := 0#32
  ![v16452.toNat, 0]
def k0_mult12 (i : grid0.Coords) : BitVec 32 :=
  let arg1 : BitVec 32 := BitVec.ofNat 32 (i 1).val
  let c8_i32_6288 : BitVec 32 := 8#32
  let v16471 : BitVec 32 := Scalar.muli arg1 c8_i32_6288
  let c1_i32_6289 : BitVec 32 := 1#32
  let v16472 : BitVec 32 := Scalar.addi v16471 c1_i32_6289
  let c264_i32_6290 : BitVec 32 := 264#32
  let v16473 : BitVec 32 := Scalar.muli v16472 c264_i32_6290
  v16473
def k0_mult13 (i : grid0.Coords) : BitVec 32 :=
  let arg1 : BitVec 32 := BitVec.ofNat 32 (i 1).val
  let c8_i32_6295 : BitVec 32 := 8#32
  let v16492 : BitVec 32 := Scalar.muli arg1 c8_i32_6295
  let c2_i32_6296 : BitVec 32 := 2#32
  let v16493 : BitVec 32 := Scalar.addi v16492 c2_i32_6296
  let c264_i32_6297 : BitVec 32 := 264#32
  let v16494 : BitVec 32 := Scalar.muli v16493 c264_i32_6297
  v16494
def k0_mult14 (i : grid0.Coords) : BitVec 32 :=
  let arg1 : BitVec 32 := BitVec.ofNat 32 (i 1).val
  let c8_i32_6302 : BitVec 32 := 8#32
  let v16513 : BitVec 32 := Scalar.muli arg1 c8_i32_6302
  let c3_i32_6303 : BitVec 32 := 3#32
  let v16514 : BitVec 32 := Scalar.addi v16513 c3_i32_6303
  let c264_i32_6304 : BitVec 32 := 264#32
  let v16515 : BitVec 32 := Scalar.muli v16514 c264_i32_6304
  v16515
def k0_mult15 (i : grid0.Coords) : BitVec 32 :=
  let arg1 : BitVec 32 := BitVec.ofNat 32 (i 1).val
  let c8_i32_6309 : BitVec 32 := 8#32
  let v16534 : BitVec 32 := Scalar.muli arg1 c8_i32_6309
  let c4_i32_6310 : BitVec 32 := 4#32
  let v16535 : BitVec 32 := Scalar.addi v16534 c4_i32_6310
  let c264_i32_6311 : BitVec 32 := 264#32
  let v16536 : BitVec 32 := Scalar.muli v16535 c264_i32_6311
  v16536
def k0_mult16 (i : grid0.Coords) : BitVec 32 :=
  let arg1 : BitVec 32 := BitVec.ofNat 32 (i 1).val
  let c8_i32_6316 : BitVec 32 := 8#32
  let v16555 : BitVec 32 := Scalar.muli arg1 c8_i32_6316
  let c5_i32 : BitVec 32 := 5#32
  let v16556 : BitVec 32 := Scalar.addi v16555 c5_i32
  let c264_i32_6317 : BitVec 32 := 264#32
  let v16557 : BitVec 32 := Scalar.muli v16556 c264_i32_6317
  v16557
def k0_mult17 (i : grid0.Coords) : BitVec 32 :=
  let arg1 : BitVec 32 := BitVec.ofNat 32 (i 1).val
  let c8_i32_6322 : BitVec 32 := 8#32
  let v16576 : BitVec 32 := Scalar.muli arg1 c8_i32_6322
  let c6_i32 : BitVec 32 := 6#32
  let v16577 : BitVec 32 := Scalar.addi v16576 c6_i32
  let c264_i32_6323 : BitVec 32 := 264#32
  let v16578 : BitVec 32 := Scalar.muli v16577 c264_i32_6323
  v16578
def k0_mult18 (i : grid0.Coords) : BitVec 32 :=
  let arg1 : BitVec 32 := BitVec.ofNat 32 (i 1).val
  let c8_i32_6328 : BitVec 32 := 8#32
  let v16597 : BitVec 32 := Scalar.muli arg1 c8_i32_6328
  let c7_i32_6329 : BitVec 32 := 7#32
  let v16598 : BitVec 32 := Scalar.addi v16597 c7_i32_6329
  let c264_i32_6330 : BitVec 32 := 264#32
  let v16599 : BitVec 32 := Scalar.muli v16598 c264_i32_6330
  v16599
def k0_mult19 (i : grid0.Coords) : BitVec 32 :=
  let arg1 : BitVec 32 := BitVec.ofNat 32 (i 1).val
  let c1_i32_6344 : BitVec 32 := 1#32
  let v16626 : BitVec 32 := Scalar.addi arg1 c1_i32_6344
  let c15_i32_6345 : BitVec 32 := 15#32
  let v16627 : BitVec 32 := Scalar.minsi v16626 c15_i32_6345
  let c2_i32_6346 : BitVec 32 := 2#32
  let v16628 : BitVec 32 := Scalar.muli v16627 c2_i32_6346
  let c0_i32_6347 : BitVec 32 := 0#32
  let v16629 : BitVec 32 := Scalar.addi v16628 c0_i32_6347
  let c4_i32_6356 : BitVec 32 := 4#32
  let c0_i32_6357 : BitVec 32 := 0#32
  let v16648 : BitVec 1 := Scalar.cmpi .eq c4_i32_6356 c0_i32_6357
  let c1_i32_6358 : BitVec 32 := 1#32
  let v16649 : BitVec 32 := Scalar.select v16648 c1_i32_6358 c4_i32_6356
  let v16650 : BitVec 32 := Scalar.remsi v16629 v16649
  let c0_i32_6360 : BitVec 32 := 0#32
  let v16652 : BitVec 1 := Scalar.cmpi .slt v16650 c0_i32_6360
  let c0_i32_6361 : BitVec 32 := 0#32
  let v16653 : BitVec 1 := Scalar.cmpi .slt v16649 c0_i32_6361
  let v16654 : BitVec 1 := Scalar.xori v16652 v16653
  let c0_i32_6359 : BitVec 32 := 0#32
  let v16651 : BitVec 1 := Scalar.cmpi .ne v16650 c0_i32_6359
  let v16655 : BitVec 1 := Scalar.andi v16654 v16651
  let v16656 : BitVec 32 := Scalar.addi v16650 v16649
  let v16657 : BitVec 32 := Scalar.select v16655 v16656 v16650
  let c128_i32_6362 : BitVec 32 := 128#32
  let v16658 : BitVec 32 := Scalar.muli v16657 c128_i32_6362
  v16658
def k0_mult20 (i : grid0.Coords) : BitVec 32 :=
  let arg1 : BitVec 32 := BitVec.ofNat 32 (i 1).val
  let c1_i32_6344 : BitVec 32 := 1#32
  let v16626 : BitVec 32 := Scalar.addi arg1 c1_i32_6344
  let c15_i32_6345 : BitVec 32 := 15#32
  let v16627 : BitVec 32 := Scalar.minsi v16626 c15_i32_6345
  let c2_i32_6346 : BitVec 32 := 2#32
  let v16628 : BitVec 32 := Scalar.muli v16627 c2_i32_6346
  let c0_i32_6347 : BitVec 32 := 0#32
  let v16629 : BitVec 32 := Scalar.addi v16628 c0_i32_6347
  let c0_i32_6350 : BitVec 32 := 0#32
  let v16632 : BitVec 1 := Scalar.cmpi .sgt v16629 c0_i32_6350
  let v16633 : BitVec 32 := Scalar.extui v16632
  let c0_i32_6351 : BitVec 32 := 0#32
  let v16634 : BitVec 1 := Scalar.cmpi .slt v16629 c0_i32_6351
  let v16635 : BitVec 32 := Scalar.extui v16634
  let v16636 : BitVec 32 := Scalar.subi v16633 v16635
  let c4_i32_6349 : BitVec 32 := 4#32
  let c0_i32_6352 : BitVec 32 := 0#32
  let v16637 : BitVec 1 := Scalar.cmpi .sgt c4_i32_6349 c0_i32_6352
  let v16638 : BitVec 32 := Scalar.extui v16637
  let c0_i32_6353 : BitVec 32 := 0#32
  let v16639 : BitVec 1 := Scalar.cmpi .slt c4_i32_6349 c0_i32_6353
  let v16640 : BitVec 32 := Scalar.extui v16639
  let v16641 : BitVec 32 := Scalar.subi v16638 v16640
  let v16642 : BitVec 1 := Scalar.cmpi .ne v16636 v16641
  let v16643 : BitVec 32 := Scalar.remsi v16629 c4_i32_6349
  let c0_i32_6354 : BitVec 32 := 0#32
  let v16644 : BitVec 1 := Scalar.cmpi .ne v16643 c0_i32_6354
  let v16645 : BitVec 1 := Scalar.andi v16642 v16644
  let v16631 : BitVec 32 := Scalar.divsi v16629 c4_i32_6349
  let c1_i32_6355 : BitVec 32 := 1#32
  let v16646 : BitVec 32 := Scalar.subi v16631 c1_i32_6355
  let v16647 : BitVec 32 := Scalar.select v16645 v16646 v16631
  let c256_i32 : BitVec 32 := 256#32
  let v16660 : BitVec 32 := Scalar.muli v16647 c256_i32
  let c0_i32_6363 : BitVec 32 := 0#32
  let v16661 : BitVec 32 := Scalar.addi v16660 c0_i32_6363
  v16661
def k0_off8 (i : grid0.Coords) (c0_i32_6347 : BitVec 32) (c0_i32_6363 : BitVec 32) : Fin 2 → Nat :=
  let arg1 : BitVec 32 := BitVec.ofNat 32 (i 1).val
  let c1_i32_6344 : BitVec 32 := 1#32
  let v16626 : BitVec 32 := Scalar.addi arg1 c1_i32_6344
  let c15_i32_6345 : BitVec 32 := 15#32
  let v16627 : BitVec 32 := Scalar.minsi v16626 c15_i32_6345
  let c2_i32_6346 : BitVec 32 := 2#32
  let v16628 : BitVec 32 := Scalar.muli v16627 c2_i32_6346
  let v16629 : BitVec 32 := Scalar.addi v16628 c0_i32_6347
  let c4_i32_6356 : BitVec 32 := 4#32
  let c0_i32_6357 : BitVec 32 := 0#32
  let v16648 : BitVec 1 := Scalar.cmpi .eq c4_i32_6356 c0_i32_6357
  let c1_i32_6358 : BitVec 32 := 1#32
  let v16649 : BitVec 32 := Scalar.select v16648 c1_i32_6358 c4_i32_6356
  let v16650 : BitVec 32 := Scalar.remsi v16629 v16649
  let c0_i32_6360 : BitVec 32 := 0#32
  let v16652 : BitVec 1 := Scalar.cmpi .slt v16650 c0_i32_6360
  let c0_i32_6361 : BitVec 32 := 0#32
  let v16653 : BitVec 1 := Scalar.cmpi .slt v16649 c0_i32_6361
  let v16654 : BitVec 1 := Scalar.xori v16652 v16653
  let c0_i32_6359 : BitVec 32 := 0#32
  let v16651 : BitVec 1 := Scalar.cmpi .ne v16650 c0_i32_6359
  let v16655 : BitVec 1 := Scalar.andi v16654 v16651
  let v16656 : BitVec 32 := Scalar.addi v16650 v16649
  let v16657 : BitVec 32 := Scalar.select v16655 v16656 v16650
  let c128_i32_6362 : BitVec 32 := 128#32
  let v16658 : BitVec 32 := Scalar.muli v16657 c128_i32_6362
  let v16659 : BitVec 32 := v16658
  let v16663 : Index := Scalar.indexCast v16659
  let c0_i32_6350 : BitVec 32 := 0#32
  let v16632 : BitVec 1 := Scalar.cmpi .sgt v16629 c0_i32_6350
  let v16633 : BitVec 32 := Scalar.extui v16632
  let c0_i32_6351 : BitVec 32 := 0#32
  let v16634 : BitVec 1 := Scalar.cmpi .slt v16629 c0_i32_6351
  let v16635 : BitVec 32 := Scalar.extui v16634
  let v16636 : BitVec 32 := Scalar.subi v16633 v16635
  let c4_i32_6349 : BitVec 32 := 4#32
  let c0_i32_6352 : BitVec 32 := 0#32
  let v16637 : BitVec 1 := Scalar.cmpi .sgt c4_i32_6349 c0_i32_6352
  let v16638 : BitVec 32 := Scalar.extui v16637
  let c0_i32_6353 : BitVec 32 := 0#32
  let v16639 : BitVec 1 := Scalar.cmpi .slt c4_i32_6349 c0_i32_6353
  let v16640 : BitVec 32 := Scalar.extui v16639
  let v16641 : BitVec 32 := Scalar.subi v16638 v16640
  let v16642 : BitVec 1 := Scalar.cmpi .ne v16636 v16641
  let v16643 : BitVec 32 := Scalar.remsi v16629 c4_i32_6349
  let c0_i32_6354 : BitVec 32 := 0#32
  let v16644 : BitVec 1 := Scalar.cmpi .ne v16643 c0_i32_6354
  let v16645 : BitVec 1 := Scalar.andi v16642 v16644
  let v16631 : BitVec 32 := Scalar.divsi v16629 c4_i32_6349
  let c1_i32_6355 : BitVec 32 := 1#32
  let v16646 : BitVec 32 := Scalar.subi v16631 c1_i32_6355
  let v16647 : BitVec 32 := Scalar.select v16645 v16646 v16631
  let c256_i32 : BitVec 32 := 256#32
  let v16660 : BitVec 32 := Scalar.muli v16647 c256_i32
  let v16661 : BitVec 32 := Scalar.addi v16660 c0_i32_6363
  let v16662 : BitVec 32 := v16661
  let v16664 : Index := Scalar.indexCast v16662
  ![v16663.toNat, v16664.toNat]
def k0_off9 (i : grid0.Coords) (c0_i32_6347 : BitVec 32) : Fin 4 → Nat :=
  let arg1 : BitVec 32 := BitVec.ofNat 32 (i 1).val
  let c1_i32_6344 : BitVec 32 := 1#32
  let v16626 : BitVec 32 := Scalar.addi arg1 c1_i32_6344
  let c15_i32_6345 : BitVec 32 := 15#32
  let v16627 : BitVec 32 := Scalar.minsi v16626 c15_i32_6345
  let c2_i32_6346 : BitVec 32 := 2#32
  let v16628 : BitVec 32 := Scalar.muli v16627 c2_i32_6346
  let v16629 : BitVec 32 := Scalar.addi v16628 c0_i32_6347
  let c0_i32_6350 : BitVec 32 := 0#32
  let v16632 : BitVec 1 := Scalar.cmpi .sgt v16629 c0_i32_6350
  let v16633 : BitVec 32 := Scalar.extui v16632
  let c0_i32_6351 : BitVec 32 := 0#32
  let v16634 : BitVec 1 := Scalar.cmpi .slt v16629 c0_i32_6351
  let v16635 : BitVec 32 := Scalar.extui v16634
  let v16636 : BitVec 32 := Scalar.subi v16633 v16635
  let c4_i32_6349 : BitVec 32 := 4#32
  let c0_i32_6352 : BitVec 32 := 0#32
  let v16637 : BitVec 1 := Scalar.cmpi .sgt c4_i32_6349 c0_i32_6352
  let v16638 : BitVec 32 := Scalar.extui v16637
  let c0_i32_6353 : BitVec 32 := 0#32
  let v16639 : BitVec 1 := Scalar.cmpi .slt c4_i32_6349 c0_i32_6353
  let v16640 : BitVec 32 := Scalar.extui v16639
  let v16641 : BitVec 32 := Scalar.subi v16638 v16640
  let v16642 : BitVec 1 := Scalar.cmpi .ne v16636 v16641
  let v16643 : BitVec 32 := Scalar.remsi v16629 c4_i32_6349
  let c0_i32_6354 : BitVec 32 := 0#32
  let v16644 : BitVec 1 := Scalar.cmpi .ne v16643 c0_i32_6354
  let v16645 : BitVec 1 := Scalar.andi v16642 v16644
  let v16631 : BitVec 32 := Scalar.divsi v16629 c4_i32_6349
  let c1_i32_6355 : BitVec 32 := 1#32
  let v16646 : BitVec 32 := Scalar.subi v16631 c1_i32_6355
  let v16647 : BitVec 32 := Scalar.select v16645 v16646 v16631
  let v16666 : Index := Scalar.indexCast v16647
  let c0_6364 : Index := 0#32
  let c0_6365 : Index := 0#32
  let c0_6366 : Index := 0#32
  ![v16666.toNat, 0, 0, 0]
def k0_off10 (i : grid0.Coords) : Fin 5 → Nat :=
  let c1_i32_6348 : BitVec 32 := 1#32
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v16630 : BitVec 32 := Scalar.subi c1_i32_6348 v12
  let c0_i32_6368 : BitVec 32 := 0#32
  let c0_i32_6369 : BitVec 32 := 0#32
  let c0_i32_6370 : BitVec 32 := 0#32
  let c0_i32_6371 : BitVec 32 := 0#32
  ![v16630.toNat, 0, 0, 0, 0]
def k0_mult21 (i : grid0.Coords) : BitVec 32 :=
  let arg1 : BitVec 32 := BitVec.ofNat 32 (i 1).val
  let c1_i32_6344 : BitVec 32 := 1#32
  let v16626 : BitVec 32 := Scalar.addi arg1 c1_i32_6344
  let c15_i32_6345 : BitVec 32 := 15#32
  let v16627 : BitVec 32 := Scalar.minsi v16626 c15_i32_6345
  let c2_i32_6346 : BitVec 32 := 2#32
  let v16628 : BitVec 32 := Scalar.muli v16627 c2_i32_6346
  let c0_i32_6347 : BitVec 32 := 0#32
  let v16629 : BitVec 32 := Scalar.addi v16628 c0_i32_6347
  let c0_i32_6350 : BitVec 32 := 0#32
  let v16632 : BitVec 1 := Scalar.cmpi .sgt v16629 c0_i32_6350
  let v16633 : BitVec 32 := Scalar.extui v16632
  let c0_i32_6351 : BitVec 32 := 0#32
  let v16634 : BitVec 1 := Scalar.cmpi .slt v16629 c0_i32_6351
  let v16635 : BitVec 32 := Scalar.extui v16634
  let v16636 : BitVec 32 := Scalar.subi v16633 v16635
  let c4_i32_6349 : BitVec 32 := 4#32
  let c0_i32_6352 : BitVec 32 := 0#32
  let v16637 : BitVec 1 := Scalar.cmpi .sgt c4_i32_6349 c0_i32_6352
  let v16638 : BitVec 32 := Scalar.extui v16637
  let c0_i32_6353 : BitVec 32 := 0#32
  let v16639 : BitVec 1 := Scalar.cmpi .slt c4_i32_6349 c0_i32_6353
  let v16640 : BitVec 32 := Scalar.extui v16639
  let v16641 : BitVec 32 := Scalar.subi v16638 v16640
  let v16642 : BitVec 1 := Scalar.cmpi .ne v16636 v16641
  let v16643 : BitVec 32 := Scalar.remsi v16629 c4_i32_6349
  let c0_i32_6354 : BitVec 32 := 0#32
  let v16644 : BitVec 1 := Scalar.cmpi .ne v16643 c0_i32_6354
  let v16645 : BitVec 1 := Scalar.andi v16642 v16644
  let v16631 : BitVec 32 := Scalar.divsi v16629 c4_i32_6349
  let c1_i32_6355 : BitVec 32 := 1#32
  let v16646 : BitVec 32 := Scalar.subi v16631 c1_i32_6355
  let v16647 : BitVec 32 := Scalar.select v16645 v16646 v16631
  let c256_i32_6375 : BitVec 32 := 256#32
  let v16675 : BitVec 32 := Scalar.muli v16647 c256_i32_6375
  let c128_i32_6376 : BitVec 32 := 128#32
  let v16676 : BitVec 32 := Scalar.addi v16675 c128_i32_6376
  v16676
def k0_off11 (i : grid0.Coords) (c0_i32_6347 : BitVec 32) : Fin 4 → Nat :=
  let arg1 : BitVec 32 := BitVec.ofNat 32 (i 1).val
  let c1_i32_6344 : BitVec 32 := 1#32
  let v16626 : BitVec 32 := Scalar.addi arg1 c1_i32_6344
  let c15_i32_6345 : BitVec 32 := 15#32
  let v16627 : BitVec 32 := Scalar.minsi v16626 c15_i32_6345
  let c2_i32_6346 : BitVec 32 := 2#32
  let v16628 : BitVec 32 := Scalar.muli v16627 c2_i32_6346
  let v16629 : BitVec 32 := Scalar.addi v16628 c0_i32_6347
  let c0_i32_6350 : BitVec 32 := 0#32
  let v16632 : BitVec 1 := Scalar.cmpi .sgt v16629 c0_i32_6350
  let v16633 : BitVec 32 := Scalar.extui v16632
  let c0_i32_6351 : BitVec 32 := 0#32
  let v16634 : BitVec 1 := Scalar.cmpi .slt v16629 c0_i32_6351
  let v16635 : BitVec 32 := Scalar.extui v16634
  let v16636 : BitVec 32 := Scalar.subi v16633 v16635
  let c4_i32_6349 : BitVec 32 := 4#32
  let c0_i32_6352 : BitVec 32 := 0#32
  let v16637 : BitVec 1 := Scalar.cmpi .sgt c4_i32_6349 c0_i32_6352
  let v16638 : BitVec 32 := Scalar.extui v16637
  let c0_i32_6353 : BitVec 32 := 0#32
  let v16639 : BitVec 1 := Scalar.cmpi .slt c4_i32_6349 c0_i32_6353
  let v16640 : BitVec 32 := Scalar.extui v16639
  let v16641 : BitVec 32 := Scalar.subi v16638 v16640
  let v16642 : BitVec 1 := Scalar.cmpi .ne v16636 v16641
  let v16643 : BitVec 32 := Scalar.remsi v16629 c4_i32_6349
  let c0_i32_6354 : BitVec 32 := 0#32
  let v16644 : BitVec 1 := Scalar.cmpi .ne v16643 c0_i32_6354
  let v16645 : BitVec 1 := Scalar.andi v16642 v16644
  let v16631 : BitVec 32 := Scalar.divsi v16629 c4_i32_6349
  let c1_i32_6355 : BitVec 32 := 1#32
  let v16646 : BitVec 32 := Scalar.subi v16631 c1_i32_6355
  let v16647 : BitVec 32 := Scalar.select v16645 v16646 v16631
  let v16681 : Index := Scalar.indexCast v16647
  let c1_6377 : Index := 1#32
  let c0_6378 : Index := 0#32
  let c0_6379 : Index := 0#32
  ![v16681.toNat, 1, 0, 0]
def k0_mult22 (i : grid0.Coords) : BitVec 32 :=
  let arg1 : BitVec 32 := BitVec.ofNat 32 (i 1).val
  let c1_i32_6344 : BitVec 32 := 1#32
  let v16626 : BitVec 32 := Scalar.addi arg1 c1_i32_6344
  let c15_i32_6345 : BitVec 32 := 15#32
  let v16627 : BitVec 32 := Scalar.minsi v16626 c15_i32_6345
  let c2_i32_6388 : BitVec 32 := 2#32
  let v16690 : BitVec 32 := Scalar.muli v16627 c2_i32_6388
  let c1_i32_6389 : BitVec 32 := 1#32
  let v16691 : BitVec 32 := Scalar.addi v16690 c1_i32_6389
  let c4_i32_6398 : BitVec 32 := 4#32
  let c0_i32_6399 : BitVec 32 := 0#32
  let v16710 : BitVec 1 := Scalar.cmpi .eq c4_i32_6398 c0_i32_6399
  let c1_i32_6400 : BitVec 32 := 1#32
  let v16711 : BitVec 32 := Scalar.select v16710 c1_i32_6400 c4_i32_6398
  let v16712 : BitVec 32 := Scalar.remsi v16691 v16711
  let c0_i32_6402 : BitVec 32 := 0#32
  let v16714 : BitVec 1 := Scalar.cmpi .slt v16712 c0_i32_6402
  let c0_i32_6403 : BitVec 32 := 0#32
  let v16715 : BitVec 1 := Scalar.cmpi .slt v16711 c0_i32_6403
  let v16716 : BitVec 1 := Scalar.xori v16714 v16715
  let c0_i32_6401 : BitVec 32 := 0#32
  let v16713 : BitVec 1 := Scalar.cmpi .ne v16712 c0_i32_6401
  let v16717 : BitVec 1 := Scalar.andi v16716 v16713
  let v16718 : BitVec 32 := Scalar.addi v16712 v16711
  let v16719 : BitVec 32 := Scalar.select v16717 v16718 v16712
  let c128_i32_6404 : BitVec 32 := 128#32
  let v16720 : BitVec 32 := Scalar.muli v16719 c128_i32_6404
  v16720
def k0_mult23 (i : grid0.Coords) : BitVec 32 :=
  let arg1 : BitVec 32 := BitVec.ofNat 32 (i 1).val
  let c1_i32_6344 : BitVec 32 := 1#32
  let v16626 : BitVec 32 := Scalar.addi arg1 c1_i32_6344
  let c15_i32_6345 : BitVec 32 := 15#32
  let v16627 : BitVec 32 := Scalar.minsi v16626 c15_i32_6345
  let c2_i32_6388 : BitVec 32 := 2#32
  let v16690 : BitVec 32 := Scalar.muli v16627 c2_i32_6388
  let c1_i32_6389 : BitVec 32 := 1#32
  let v16691 : BitVec 32 := Scalar.addi v16690 c1_i32_6389
  let c0_i32_6392 : BitVec 32 := 0#32
  let v16694 : BitVec 1 := Scalar.cmpi .sgt v16691 c0_i32_6392
  let v16695 : BitVec 32 := Scalar.extui v16694
  let c0_i32_6393 : BitVec 32 := 0#32
  let v16696 : BitVec 1 := Scalar.cmpi .slt v16691 c0_i32_6393
  let v16697 : BitVec 32 := Scalar.extui v16696
  let v16698 : BitVec 32 := Scalar.subi v16695 v16697
  let c4_i32_6391 : BitVec 32 := 4#32
  let c0_i32_6394 : BitVec 32 := 0#32
  let v16699 : BitVec 1 := Scalar.cmpi .sgt c4_i32_6391 c0_i32_6394
  let v16700 : BitVec 32 := Scalar.extui v16699
  let c0_i32_6395 : BitVec 32 := 0#32
  let v16701 : BitVec 1 := Scalar.cmpi .slt c4_i32_6391 c0_i32_6395
  let v16702 : BitVec 32 := Scalar.extui v16701
  let v16703 : BitVec 32 := Scalar.subi v16700 v16702
  let v16704 : BitVec 1 := Scalar.cmpi .ne v16698 v16703
  let v16705 : BitVec 32 := Scalar.remsi v16691 c4_i32_6391
  let c0_i32_6396 : BitVec 32 := 0#32
  let v16706 : BitVec 1 := Scalar.cmpi .ne v16705 c0_i32_6396
  let v16707 : BitVec 1 := Scalar.andi v16704 v16706
  let v16693 : BitVec 32 := Scalar.divsi v16691 c4_i32_6391
  let c1_i32_6397 : BitVec 32 := 1#32
  let v16708 : BitVec 32 := Scalar.subi v16693 c1_i32_6397
  let v16709 : BitVec 32 := Scalar.select v16707 v16708 v16693
  let c256_i32_6405 : BitVec 32 := 256#32
  let v16722 : BitVec 32 := Scalar.muli v16709 c256_i32_6405
  let c0_i32_6406 : BitVec 32 := 0#32
  let v16723 : BitVec 32 := Scalar.addi v16722 c0_i32_6406
  v16723
def k0_off12 (i : grid0.Coords) : Fin 5 → Nat :=
  let c1_i32_6390 : BitVec 32 := 1#32
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v16692 : BitVec 32 := Scalar.subi c1_i32_6390 v12
  let c1_i32_6411 : BitVec 32 := 1#32
  let c0_i32_6412 : BitVec 32 := 0#32
  let c0_i32_6413 : BitVec 32 := 0#32
  let c0_i32_6414 : BitVec 32 := 0#32
  ![v16692.toNat, 1, 0, 0, 0]
def k0_mult24 (i : grid0.Coords) : BitVec 32 :=
  let arg1 : BitVec 32 := BitVec.ofNat 32 (i 1).val
  let c1_i32_6344 : BitVec 32 := 1#32
  let v16626 : BitVec 32 := Scalar.addi arg1 c1_i32_6344
  let c15_i32_6345 : BitVec 32 := 15#32
  let v16627 : BitVec 32 := Scalar.minsi v16626 c15_i32_6345
  let c2_i32_6388 : BitVec 32 := 2#32
  let v16690 : BitVec 32 := Scalar.muli v16627 c2_i32_6388
  let c1_i32_6389 : BitVec 32 := 1#32
  let v16691 : BitVec 32 := Scalar.addi v16690 c1_i32_6389
  let c0_i32_6392 : BitVec 32 := 0#32
  let v16694 : BitVec 1 := Scalar.cmpi .sgt v16691 c0_i32_6392
  let v16695 : BitVec 32 := Scalar.extui v16694
  let c0_i32_6393 : BitVec 32 := 0#32
  let v16696 : BitVec 1 := Scalar.cmpi .slt v16691 c0_i32_6393
  let v16697 : BitVec 32 := Scalar.extui v16696
  let v16698 : BitVec 32 := Scalar.subi v16695 v16697
  let c4_i32_6391 : BitVec 32 := 4#32
  let c0_i32_6394 : BitVec 32 := 0#32
  let v16699 : BitVec 1 := Scalar.cmpi .sgt c4_i32_6391 c0_i32_6394
  let v16700 : BitVec 32 := Scalar.extui v16699
  let c0_i32_6395 : BitVec 32 := 0#32
  let v16701 : BitVec 1 := Scalar.cmpi .slt c4_i32_6391 c0_i32_6395
  let v16702 : BitVec 32 := Scalar.extui v16701
  let v16703 : BitVec 32 := Scalar.subi v16700 v16702
  let v16704 : BitVec 1 := Scalar.cmpi .ne v16698 v16703
  let v16705 : BitVec 32 := Scalar.remsi v16691 c4_i32_6391
  let c0_i32_6396 : BitVec 32 := 0#32
  let v16706 : BitVec 1 := Scalar.cmpi .ne v16705 c0_i32_6396
  let v16707 : BitVec 1 := Scalar.andi v16704 v16706
  let v16693 : BitVec 32 := Scalar.divsi v16691 c4_i32_6391
  let c1_i32_6397 : BitVec 32 := 1#32
  let v16708 : BitVec 32 := Scalar.subi v16693 c1_i32_6397
  let v16709 : BitVec 32 := Scalar.select v16707 v16708 v16693
  let c256_i32_6418 : BitVec 32 := 256#32
  let v16737 : BitVec 32 := Scalar.muli v16709 c256_i32_6418
  let c128_i32_6419 : BitVec 32 := 128#32
  let v16738 : BitVec 32 := Scalar.addi v16737 c128_i32_6419
  v16738
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x2x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Inproj.lean ====
abbrev S4x4096x2048 : Shape := ⟨3, ![4, 4096, 2048]⟩
abbrev S2048 : Shape := ⟨1, ![2048]⟩
abbrev S1x2048x5376 : Shape := ⟨3, ![1, 2048, 5376]⟩
abbrev S16384x2048 : Shape := ⟨2, ![16384, 2048]⟩
abbrev S1x2048x1024 : Shape := ⟨3, ![1, 2048, 1024]⟩
abbrev S2048x1024 : Shape := ⟨2, ![2048, 1024]⟩
abbrev S1x2048x4096 : Shape := ⟨3, ![1, 2048, 4096]⟩
abbrev S2048x4096 : Shape := ⟨2, ![2048, 4096]⟩
abbrev S1x2048x256 : Shape := ⟨3, ![1, 2048, 256]⟩
abbrev S2048x256 : Shape := ⟨2, ![2048, 256]⟩
abbrev S2048x5376 : Shape := ⟨2, ![2048, 5376]⟩
abbrev S1x2048 : Shape := ⟨2, ![1, 2048]⟩
abbrev S16384x5376 : Shape := ⟨2, ![16384, 5376]⟩
abbrev S512x2048 : Shape := ⟨2, ![512, 2048]⟩
abbrev S512x5376 : Shape := ⟨2, ![512, 5376]⟩
abbrev S512 : Shape := ⟨1, ![512]⟩
abbrev S512x1 : Shape := ⟨2, ![512, 1]⟩
abbrev S2048x768 : Shape := ⟨2, ![2048, 768]⟩
abbrev S512x768 : Shape := ⟨2, ![512, 768]⟩

abbrev nBuf : Space → Nat
  | .hbm => 17
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S1x2048x5376, .f32⟩
  | .hbm, ⟨4, _⟩ => ⟨S16384x2048, .f32⟩
  | .hbm, ⟨5, _⟩ => ⟨S1x2048x1024, .f32⟩
  | .hbm, ⟨6, _⟩ => ⟨S2048x1024, .f32⟩
  | .hbm, ⟨7, _⟩ => ⟨S1x2048x4096, .f32⟩
  | .hbm, ⟨8, _⟩ => ⟨S2048x4096, .f32⟩
  | .hbm, ⟨9, _⟩ => ⟨S1x2048x256, .f32⟩
  | .hbm, ⟨10, _⟩ => ⟨S2048x256, .f32⟩
  | .hbm, ⟨11, _⟩ => ⟨S2048x5376, .f32⟩
  | .hbm, ⟨12, _⟩ => ⟨S2048x5376, .bf16⟩
  | .hbm, ⟨13, _⟩ => ⟨S1x2048, .f32⟩
  | .hbm, ⟨14, _⟩ => ⟨S1x2048, .f32⟩
  | .hbm, ⟨15, _⟩ => ⟨S16384x2048, .f32⟩
  | .hbm, ⟨16, _⟩ => ⟨S16384x5376, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x5376, .bf16⟩
  | .local _ .vmem, ⟨5, _⟩ => ⟨S512x2048, .f32⟩
  | .local _ .vmem, ⟨6, _⟩ => ⟨S512x2048, .f32⟩
  | .local _ .vmem, ⟨7, _⟩ => ⟨S512x5376, .bf16⟩
  | .local _ .vmem, ⟨8, _⟩ => ⟨S512x5376, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x5376 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5376 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InprojRefIdeal.lean ====
abbrev S4x4096x2048 : Shape := ⟨3, ![4, 4096, 2048]⟩
abbrev S2048 : Shape := ⟨1, ![2048]⟩
abbrev S1x2048x5376 : Shape := ⟨3, ![1, 2048, 5376]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x5376 : Shape := ⟨2, ![2048, 5376]⟩
abbrev S4x4096x5376 : Shape := ⟨3, ![4, 4096, 5376]⟩
abbrev S4x4096x1024 : Shape := ⟨3, ![4, 4096, 1024]⟩
abbrev S4x4096x128 : Shape := ⟨3, ![4, 4096, 128]⟩
abbrev S4x4096x4096 : Shape := ⟨3, ![4, 4096, 4096]⟩
abbrev S16384x2048 : Shape := ⟨2, ![16384, 2048]⟩
abbrev S16384x5376 : Shape := ⟨2, ![16384, 5376]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S1x2048x5376, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S1x1x2048, .f32⟩
  | .hbm, ⟨31, _⟩ => ⟨S4x4096x2048, .f32⟩
  | .hbm, ⟨32, _⟩ => ⟨S4x4096x2048, .f32⟩
  | .hbm, ⟨33, _⟩ => ⟨S2048x5376, .f32⟩
  | .hbm, ⟨34, _⟩ => ⟨S4x4096x5376, .f32⟩
  | .hbm, ⟨35, _⟩ => ⟨S4x4096x1024, .f32⟩
  | .hbm, ⟨36, _⟩ => ⟨S4x4096x128, .f32⟩
  | .hbm, ⟨37, _⟩ => ⟨S4x4096x128, .f32⟩
  | .hbm, ⟨38, _⟩ => ⟨S4x4096x4096, .f32⟩
  | .hbm, ⟨39, _⟩ => ⟨S16384x2048, .f32⟩
  | .hbm, ⟨40, _⟩ => ⟨S4x4096x5376, .f32⟩
  | .hbm, ⟨41, _⟩ => ⟨S16384x5376, .f32⟩
  | .hbm, ⟨42, _⟩ => ⟨S16384x5376, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Mix.lean ====
abbrev S16384x1024 : Shape := ⟨2, ![16384, 1024]⟩
abbrev S16384x2048 : Shape := ⟨2, ![16384, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S1x2048x2048, .f32⟩
  | .hbm, ⟨4, _⟩ => ⟨S1x2048x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .bf16⟩
  | .hbm, ⟨9, _⟩ => ⟨S2048x2048, .f32⟩
  | .hbm, ⟨10, _⟩ => ⟨S2048x2048, .bf16⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S16384x2048, .f32⟩
  | .hbm, ⟨16, _⟩ => ⟨S16384x2048, .bf16⟩
  | .hbm, ⟨17, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S16384x1024 : Shape := ⟨2, ![16384, 1024]⟩
abbrev S16384x2048 : Shape := ⟨2, ![16384, 2048]⟩
abbrev S1x2048x2048 : Shape := ⟨3, ![1, 2048, 2048]⟩
abbrev S1x2048 : Shape := ⟨2, ![1, 2048]⟩
abbrev S_ : Shape := ⟨0, ![]⟩
abbrev S2048x2048 : Shape := ⟨2, ![2048, 2048]⟩
abbrev S2048 : Shape := ⟨1, ![2048]⟩
abbrev S16384 : Shape := ⟨1, ![16384]⟩
abbrev S16384x1 : Shape := ⟨2, ![16384, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S1x2048x2048, .f32⟩
  | .hbm, ⟨4, _⟩ => ⟨S1x2048x2048, .f32⟩
  | .hbm, ⟨5, _⟩ => ⟨S1x2048, .f32⟩
  | .hbm, ⟨6, _⟩ => ⟨S1x2048, .f32⟩
  | .hbm, ⟨7, _⟩ => ⟨S16384x1024, .f32⟩
  | .hbm, ⟨8, _⟩ => ⟨S16384x1024, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S2048x2048, .f32⟩
  | .hbm, ⟨14, _⟩ => ⟨S16384x2048, .f32⟩
  | .hbm, ⟨15, _⟩ => ⟨S16384x2048, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x2048, .f32⟩
  | .hbm, ⟨40, _⟩ => ⟨S16384x2048, .f32⟩
  | .hbm, ⟨41, _⟩ => ⟨S1x2048, .f32⟩
  | .hbm, ⟨42, _⟩ => ⟨S16384x2048, .f32⟩
  | .hbm, ⟨43, _⟩ => ⟨S16384x2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S16384x2048, .bf16⟩
  | .hbm, ⟨48, _⟩ => ⟨S2048x2048, .f32⟩
  | .hbm, ⟨49, _⟩ => ⟨S16384x2048, .f32⟩
  | .hbm, ⟨50, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Attn.lean ====
abbrev S16384x5376 : Shape := ⟨2, ![16384, 5376]⟩
abbrev S128x5376 : Shape := ⟨2, ![128, 5376]⟩
abbrev S1x16 : Shape := ⟨2, ![1, 16]⟩
abbrev S32 : Shape := ⟨1, ![32]⟩
abbrev S_ : Shape := ⟨0, ![]⟩
abbrev S4224 : Shape := ⟨1, ![4224]⟩
abbrev S4224x1 : Shape := ⟨2, ![4224, 1]⟩
abbrev S1x32 : Shape := ⟨2, ![1, 32]⟩
abbrev S4224x32 : Shape := ⟨2, ![4224, 32]⟩
abbrev S4224x64 : Shape := ⟨2, ![4224, 64]⟩
abbrev S1x4224x1x64 : Shape := ⟨4, ![1, 4224, 1, 64]⟩
abbrev S1x4224x2x64 : Shape := ⟨4, ![1, 4224, 2, 64]⟩
abbrev S4224x128 : Shape := ⟨2, ![4224, 128]⟩
abbrev S16 : Shape := ⟨1, ![16]⟩
abbrev S16384x1024 : Shape := ⟨2, ![16384, 1024]⟩
abbrev S128x1024 : Shape := ⟨2, ![128, 1024]⟩
abbrev S128x128 : Shape := ⟨2, ![128, 128]⟩
abbrev S256x128 : Shape := ⟨2, ![256, 128]⟩
abbrev S128x256 : Shape := ⟨2, ![128, 256]⟩
abbrev S256x64 : Shape := ⟨2, ![256, 64]⟩
abbrev S128x64 : Shape := ⟨2, ![128, 64]⟩
abbrev S1024x64 : Shape := ⟨2, ![1024, 64]⟩
abbrev S1024x256 : Shape := ⟨2, ![1024, 256]⟩
abbrev S1 : Shape := ⟨1, ![1]⟩
abbrev S128 : Shape := ⟨1, ![128]⟩
abbrev S128x1 : Shape := ⟨2, ![128, 1]⟩

abbrev nBuf : Space → Nat
  | .hbm => 40
  | .vmem => 22
  | .smem => 1
  | _ => 0

abbrev bufTy : (tb : Table) → Fin (tcTables nBuf tb) → BufTy
  | .hbm, ⟨0, _⟩ => ⟨S16384x5376, .bf16⟩
  | .hbm, ⟨1, _⟩ => ⟨S128x5376, .bf16⟩
  | .hbm, ⟨2, _⟩ => ⟨S1x16, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4224, .i32⟩
  | .hbm, ⟨18, _⟩ => ⟨S_, .i32⟩
  | .hbm, ⟨19, _⟩ => ⟨S4224, .i32⟩
  | .hbm, ⟨20, _⟩ => ⟨S4224, .i32⟩
  | .hbm, ⟨21, _⟩ => ⟨S4224, .f32⟩
  | .hbm, ⟨22, _⟩ => ⟨S4224x1, .f32⟩
  | .hbm, ⟨23, _⟩ => ⟨S1x32, .f32⟩
  | .hbm, ⟨24, _⟩ => ⟨S4224x32, .f32⟩
  | .hbm, ⟨25, _⟩ => ⟨S4224x32, .f32⟩
  | .hbm, ⟨26, _⟩ => ⟨S4224x32, .f32⟩
  | .hbm, ⟨27, _⟩ => ⟨S4224x32, .f32⟩
  | .hbm, ⟨28, _⟩ => ⟨S4224x32, .f32⟩
  | .hbm, ⟨29, _⟩ => ⟨S4224x64, .f32⟩
  | .hbm, ⟨30, _⟩ => ⟨S1x4224x1x64, .f32⟩
  | .hbm, ⟨31, _⟩ => ⟨S1x4224x2x64, .f32⟩
  | .hbm, ⟨32, _⟩ => ⟨S4224x128, .f32⟩
  | .hbm, ⟨33, _⟩ => ⟨S4224x32, .f32⟩
  | .hbm, ⟨34, _⟩ => ⟨S4224x64, .f32⟩
  | .hbm, ⟨35, _⟩ => ⟨S1x4224x1x64, .f32⟩
  | .hbm, ⟨36, _⟩ => ⟨S1x4224x2x64, .f32⟩
  | .hbm, ⟨37, _⟩ => ⟨S4224x128, .f32⟩
  | .hbm, ⟨38, _⟩ => ⟨S16, .f32⟩
  | .hbm, ⟨39, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x1024, .bf16⟩
  | .local _ .vmem, ⟨21, _⟩ => ⟨S128x1024, .bf16⟩
  | .local _ .smem, ⟨0, _⟩ => ⟨S16, .f32⟩
  | _, _ => ⟨S16384x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c40_i32 : BitVec 32 := 40#32
  let c0_i32 : BitVec 32 := 0#32
  ![v1.toNat, c40_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c41_i32 : BitVec 32 := 41#32
  let c0_i32 : BitVec 32 := 0#32
  ![v1.toNat, c41_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c40_i32 : BitVec 32 := 40#32
  let c0_i32_0 : BitVec 32 := 0#32
  ![v3.toNat, c40_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c41_i32 : BitVec 32 := 41#32
  let c0_i32_0 : BitVec 32 := 0#32
  ![v3.toNat, c41_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c40_i32 : BitVec 32 := 40#32
  let c0_i32_0 : BitVec 32 := 0#32
  ![c0_i32.toNat, c40_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c41_i32 : BitVec 32 := 41#32
  let c0_i32_0 : BitVec 32 := 0#32
  ![c0_i32.toNat, c41_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttnRefIdeal.lean ====
abbrev S16384x5376 : Shape := ⟨2, ![16384, 5376]⟩
abbrev S128x5376 : Shape := ⟨2, ![128, 5376]⟩
abbrev S1x16 : Shape := ⟨2, ![1, 16]⟩
abbrev S1x128x5376 : Shape := ⟨3, ![1, 128, 5376]⟩
abbrev S4x128x5376 : Shape := ⟨3, ![4, 128, 5376]⟩
abbrev S4x4096x5376 : Shape := ⟨3, ![4, 4096, 5376]⟩
abbrev S4x4224x5376 : Shape := ⟨3, ![4, 4224, 5376]⟩
abbrev S4224 : Shape := ⟨1, ![4224]⟩
abbrev S_ : Shape := ⟨0, ![]⟩
abbrev S32 : Shape := ⟨1, ![32]⟩
abbrev S4224x1 : Shape := ⟨2, ![4224, 1]⟩
abbrev S1x32 : Shape := ⟨2, ![1, 32]⟩
abbrev S4224x32 : Shape := ⟨2, ![4224, 32]⟩
abbrev S1x4224x1x32 : Shape := ⟨4, ![1, 4224, 1, 32]⟩
abbrev S4x4224x1024 : Shape := ⟨3, ![4, 4224, 1024]⟩
abbrev S4x4224x16x64 : Shape := ⟨4, ![4, 4224, 16, 64]⟩
abbrev S4x4224x16x32 : Shape := ⟨4, ![4, 4224, 16, 32]⟩
abbrev S4x4224x128 : Shape := ⟨3, ![4, 4224, 128]⟩
abbrev S4x4224x2x64 : Shape := ⟨4, ![4, 4224, 2, 64]⟩
abbrev S4x4224x2x32 : Shape := ⟨4, ![4, 4224, 2, 32]⟩
abbrev S132x128x2x8x64 : Shape := ⟨5, ![132, 128, 2, 8, 64]⟩
abbrev S4x33x128x2x64 : Shape := ⟨5, ![4, 33, 128, 2, 64]⟩
abbrev S4x1x128x2x64 : Shape := ⟨5, ![4, 1, 128, 2, 64]⟩
abbrev S4x32x128x2x64 : Shape := ⟨5, ![4, 32, 128, 2, 64]⟩
abbrev S4x33x256x2x64 : Shape := ⟨5, ![4, 33, 256, 2, 64]⟩
abbrev S132x256x2x64 : Shape := ⟨4, ![132, 256, 2, 64]⟩
abbrev S132x2x256x128x8 : Shape := ⟨5, ![132, 2, 256, 128, 8]⟩
abbrev S132x2x8x128x256 : Shape := ⟨5, ![132, 2, 8, 128, 256]⟩
abbrev S33 : Shape := ⟨1, ![33]⟩
abbrev S33x1 : Shape := ⟨2, ![33, 1]⟩
abbrev S128 : Shape := ⟨1, ![128]⟩
abbrev S1x128 : Shape := ⟨2, ![1, 128]⟩
abbrev S33x128 : Shape := ⟨2, ![33, 128]⟩
abbrev S256 : Shape := ⟨1, ![256]⟩
abbrev S1x256 : Shape := ⟨2, ![1, 256]⟩
abbrev S33x256 : Shape := ⟨2, ![33, 256]⟩
abbrev S33x128x1 : Shape := ⟨3, ![33, 128, 1]⟩
abbrev S33x1x256 : Shape := ⟨3, ![33, 1, 256]⟩
abbrev S33x128x256 : Shape := ⟨3, ![33, 128, 256]⟩
abbrev S1x33x128x256 : Shape := ⟨4, ![1, 33, 128, 256]⟩
abbrev S4x33x128x256 : Shape := ⟨4, ![4, 33, 128, 256]⟩
abbrev S132x1x1x128x256 : Shape := ⟨5, ![132, 1, 1, 128, 256]⟩
abbrev S16 : Shape := ⟨1, ![16]⟩
abbrev S1x2x8x1x1 : Shape := ⟨5, ![1, 2, 8, 1, 1]⟩
abbrev S132x2x8x128 : Shape := ⟨4, ![132, 2, 8, 128]⟩
abbrev S132x2x8x128x1 : Shape := ⟨5, ![132, 2, 8, 128, 1]⟩
abbrev S132x2x64x8x128 : Shape := ⟨5, ![132, 2, 64, 8, 128]⟩
abbrev S4x4096x1024 : Shape := ⟨3, ![4, 4096, 1024]⟩
abbrev S16384x1024 : Shape := ⟨2, ![16384, 1024]⟩

abbrev nBuf : Space → Nat
  | .hbm => 159
  | .vmem => 0
  | .smem => 0
  | _ => 0

abbrev hbmTy0_0 (i : Nat) : BufTy := match i % 128 with
  | 0 => ⟨S16384x5376, .bf16⟩
  | 1 => ⟨S128x5376, .bf16⟩
  | 2 => ⟨S1x16, .f32⟩
  | 3 => ⟨S128x5376, .f32⟩
  | 4 => ⟨S1x128x5376, .f32⟩
  | 5 => ⟨S4x128x5376, .f32⟩
  | 6 => ⟨S16384x5376, .f32⟩
  | 7 => ⟨S4x4096x5376, .f32⟩
  | 8 => ⟨S4x4224x5376, .f32⟩
  | 9 => ⟨S4224, .i32⟩
  | 10 => ⟨S_, .i32⟩
  | 11 => ⟨S4224, .i32⟩
  | 12 => ⟨S4224, .i32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S4224, .f32⟩
  | 28 => ⟨S4224x1, .f32⟩
  | 29 => ⟨S1x32, .f32⟩
  | 30 => ⟨S4224x32, .f32⟩
  | 31 => ⟨S4224x32, .f32⟩
  | 32 => ⟨S4224x32, .f32⟩
  | 33 => ⟨S4224x32, .f32⟩
  | 34 => ⟨S1x4224x1x32, .f32⟩
  | 35 => ⟨S4224x32, .f32⟩
  | 36 => ⟨S1x4224x1x32, .f32⟩
  | 37 => ⟨S4x4224x1024, .f32⟩
  | 38 => ⟨S4x4224x16x64, .f32⟩
  | 39 => ⟨S4x4224x16x32, .f32⟩
  | 40 => ⟨S4x4224x16x32, .f32⟩
  | 41 => ⟨S4x4224x16x32, .f32⟩
  | 42 => ⟨S4x4224x16x32, .f32⟩
  | 43 => ⟨S4x4224x16x32, .f32⟩
  | 44 => ⟨S4x4224x16x32, .f32⟩
  | 45 => ⟨S4x4224x16x32, .f32⟩
  | 46 => ⟨S4x4224x16x32, .f32⟩
  | 47 => ⟨S4x4224x16x32, .f32⟩
  | 48 => ⟨S4x4224x16x32, .f32⟩
  | 49 => ⟨S4x4224x16x32, .f32⟩
  | 50 => ⟨S4x4224x16x32, .f32⟩
  | 51 => ⟨S4x4224x16x64, .f32⟩
  | 52 => ⟨S4x4224x128, .f32⟩
  | 53 => ⟨S4x4224x2x64, .f32⟩
  | 54 => ⟨S4x4224x2x32, .f32⟩
  | 55 => ⟨S4x4224x2x32, .f32⟩
  | 56 => ⟨S4x4224x2x32, .f32⟩
  | 57 => ⟨S4x4224x2x32, .f32⟩
  | 58 => ⟨S4x4224x2x32, .f32⟩
  | 59 => ⟨S4x4224x2x32, .f32⟩
  | 60 => ⟨S4x4224x2x32, .f32⟩
  | 61 => ⟨S4x4224x2x32, .f32⟩
  | 62 => ⟨S4x4224x2x32, .f32⟩
  | 63 => ⟨S4x4224x2x32, .f32⟩
  | 64 => ⟨S4x4224x2x32, .f32⟩
  | 65 => ⟨S4x4224x2x32, .f32⟩
  | 66 => ⟨S4x4224x2x64, .f32⟩
  | 67 => ⟨S4x4224x128, .f32⟩
  | 68 => ⟨S4x4224x2x64, .f32⟩
  | 69 => ⟨S132x128x2x8x64, .f32⟩
  | 70 => ⟨S4x33x128x2x64, .f32⟩
  | 71 => ⟨S4x1x128x2x64, .f32⟩
  | 72 => ⟨S_, .f32⟩
  | 73 => ⟨S4x1x128x2x64, .f32⟩
  | 74 => ⟨S4x32x128x2x64, .f32⟩
  | 75 => ⟨S4x33x128x2x64, .f32⟩
  | 76 => ⟨S4x33x256x2x64, .f32⟩
  | 77 => ⟨S132x256x2x64, .f32⟩
  | 78 => ⟨S4x33x128x2x64, .f32⟩
  | 79 => ⟨S4x1x128x2x64, .f32⟩
  | 80 => ⟨S_, .f32⟩
  | 81 => ⟨S4x1x128x2x64, .f32⟩
  | 82 => ⟨S4x32x128x2x64, .f32⟩
  | 83 => ⟨S4x33x128x2x64, .f32⟩
  | 84 => ⟨S4x33x256x2x64, .f32⟩
  | 85 => ⟨S132x256x2x64, .f32⟩
  | 86 => ⟨S132x2x256x128x8, .f32⟩
  | 87 => ⟨S132x2x8x128x256, .f32⟩
  | 88 => ⟨S_, .f32⟩
  | 89 => ⟨S132x2x8x128x256, .f32⟩
  | 90 => ⟨S132x2x8x128x256, .f32⟩
  | 91 => ⟨S33, .i32⟩
  | 92 => ⟨S33x1, .i32⟩
  | 93 => ⟨S_, .i32⟩
  | 94 => ⟨S33x1, .i32⟩
  | 95 => ⟨S33x1, .i32⟩
  | 96 => ⟨S128, .i32⟩
  | 97 => ⟨S1x128, .i32⟩
  | 98 => ⟨S33x128, .i32⟩
  | 99 => ⟨S33x128, .i32⟩
  | 100 => ⟨S33x128, .i32⟩
  | 101 => ⟨S_, .i32⟩
  | 102 => ⟨S33x1, .i32⟩
  | 103 => ⟨S33x1, .i32⟩
  | 104 => ⟨S256, .i32⟩
  | 105 => ⟨S1x256, .i32⟩
  | 106 => ⟨S33x256, .i32⟩
  | 107 => ⟨S33x256, .i32⟩
  | 108 => ⟨S33x256, .i32⟩
  | 109 => ⟨S33x128x1, .i32⟩
  | 110 => ⟨S33x1x256, .i32⟩
  | 111 => ⟨S33x128x256, .i32⟩
  | 112 => ⟨S33x128x256, .i32⟩
  | 113 => ⟨S33x128x256, .i32⟩
  | 114 => ⟨S_, .i32⟩
  | 115 => ⟨S33x128x256, .i32⟩
  | 116 => ⟨S33x128x256, .i1⟩
  | 117 => ⟨S_, .i32⟩
  | 118 => ⟨S33x128x256, .i32⟩
  | 119 => ⟨S33x128x256, .i1⟩
  | 120 => ⟨S33x128x256, .i1⟩
  | 121 => ⟨S33x1x256, .i32⟩
  | 122 => ⟨S_, .i32⟩
  | 123 => ⟨S33x1x256, .i32⟩
  | 124 => ⟨S33x1x256, .i1⟩
  | 125 => ⟨S33x128x256, .i1⟩
  | 126 => ⟨S33x128x256, .i1⟩
  | 127 => ⟨S1x33x128x256, .i1⟩
  | _ => ⟨S16384x5376, .bf16⟩

abbrev hbmTy0_1 (i : Nat) : BufTy := match i % 128 with
  | 0 => ⟨S4x33x128x256, .i1⟩
  | 1 => ⟨S132x1x1x128x256, .i1⟩
  | 2 => ⟨S132x2x8x128x256, .i1⟩
  | 3 => ⟨S_, .f32⟩
  | 4 => ⟨S132x2x8x128x256, .f32⟩
  | 5 => ⟨S132x2x8x128x256, .f32⟩
  | 6 => ⟨S16, .f32⟩
  | 7 => ⟨S1x2x8x1x1, .f32⟩
  | 8 => ⟨S_, .f32⟩
  | 9 => ⟨S132x2x8x128, .f32⟩
  | 10 => ⟨S132x2x8x128x1, .f32⟩
  | 11 => ⟨S132x2x8x128x1, .f32⟩
  | 12 => ⟨S132x2x8x128x1, .f32⟩
  | 13 => ⟨S132x2x8x128x256, .f32⟩
  | 14 => ⟨S132x2x8x128x256, .f32⟩
  | 15 => ⟨S132x2x8x128x256, .f32⟩
  | 16 => ⟨S_, .f32⟩
  | 17 => ⟨S132x2x8x128, .f32⟩
  | 18 => ⟨S132x2x8x128x1, .f32⟩
  | 19 => ⟨S132x2x8x128x1, .f32⟩
  | 20 => ⟨S132x2x8x128x1, .f32⟩
  | 21 => ⟨S132x2x8x128x1, .f32⟩
  | 22 => ⟨S132x2x8x128x1, .f32⟩
  | 23 => ⟨S132x2x8x128x256, .f32⟩
  | 24 => ⟨S132x2x8x128x256, .f32⟩
  | 25 => ⟨S132x2x64x8x128, .f32⟩
  | 26 => ⟨S132x128x2x8x64, .f32⟩
  | 27 => ⟨S4x4224x1024, .f32⟩
  | 28 => ⟨S4x4096x1024, .f32⟩
  | 29 => ⟨S16384x1024, .f32⟩
  | 30 => ⟨S16384x1024, .bf16⟩
  | _ => ⟨S16384x5376, .bf16⟩

abbrev hbmTy (i : Nat) : BufTy := match i / 128 with
  | 0 => hbmTy0_0 i
  | 1 => hbmTy0_1 i
  | _ => ⟨S16384x5376, .bf16⟩

abbrev bufTy : (tb : Table) → Fin (tcTables nBuf tb) → BufTy
  | .hbm, ⟨i, _⟩ => hbmTy i
  | _, _ => ⟨S16384x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_3 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_4 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_cst_5 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_c_6 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_c_7 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_c_8 : Ref sig .tc := ⟨.hbm, 114, rfl⟩
abbrev main_v101 : Ref sig .tc := ⟨.hbm, 115, rfl⟩
abbrev main_v102 : Ref sig .tc := ⟨.hbm, 116, rfl⟩
abbrev main_c_9 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_c_10 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_cst_11 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_cst_12 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_cst_13 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩

abbrev nD : Nat := 1
abbrev τ : Topo := Topo.v7x

variable {F : FTy → Type} [FloatOps F]
-- ==== Ret.lean ====
abbrev S16384x5376 : Shape := ⟨2, ![16384, 5376]⟩
abbrev S128x5376 : Shape := ⟨2, ![128, 5376]⟩
abbrev S128 : Shape := ⟨1, ![128]⟩
abbrev S_ : Shape := ⟨0, ![]⟩
abbrev S4224 : Shape := ⟨1, ![4224]⟩
abbrev S4224x1 : Shape := ⟨2, ![4224, 1]⟩
abbrev S1x128 : Shape := ⟨2, ![1, 128]⟩
abbrev S4224x128 : Shape := ⟨2, ![4224, 128]⟩
abbrev S4224x256 : Shape := ⟨2, ![4224, 256]⟩
abbrev S1x4224x1x256 : Shape := ⟨4, ![1, 4224, 1, 256]⟩
abbrev S4 : Shape := ⟨1, ![4]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S16384x1024 : Shape := ⟨2, ![16384, 1024]⟩
abbrev S128x1024 : Shape := ⟨2, ![128, 1024]⟩
abbrev S128x256 : Shape := ⟨2, ![128, 256]⟩
abbrev S4x256x256 : Shape := ⟨3, ![4, 256, 256]⟩
abbrev S1x128x1 : Shape := ⟨3, ![1, 128, 1]⟩
abbrev S256x256 : Shape := ⟨2, ![256, 256]⟩
abbrev S1x256x256 : Shape := ⟨3, ![1, 256, 256]⟩
abbrev S1 : Shape := ⟨1, ![1]⟩

abbrev nBuf : Space → Nat
  | .hbm => 97
  | .vmem => 22
  | .smem => 1
  | _ => 0

abbrev bufTy : (tb : Table) → Fin (tcTables nBuf tb) → BufTy
  | .hbm, ⟨0, _⟩ => ⟨S16384x5376, .bf16⟩
  | .hbm, ⟨1, _⟩ => ⟨S128x5376, .bf16⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S4224, .i32⟩
  | .hbm, ⟨17, _⟩ => ⟨S_, .i32⟩
  | .hbm, ⟨18, _⟩ => ⟨S4224, .i32⟩
  | .hbm, ⟨19, _⟩ => ⟨S4224, .i32⟩
  | .hbm, ⟨20, _⟩ => ⟨S4224, .f32⟩
  | .hbm, ⟨21, _⟩ => ⟨S4224x1, .f32⟩
  | .hbm, ⟨22, _⟩ => ⟨S1x128, .f32⟩
  | .hbm, ⟨23, _⟩ => ⟨S4224x128, .f32⟩
  | .hbm, ⟨24, _⟩ => ⟨S4224x128, .f32⟩
  | .hbm, ⟨25, _⟩ => ⟨S4224x128, .f32⟩
  | .hbm, ⟨26, _⟩ => ⟨S4224x128, .f32⟩
  | .hbm, ⟨27, _⟩ => ⟨S4224x128, .f32⟩
  | .hbm, ⟨28, _⟩ => ⟨S4224x256, .f32⟩
  | .hbm, ⟨29, _⟩ => ⟨S1x4224x1x256, .f32⟩
  | .hbm, ⟨30, _⟩ => ⟨S1x4224x1x256, .f32⟩
  | .hbm, ⟨31, _⟩ => ⟨S4224x256, .f32⟩
  | .hbm, ⟨32, _⟩ => ⟨S4224x128, .f32⟩
  | .hbm, ⟨33, _⟩ => ⟨S4224x256, .f32⟩
  | .hbm, ⟨34, _⟩ => ⟨S1x4224x1x256, .f32⟩
  | .hbm, ⟨35, _⟩ => ⟨S1x4224x1x256, .f32⟩
  | .hbm, ⟨36, _⟩ => ⟨S4224x256, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S_, .f32⟩
  | .hbm, ⟨45, _⟩ => ⟨S4, .f32⟩
  | .hbm, ⟨46, _⟩ => ⟨S4, .f32⟩
  | .hbm, ⟨47, _⟩ => ⟨S4, .f32⟩
  | .hbm, ⟨48, _⟩ => ⟨S128, .f32⟩
  | .hbm, ⟨49, _⟩ => ⟨S128x1, .f32⟩
  | .hbm, ⟨50, _⟩ => ⟨S1x128, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S1x128x128, .f32⟩
  | .hbm, ⟨55, _⟩ => ⟨S_, .f32⟩
  | .hbm, ⟨56, _⟩ => ⟨S1x128x128, .f32⟩
  | .hbm, ⟨57, _⟩ => ⟨S1x128x128, .i1⟩
  | .hbm, ⟨58, _⟩ => ⟨S_, .f32⟩
  | .hbm, ⟨59, _⟩ => ⟨S128x128, .f32⟩
  | .hbm, ⟨60, _⟩ => ⟨S128x128, .f32⟩
  | .hbm, ⟨61, _⟩ => ⟨S1x128x128, .f32⟩
  | .hbm, ⟨62, _⟩ => ⟨S4x1x1, .f32⟩
  | .hbm, ⟨63, _⟩ => ⟨S4x128x128, .f32⟩
  | .hbm, ⟨64, _⟩ => ⟨S4x128x128, .f32⟩
  | .hbm, ⟨65, _⟩ => ⟨S4x128x128, .f32⟩
  | .hbm, ⟨66, _⟩ => ⟨S4x128x128, .f32⟩
  | .hbm, ⟨67, _⟩ => ⟨S_, .f32⟩
  | .hbm, ⟨68, _⟩ => ⟨S_, .f32⟩
  | .hbm, ⟨69, _⟩ => ⟨S4x128x128, .i1⟩
  | .hbm, ⟨70, _⟩ => ⟨S4x128x128, .f32⟩
  | .hbm, ⟨71, _⟩ => ⟨S4x128x128, .f32⟩
  | .hbm, ⟨72, _⟩ => ⟨S1x128, .f32⟩
  | .hbm, ⟨73, _⟩ => ⟨S_, .f32⟩
  | .hbm, ⟨74, _⟩ => ⟨S1x128, .f32⟩
  | .hbm, ⟨75, _⟩ => ⟨S1x128, .f32⟩
  | .hbm, ⟨76, _⟩ => ⟨S4x1, .f32⟩
  | .hbm, ⟨77, _⟩ => ⟨S4x128, .f32⟩
  | .hbm, ⟨78, _⟩ => ⟨S4x128, .f32⟩
  | .hbm, ⟨79, _⟩ => ⟨S4x128, .f32⟩
  | .hbm, ⟨80, _⟩ => ⟨S4x128, .f32⟩
  | .hbm, ⟨81, _⟩ => ⟨S4x128x1, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S4x1, .f32⟩
  | .hbm, ⟨87, _⟩ => ⟨S4x128, .f32⟩
  | .hbm, ⟨88, _⟩ => ⟨S4x128, .f32⟩
  | .hbm, ⟨89, _⟩ => ⟨S4x128, .f32⟩
  | .hbm, ⟨90, _⟩ => ⟨S4x128, .f32⟩
  | .hbm, ⟨91, _⟩ => ⟨S4x128x1, .f32⟩
  | .hbm, ⟨92, _⟩ => ⟨S_, .f32⟩
  | .hbm, ⟨93, _⟩ => ⟨S4, .f32⟩
  | .hbm, ⟨94, _⟩ => ⟨S4, .f32⟩
  | .hbm, ⟨95, _⟩ => ⟨S4, .f32⟩
  | .hbm, ⟨96, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S4x128x128, .f32⟩
  | .local _ .vmem, ⟨17, _⟩ => ⟨S4x128x1, .f32⟩
  | .local _ .vmem, ⟨18, _⟩ => ⟨S4x128x1, .f32⟩
  | .local _ .vmem, ⟨19, _⟩ => ⟨S128x1024, .bf16⟩
  | .local _ .vmem, ⟨20, _⟩ => ⟨S128x1024, .bf16⟩
  | .local _ .vmem, ⟨21, _⟩ => ⟨S4x256x256, .f32⟩
  | .local _ .smem, ⟨0, _⟩ => ⟨S4, .f32⟩
  | _, _ => ⟨S16384x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== RetRefIdeal.lean ====
abbrev S16384x5376 : Shape := ⟨2, ![16384, 5376]⟩
abbrev S128x5376 : Shape := ⟨2, ![128, 5376]⟩
abbrev S1x128x5376 : Shape := ⟨3, ![1, 128, 5376]⟩
abbrev S4x128x5376 : Shape := ⟨3, ![4, 128, 5376]⟩
abbrev S4x4096x5376 : Shape := ⟨3, ![4, 4096, 5376]⟩
abbrev S4x4224x5376 : Shape := ⟨3, ![4, 4224, 5376]⟩
abbrev S4224 : Shape := ⟨1, ![4224]⟩
abbrev S_ : Shape := ⟨0, ![]⟩
abbrev S128 : Shape := ⟨1, ![128]⟩
abbrev S4224x1 : Shape := ⟨2, ![4224, 1]⟩
abbrev S1x128 : Shape := ⟨2, ![1, 128]⟩
abbrev S4224x128 : Shape := ⟨2, ![4224, 128]⟩
abbrev S1x4224x1x128 : Shape := ⟨4, ![1, 4224, 1, 128]⟩
abbrev S1x4224x1 : Shape := ⟨3, ![1, 4224, 1]⟩
abbrev S4x4224x1024 : Shape := ⟨3, ![4, 4224, 1024]⟩
abbrev S4x4224x4x256 : Shape := ⟨4, ![4, 4224, 4, 256]⟩
abbrev S4x4224x4x128 : Shape := ⟨4, ![4, 4224, 4, 128]⟩
abbrev S4 : Shape := ⟨1, ![4]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x33x128x4x256 : Shape := ⟨5, ![4, 33, 128, 4, 256]⟩
abbrev S33x4x4x128x256 : Shape := ⟨5, ![33, 4, 4, 128, 256]⟩
abbrev S4x4x256x256 : Shape := ⟨4, ![4, 4, 256, 256]⟩
abbrev S1x4x4x128x256 : Shape := ⟨5, ![1, 4, 4, 128, 256]⟩
abbrev S4x4x128x256 : Shape := ⟨4, ![4, 4, 128, 256]⟩
abbrev S4x4x128x128 : Shape := ⟨4, ![4, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S4x4224x4 : Shape := ⟨3, ![4, 4224, 4]⟩
abbrev S4x4224x4x1 : Shape := ⟨4, ![4, 4224, 4, 1]⟩
abbrev S16384x1024 : Shape := ⟨2, ![16384, 1024]⟩
abbrev S4x4096x1024 : Shape := ⟨3, ![4, 4096, 1024]⟩

abbrev nBuf : Space → Nat
  | .hbm => 246
  | .vmem => 0
  | .smem => 0
  | _ => 0

abbrev hbmTy0_0 (i : Nat) : BufTy := match i % 128 with
  | 0 => ⟨S16384x5376, .bf16⟩
  | 1 => ⟨S128x5376, .bf16⟩
  | 2 => ⟨S128x5376, .f32⟩
  | 3 => ⟨S1x128x5376, .f32⟩
  | 4 => ⟨S4x128x5376, .f32⟩
  | 5 => ⟨S16384x5376, .f32⟩
  | 6 => ⟨S4x4096x5376, .f32⟩
  | 7 => ⟨S4x4224x5376, .f32⟩
  | 8 => ⟨S4224, .i32⟩
  | 9 => ⟨S_, .i32⟩
  | 10 => ⟨S4224, .i32⟩
  | 11 => ⟨S4224, .i32⟩
  | 12 => ⟨S128, .f32⟩
  | 13 => ⟨S_, .f32⟩
  | 14 => ⟨S128, .f32⟩
  | 15 => ⟨S128, .f32⟩
  | 16 => ⟨S_, .f32⟩
  | 17 => ⟨S128, .f32⟩
  | 18 => ⟨S128, .f32⟩
  | 19 => ⟨S128, .f32⟩
  | 20 => ⟨S_, .f32⟩
  | 21 => ⟨S128, .f32⟩
  | 22 => ⟨S128, .f32⟩
  | 23 => ⟨S_, .f32⟩
  | 24 => ⟨S128, .f32⟩
  | 25 => ⟨S128, .f32⟩
  | 26 => ⟨S4224, .f32⟩
  | 27 => ⟨S4224x1, .f32⟩
  | 28 => ⟨S1x128, .f32⟩
  | 29 => ⟨S4224x128, .f32⟩
  | 30 => ⟨S4224x128, .f32⟩
  | 31 => ⟨S4224x128, .f32⟩
  | 32 => ⟨S4224x128, .f32⟩
  | 33 => ⟨S1x4224x1x128, .f32⟩
  | 34 => ⟨S4224x128, .f32⟩
  | 35 => ⟨S1x4224x1x128, .f32⟩
  | 36 => ⟨S_, .i32⟩
  | 37 => ⟨S4224, .i32⟩
  | 38 => ⟨S4224, .i1⟩
  | 39 => ⟨S1x4224x1, .i1⟩
  | 40 => ⟨S1x4224x1, .f32⟩
  | 41 => ⟨S4x4224x1024, .f32⟩
  | 42 => ⟨S4x4224x4x256, .f32⟩
  | 43 => ⟨S4x4224x4x128, .f32⟩
  | 44 => ⟨S4x4224x4x128, .f32⟩
  | 45 => ⟨S4x4224x4x128, .f32⟩
  | 46 => ⟨S4x4224x4x128, .f32⟩
  | 47 => ⟨S4x4224x4x128, .f32⟩
  | 48 => ⟨S4x4224x4x128, .f32⟩
  | 49 => ⟨S4x4224x4x128, .f32⟩
  | 50 => ⟨S4x4224x4x128, .f32⟩
  | 51 => ⟨S4x4224x4x128, .f32⟩
  | 52 => ⟨S4x4224x4x128, .f32⟩
  | 53 => ⟨S4x4224x4x128, .f32⟩
  | 54 => ⟨S4x4224x4x128, .f32⟩
  | 55 => ⟨S4x4224x4x256, .f32⟩
  | 56 => ⟨S4x4224x1024, .f32⟩
  | 57 => ⟨S4x4224x1024, .f32⟩
  | 58 => ⟨S4x4224x1024, .f32⟩
  | 59 => ⟨S4x4224x4x256, .f32⟩
  | 60 => ⟨S4x4224x4x128, .f32⟩
  | 61 => ⟨S4x4224x4x128, .f32⟩
  | 62 => ⟨S4x4224x4x128, .f32⟩
  | 63 => ⟨S4x4224x4x128, .f32⟩
  | 64 => ⟨S4x4224x4x128, .f32⟩
  | 65 => ⟨S4x4224x4x128, .f32⟩
  | 66 => ⟨S4x4224x4x128, .f32⟩
  | 67 => ⟨S4x4224x4x128, .f32⟩
  | 68 => ⟨S4x4224x4x128, .f32⟩
  | 69 => ⟨S4x4224x4x128, .f32⟩
  | 70 => ⟨S4x4224x4x128, .f32⟩
  | 71 => ⟨S4x4224x4x128, .f32⟩
  | 72 => ⟨S4x4224x4x256, .f32⟩
  | 73 => ⟨S4x4224x1024, .f32⟩
  | 74 => ⟨S4x4224x4x256, .f32⟩
  | 75 => ⟨S4, .f32⟩
  | 76 => ⟨S_, .f32⟩
  | 77 => ⟨S4, .f32⟩
  | 78 => ⟨S4, .f32⟩
  | 79 => ⟨S_, .f32⟩
  | 80 => ⟨S4, .f32⟩
  | 81 => ⟨S4, .f32⟩
  | 82 => ⟨S_, .f32⟩
  | 83 => ⟨S4, .f32⟩
  | 84 => ⟨S4, .f32⟩
  | 85 => ⟨S4, .f32⟩
  | 86 => ⟨S128, .f32⟩
  | 87 => ⟨S128x1, .f32⟩
  | 88 => ⟨S1x128, .f32⟩
  | 89 => ⟨S128x128, .f32⟩
  | 90 => ⟨S128x128, .f32⟩
  | 91 => ⟨S128x128, .f32⟩
  | 92 => ⟨S1x128x128, .f32⟩
  | 93 => ⟨S_, .f32⟩
  | 94 => ⟨S1x128x128, .f32⟩
  | 95 => ⟨S1x128x128, .i1⟩
  | 96 => ⟨S_, .f32⟩
  | 97 => ⟨S128x128, .f32⟩
  | 98 => ⟨S128x128, .f32⟩
  | 99 => ⟨S1x128x128, .f32⟩
  | 100 => ⟨S4x1x1, .f32⟩
  | 101 => ⟨S4x128x128, .f32⟩
  | 102 => ⟨S4x128x128, .f32⟩
  | 103 => ⟨S4x128x128, .f32⟩
  | 104 => ⟨S4x128x128, .f32⟩
  | 105 => ⟨S_, .f32⟩
  | 106 => ⟨S_, .f32⟩
  | 107 => ⟨S4x128x128, .i1⟩
  | 108 => ⟨S4x128x128, .f32⟩
  | 109 => ⟨S4x128x128, .f32⟩
  | 110 => ⟨S1x128, .f32⟩
  | 111 => ⟨S_, .f32⟩
  | 112 => ⟨S1x128, .f32⟩
  | 113 => ⟨S1x128, .f32⟩
  | 114 => ⟨S4x1, .f32⟩
  | 115 => ⟨S4x128, .f32⟩
  | 116 => ⟨S4x128, .f32⟩
  | 117 => ⟨S4x128, .f32⟩
  | 118 => ⟨S4x128, .f32⟩
  | 119 => ⟨S4x128x1, .f32⟩
  | 120 => ⟨S1x128, .f32⟩
  | 121 => ⟨S_, .f32⟩
  | 122 => ⟨S1x128, .f32⟩
  | 123 => ⟨S1x128, .f32⟩
  | 124 => ⟨S4x1, .f32⟩
  | 125 => ⟨S4x128, .f32⟩
  | 126 => ⟨S4x128, .f32⟩
  | 127 => ⟨S4x128, .f32⟩
  | _ => ⟨S16384x5376, .bf16⟩

abbrev hbmTy0_1 (i : Nat) : BufTy := match i % 128 with
  | 0 => ⟨S4x128, .f32⟩
  | 1 => ⟨S4x128x1, .f32⟩
  | 2 => ⟨S_, .f32⟩
  | 3 => ⟨S4, .f32⟩
  | 4 => ⟨S4, .f32⟩
  | 5 => ⟨S4, .f32⟩
  | 6 => ⟨S4x1x1, .f32⟩
  | 7 => ⟨S4x33x128x4x256, .f32⟩
  | 8 => ⟨S33x4x4x128x256, .f32⟩
  | 9 => ⟨S_, .f32⟩
  | 10 => ⟨S4x4224x4x256, .f32⟩
  | 11 => ⟨S4x4224x4x256, .f32⟩
  | 12 => ⟨S4x33x128x4x256, .f32⟩
  | 13 => ⟨S33x4x4x128x256, .f32⟩
  | 14 => ⟨S4x33x128x4x256, .f32⟩
  | 15 => ⟨S33x4x4x128x256, .f32⟩
  | 16 => ⟨S_, .f32⟩
  | 17 => ⟨S4x4x256x256, .f32⟩
  | 18 => ⟨S_, .f32⟩
  | 19 => ⟨S33x4x4x128x256, .f32⟩
  | 20 => ⟨S_, .i32⟩
  | 21 => ⟨S33x4x4x128x256, .f32⟩
  | 22 => ⟨S33x4x4x128x256, .f32⟩
  | 23 => ⟨S33x4x4x128x256, .f32⟩
  | 24 => ⟨S4x128x128, .f32⟩
  | 25 => ⟨S4x128x1, .f32⟩
  | 26 => ⟨S4x1x1, .f32⟩
  | 27 => ⟨S4x128x1, .f32⟩
  | 28 => ⟨S_, .i32⟩
  | 29 => ⟨S4x4x256x256, .f32⟩
  | 30 => ⟨S33x4x4x128x256, .f32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S1x4x4x128x256, .f32⟩
  | 38 => ⟨S4x4x128x256, .f32⟩
  | 39 => ⟨S_, .i32⟩
  | 40 => ⟨S_, .i32⟩
  | 41 => ⟨S_, .i32⟩
  | 42 => ⟨S_, .i32⟩
  | 43 => ⟨S1x4x4x128x256, .f32⟩
  | 44 => ⟨S4x4x128x256, .f32⟩
  | 45 => ⟨S_, .i32⟩
  | 46 => ⟨S_, .i32⟩
  | 47 => ⟨S_, .i32⟩
  | 48 => ⟨S_, .i32⟩
  | 49 => ⟨S1x4x4x128x256, .f32⟩
  | 50 => ⟨S4x4x128x256, .f32⟩
  | 51 => ⟨S4x4x128x128, .f32⟩
  | 52 => ⟨S1x4x128x128, .f32⟩
  | 53 => ⟨S4x4x128x128, .f32⟩
  | 54 => ⟨S4x4x128x128, .f32⟩
  | 55 => ⟨S4x4x128x256, .f32⟩
  | 56 => ⟨S1x4x128x1, .f32⟩
  | 57 => ⟨S4x4x128x256, .f32⟩
  | 58 => ⟨S4x4x128x256, .f32⟩
  | 59 => ⟨S4x4x128x256, .f32⟩
  | 60 => ⟨S4x4x128x256, .f32⟩
  | 61 => ⟨S1x4x1x1, .f32⟩
  | 62 => ⟨S4x4x256x256, .f32⟩
  | 63 => ⟨S4x4x256x256, .f32⟩
  | 64 => ⟨S1x4x128x1, .f32⟩
  | 65 => ⟨S4x4x128x256, .f32⟩
  | 66 => ⟨S4x4x128x256, .f32⟩
  | 67 => ⟨S4x4x256x256, .f32⟩
  | 68 => ⟨S4x4x256x256, .f32⟩
  | 69 => ⟨S1x4x4x128x256, .f32⟩
  | 70 => ⟨S_, .i32⟩
  | 71 => ⟨S_, .i32⟩
  | 72 => ⟨S_, .i32⟩
  | 73 => ⟨S_, .i32⟩
  | 74 => ⟨S33x4x4x128x256, .f32⟩
  | 75 => ⟨S_, .i32⟩
  | 76 => ⟨S_, .i32⟩
  | 77 => ⟨S4x33x128x4x256, .f32⟩
  | 78 => ⟨S4x4224x4x256, .f32⟩
  | 79 => ⟨S_, .f32⟩
  | 80 => ⟨S4x4224x4, .f32⟩
  | 81 => ⟨S4x4224x4x1, .f32⟩
  | 82 => ⟨S_, .f32⟩
  | 83 => ⟨S4x4224x4x1, .f32⟩
  | 84 => ⟨S4x4224x4x1, .f32⟩
  | 85 => ⟨S4x4224x4x256, .f32⟩
  | 86 => ⟨S4x4224x4x256, .f32⟩
  | 87 => ⟨S4x4224x4x256, .f32⟩
  | 88 => ⟨S_, .f32⟩
  | 89 => ⟨S4x4224x4, .f32⟩
  | 90 => ⟨S4x4224x4x1, .f32⟩
  | 91 => ⟨S_, .f32⟩
  | 92 => ⟨S4x4224x4x1, .f32⟩
  | 93 => ⟨S4x4224x4x1, .f32⟩
  | 94 => ⟨S4x4224x4x256, .f32⟩
  | 95 => ⟨S4x4224x4x256, .f32⟩
  | 96 => ⟨S_, .f32⟩
  | 97 => ⟨S4x4224x4x1, .f32⟩
  | 98 => ⟨S4x4224x4x1, .f32⟩
  | 99 => ⟨S4x4224x4x1, .f32⟩
  | 100 => ⟨S4x4224x4x256, .f32⟩
  | 101 => ⟨S4x4224x4x256, .f32⟩
  | 102 => ⟨S4x4224x1024, .f32⟩
  | 103 => ⟨S16384x1024, .bf16⟩
  | 104 => ⟨S16384x1024, .f32⟩
  | 105 => ⟨S16384x1024, .f32⟩
  | 106 => ⟨S16384x1024, .f32⟩
  | 107 => ⟨S_, .f32⟩
  | 108 => ⟨S16384x1024, .f32⟩
  | 109 => ⟨S16384x1024, .f32⟩
  | 110 => ⟨S_, .f32⟩
  | 111 => ⟨S16384x1024, .f32⟩
  | 112 => ⟨S16384x1024, .f32⟩
  | 113 => ⟨S16384x1024, .f32⟩
  | 114 => ⟨S4x4096x1024, .f32⟩
  | 115 => ⟨S16384x1024, .f32⟩
  | 116 => ⟨S16384x1024, .f32⟩
  | 117 => ⟨S16384x1024, .bf16⟩
  | _ => ⟨S16384x5376, .bf16⟩

abbrev hbmTy (i : Nat) : BufTy := match i / 128 with
  | 0 => hbmTy0_0 i
  | 1 => hbmTy0_1 i
  | _ => ⟨S16384x5376, .bf16⟩

abbrev bufTy : (tb : Table) → Fin (tcTables nBuf tb) → BufTy
  | .hbm, ⟨i, _⟩ => hbmTy i
  | _, _ => ⟨S16384x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_cst_4 : Ref sig .tc := ⟨.hbm, 76, rfl⟩
abbrev main_v68 : Ref sig .tc := ⟨.hbm, 77, rfl⟩
abbrev main_v69 : Ref sig .tc := ⟨.hbm, 78, rfl⟩
abbrev main_cst_5 : Ref sig .tc := ⟨.hbm, 79, rfl⟩
abbrev main_v70 : Ref sig .tc := ⟨.hbm, 80, rfl⟩
abbrev main_v71 : Ref sig .tc := ⟨.hbm, 81, rfl⟩
abbrev main_cst_6 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_cst_7 : Ref sig .tc := ⟨.hbm, 93, rfl⟩
abbrev main_v82 : Ref sig .tc := ⟨.hbm, 94, rfl⟩
abbrev main_v83 : Ref sig .tc := ⟨.hbm, 95, rfl⟩
abbrev main_cst_8 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_cst_9 : Ref sig .tc := ⟨.hbm, 105, rfl⟩
abbrev main_call0_v0 : Ref sig .tc := ⟨.hbm, 106, rfl⟩
abbrev main_call0_v1 : Ref sig .tc := ⟨.hbm, 107, rfl⟩
abbrev main_call0_v2 : Ref sig .tc := ⟨.hbm, 108, rfl⟩
abbrev main_v92 : Ref sig .tc := ⟨.hbm, 109, rfl⟩
abbrev main_v93 : Ref sig .tc := ⟨.hbm, 110, rfl⟩
abbrev main_cst_10 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_11 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_12 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_cst_13 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_14 : Ref sig .tc := ⟨.hbm, 144, rfl⟩
abbrev main_v123 : Ref sig .tc := ⟨.hbm, 145, rfl⟩
abbrev main_cst_15 : Ref sig .tc := ⟨.hbm, 146, rfl⟩
abbrev main_v124 : Ref sig .tc := ⟨.hbm, 147, rfl⟩
abbrev main_c_16 : Ref sig .tc := ⟨.hbm, 148, rfl⟩
abbrev main_v125_0 : Ref sig .tc := ⟨.hbm, 149, rfl⟩
abbrev main_v125_1 : Ref sig .tc := ⟨.hbm, 150, rfl⟩
abbrev main_v125_2 : Ref sig .tc := ⟨.hbm, 151, rfl⟩
abbrev main_v125_3 : Ref sig .tc := ⟨.hbm, 152, rfl⟩
abbrev main_v125_4 : Ref sig .tc := ⟨.hbm, 153, rfl⟩
abbrev main_v125_5 : Ref sig .tc := ⟨.hbm, 154, rfl⟩
abbrev main_v125_6 : Ref sig .tc := ⟨.hbm, 155, rfl⟩
abbrev main_v125_7 : Ref sig .tc := ⟨.hbm, 156, rfl⟩
abbrev main_v125_8 : Ref sig .tc := ⟨.hbm, 157, rfl⟩
abbrev main_v125_9 : Ref sig .tc := ⟨.hbm, 158, rfl⟩
abbrev main_while0c_c_33 : Ref sig .tc := ⟨.hbm, 159, rfl⟩
abbrev main_while0c_v160 : Ref sig .tc := ⟨.hbm, 160, rfl⟩
abbrev main_while0b_call1_c : Ref sig .tc := ⟨.hbm, 161, rfl⟩
abbrev main_while0b_call1_c_0 : Ref sig .tc := ⟨.hbm, 162, rfl⟩
abbrev main_while0b_call1_c_1 : Ref sig .tc := ⟨.hbm, 163, rfl⟩
abbrev main_while0b_call1_c_2 : Ref sig .tc := ⟨.hbm, 164, rfl⟩
abbrev main_while0b_call1_v0 : Ref sig .tc := ⟨.hbm, 165, rfl⟩
abbrev main_while0b_v160 : Ref sig .tc := ⟨.hbm, 166, rfl⟩
abbrev main_while0b_call2_c : Ref sig .tc := ⟨.hbm, 167, rfl⟩
abbrev main_while0b_call2_c_0 : Ref sig .tc := ⟨.hbm, 168, rfl⟩
abbrev main_while0b_call2_c_1 : Ref sig .tc := ⟨.hbm, 169, rfl⟩
abbrev main_while0b_call2_c_2 : Ref sig .tc := ⟨.hbm, 170, rfl⟩
abbrev main_while0b_call2_v0 : Ref sig .tc := ⟨.hbm, 171, rfl⟩
abbrev main_while0b_v161 : Ref sig .tc := ⟨.hbm, 172, rfl⟩
abbrev main_while0b_call3_c : Ref sig .tc := ⟨.hbm, 173, rfl⟩
abbrev main_while0b_call3_c_0 : Ref sig .tc := ⟨.hbm, 174, rfl⟩
abbrev main_while0b_call3_c_1 : Ref sig .tc := ⟨.hbm, 175, rfl⟩
abbrev main_while0b_call3_c_2 : Ref sig .tc := ⟨.hbm, 176, rfl⟩
abbrev main_while0b_call3_v0 : Ref sig .tc := ⟨.hbm, 177, rfl⟩
abbrev main_while0b_v162 : Ref sig .tc := ⟨.hbm, 178, rfl⟩
abbrev main_while0b_v163 : Ref sig .tc := ⟨.hbm, 179, rfl⟩
abbrev main_while0b_v164 : Ref sig .tc := ⟨.hbm, 180, rfl⟩
abbrev main_while0b_v165 : Ref sig .tc := ⟨.hbm, 181, rfl⟩
abbrev main_while0b_v166 : Ref sig .tc := ⟨.hbm, 182, rfl⟩
abbrev main_while0b_v167 : Ref sig .tc := ⟨.hbm, 183, rfl⟩
abbrev main_while0b_v168 : Ref sig .tc := ⟨.hbm, 184, rfl⟩
abbrev main_while0b_v169 : Ref sig .tc := ⟨.hbm, 185, rfl⟩
abbrev main_while0b_v170 : Ref sig .tc := ⟨.hbm, 186, rfl⟩
abbrev main_while0b_v171 : Ref sig .tc := ⟨.hbm, 187, rfl⟩
abbrev main_while0b_v172 : Ref sig .tc := ⟨.hbm, 188, rfl⟩
abbrev main_while0b_v173 : Ref sig .tc := ⟨.hbm, 189, rfl⟩
abbrev main_while0b_v174 : Ref sig .tc := ⟨.hbm, 190, rfl⟩
abbrev main_while0b_v175 : Ref sig .tc := ⟨.hbm, 191, rfl⟩
abbrev main_while0b_v176 : Ref sig .tc := ⟨.hbm, 192, rfl⟩
abbrev main_while0b_v177 : Ref sig .tc := ⟨.hbm, 193, rfl⟩
abbrev main_while0b_v178 : Ref sig .tc := ⟨.hbm, 194, rfl⟩
abbrev main_while0b_v179 : Ref sig .tc := ⟨.hbm, 195, rfl⟩
abbrev main_while0b_v180 : Ref sig .tc := ⟨.hbm, 196, rfl⟩
abbrev main_while0b_call4_v0 : Ref sig .tc := ⟨.hbm, 197, rfl⟩
abbrev main_while0b_call4_c : Ref sig .tc := ⟨.hbm, 198, rfl⟩
abbrev main_while0b_call4_c_0 : Ref sig .tc := ⟨.hbm, 199, rfl⟩
abbrev main_while0b_call4_c_1 : Ref sig .tc := ⟨.hbm, 200, rfl⟩
abbrev main_while0b_call4_c_2 : Ref sig .tc := ⟨.hbm, 201, rfl⟩
abbrev main_while0b_v181 : Ref sig .tc := ⟨.hbm, 202, rfl⟩
abbrev main_while0b_c_33 : Ref sig .tc := ⟨.hbm, 203, rfl⟩
abbrev main_while0b_v182 : Ref sig .tc := ⟨.hbm, 204, rfl⟩
abbrev main_v126 : Ref sig .tc := ⟨.hbm, 205, rfl⟩
abbrev main_v127 : Ref sig .tc := ⟨.hbm, 206, rfl⟩
abbrev main_cst_17 : Ref sig .tc := ⟨.hbm, 207, rfl⟩
abbrev main_v128 : Ref sig .tc := ⟨.hbm, 208, rfl⟩
abbrev main_v129 : Ref sig .tc := ⟨.hbm, 209, rfl⟩
abbrev main_cst_18 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_cst_19 : Ref sig .tc := ⟨.hbm, 216, rfl⟩
abbrev main_v135 : Ref sig .tc := ⟨.hbm, 217, rfl⟩
abbrev main_v136 : Ref sig .tc := ⟨.hbm, 218, rfl⟩
abbrev main_cst_20 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_cst_21 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_cst_22 : Ref sig .tc := ⟨.hbm, 235, rfl⟩
abbrev main_v151 : Ref sig .tc := ⟨.hbm, 236, rfl⟩
abbrev main_v152 : Ref sig .tc := ⟨.hbm, 237, rfl⟩
abbrev main_cst_23 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩

abbrev nD : Nat := 1
abbrev τ : Topo := Topo.v7x

variable {F : FTy → Type} [FloatOps F]

abbrev main_while0_count : Scf.Loop 32 := ⟨0#32, 33#32, 1#32⟩
-- ==== Proof.ExpertsRun.lean ====
/-
  The experts kernel run once, at one grid point, over symbolic operands: from the eight staged inputs held whole at
  any contents and the output's buffer and the eleven scratch buffers at something, every execution returns with the
  inputs as they were. Nothing is said of the values computed.
-/
module

public import proofs.«01_k».proof.Proof.Gen.Kernel
public import proofs.«01_k».proof.Proof.Gen.Kernel.Skeleton
public import proofs.«01_k».proof.Proof.Gen.Kernel.Loops
public import proofs.«01_k».proof.Proof.Gen.Kernel.Frame
public import Idealize.ShloMosaic.Lib.Tactic

@[expose] public section

noncomputable section

namespace Cert.Proof.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- The contents a memref's buffer may have on core `c`. -/
abbrev Bf (c : Dev nD) {sp : Space} {S : Shape} {e : EltTy} (M : Memref sig .tc sp S e) : Type :=
  Buf (Elt F) (M.view.loc (c : Thread nD τ))

/-- A memref's buffer on core `c` held whole at the contents `f`. -/
abbrev held (c : Dev nD) {sp : Space} {S : Shape} {e : EltTy} (M : Memref sig .tc sp S e) (f : Bf (F := F) c M) : sProp 𝕄 :=
  M.view.loc (c : Thread nD τ) ↦{fullShare} f

variable (c : Dev nD) (i : grid0.Coords)
  (arg2 : Memref sig .tc .vmem S1024x2048 .bf16) (harg2 : arg2.IsWhole)
  (arg3 : Memref sig .tc .vmem S8x2x128x128 .bf16) (harg3 : arg3.IsWhole)
  (arg4 : Memref sig .tc .vmem S512x2048 .bf16) (harg4 : arg4.IsWhole)
  (arg5 : Memref sig .tc .vmem S512x2048 .bf16) (harg5 : arg5.IsWhole)
  (arg6 : Memref sig .tc .vmem S512x2048 .f32) (harg6 : arg6.IsWhole)
  (arg7 : Memref sig .tc .vmem S1024x2048 .bf16) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S512x2048 .f32) (harg10 : arg10.IsWhole)
  (arg11 : Memref sig .tc .vmem S33792x128 .i32) (harg11 : arg11.IsWhole)
  (arg12 : Memref sig .tc .vmem S512x1024 .bf16) (harg12 : arg12.IsWhole)
  (arg13 : Memref sig .tc .vmem S128x512 .i32) (harg13 : arg13.IsWhole)
  (arg14 : Memref sig .tc .vmem S128x512 .f32) (harg14 : arg14.IsWhole)
  (arg15 : Memref sig .tc .vmem S512x128 .i32) (harg15 : arg15.IsWhole)
  (arg16 : Memref sig .tc .vmem S512x128 .f32) (harg16 : arg16.IsWhole)
  (arg17 : Memref sig .tc .vmem S2x2x2x128x128 .f32) (harg17 : arg17.IsWhole)
  (arg18 : Memref sig .tc .vmem S2x2x16x128 .f32) (harg18 : arg18.IsWhole)
  (arg19 : Memref sig .tc .vmem S2x2x16x128 .i32) (harg19 : arg19.IsWhole)
  (arg20 : Memref sig .tc .vmem S2x16x128 .f32) (harg20 : arg20.IsWhole)
  (arg21 : Memref sig .tc .vmem S2x16x128 .i32) (harg21 : arg21.IsWhole)

/-- One trip of the gate loop, two rows of the gate table: it reads the selected ids and gates of two tokens and
    stores the packed words of their gate rows at a stride. Its resources are the same at every trip. -/
@[sl_loop, instance_reducible] def gateLoop (arg0 : BitVec 32) (k0_h1 : k0_cond1 i = 1#1) (k0_h3 : k0_cond3 i = 1#1) (v16823 : IVec S128x128 32) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 k0_h1 k0_h3 v16823 where
  inv _ _ := iprop((∃ f, held c arg11 f) ∗ (∃ f, held c arg15 f) ∗ (∃ f, held c arg16 f))
  step k acc := by
    unfold k0_t1_body
    iintro ⟨⟨%f11, H11⟩, ⟨%f15, H15⟩, ⟨%f16, H16⟩⟩
    sl_exec_parts
    sl_step
    isplitl [H11]; · iexists _; iexact H11
    isplitl [H15]; · iexists _; iexact H15
    iexists _; iexact H16

/-- The eight staged inputs at their contents. -/
abbrev inputs (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) : sProp 𝕄 :=
  iprop(held c arg2 f2 ∗ held c arg3 f3 ∗ held c arg4 f4 ∗ held c arg5 f5 ∗ held c arg6 f6 ∗ held c arg7 f7 ∗ held c arg8 f8 ∗ held c arg9 f9)

/-- The output's buffer and the scratch buffers, each at something. -/
abbrev others : sProp 𝕄 :=
  iprop((∃ f, held c arg10 f) ∗ (∃ f, held c arg11 f) ∗ (∃ f, held c arg12 f) ∗ (∃ f, held c arg13 f) ∗ (∃ f, held c arg14 f) ∗ (∃ f, held c arg15 f) ∗ (∃ f, held c arg16 f) ∗ (∃ f, held c arg17 f) ∗ (∃ f, held c arg18 f) ∗ (∃ f, held c arg19 f) ∗ (∃ f, held c arg20 f) ∗ (∃ f, held c arg21 f))

/-- The kernel's opening — at the first expert block of a tile the output zeroed, the gate table cleared at the first tile
    and rebuilt from the second on, and the first head's scores; then the product of the tile with the block's rows. -/
theorem opening_run (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9)
    (R : sProp 𝕄) (Q : _ → sProp 𝕄)
    (hQ : ∀ a, iprop(inputs c arg2 arg3 arg4 arg5 arg6 arg7 arg8 arg9 f2 f3 f4 f5 f6 f7 f8 f9 ∗ others (F := F) c arg10 arg11 arg12 arg13 arg14 arg15 arg16 arg17 arg18 arg19 arg20 arg21 ∗ R) ⊢ Q a) :
    iprop(inputs c arg2 arg3 arg4 arg5 arg6 arg7 arg8 arg9 f2 f3 f4 f5 f6 f7 f8 f9 ∗ others (F := F) c arg10 arg11 arg12 arg13 arg14 arg15 arg16 arg17 arg18 arg19 arg20 arg21 ∗ R)
      ⊢ wp frame (wpE (defs₀ (F := F)) Variants.none c none) Set.univ (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  by_cases h1 : k0_cond1 i = 1#1 <;> by_cases h3 : k0_cond3 i = 1#1 <;>
  · iintro ⟨⟨H2, H3, H4, H5, H6, H7, H8, H9⟩, ⟨⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩⟩, HR⟩
    sl_exec_parts
    sl_step
    iapply hQ
    isplitl [H2 H3 H4 H5 H6 H7 H8 H9]
    · isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitr [HR]
    · isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      iexists _; iexact H21
    iexact HR

/-- The whole kernel at one grid point. -/
theorem kernel_run (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (Q : PUnit → sProp 𝕄) :
    iprop(inputs c arg2 arg3 arg4 arg5 arg6 arg7 arg8 arg9 f2 f3 f4 f5 f6 f7 f8 f9 ∗ others (F := F) c arg10 arg11 arg12 arg13 arg14 arg15 arg16 arg17 arg18 arg19 arg20 arg21
        ∗ (iprop(inputs c arg2 arg3 arg4 arg5 arg6 arg7 arg8 arg9 f2 f3 f4 f5 f6 f7 f8 f9 ∗ others (F := F) c arg10 arg11 arg12 arg13 arg14 arg15 arg16 arg17 arg18 arg19 arg20 arg21) -∗ Q ⟨⟩))
      ⊢ wp frame (wpE (defs₀ (F := F)) Variants.none c none) Set.univ (cc0_experts i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  unfold cc0_experts
  rw [wp_bind, k0_part395_eq_skeleton]
  unfold k0_part395_skel
  rw [wp_bind]
  refine opening_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f9 _ _ fun a => ?_
  obtain ⟨w0, w1, w2, w3, w4, w5, w6⟩ := a
  dsimp only
  rw [← wp_bind]
  iintro ⟨⟨H2, H3, H4, H5, H6, H7, H8, H9⟩, ⟨⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩⟩, HQ⟩
  sl_exec_parts
  by_cases hl : Scalar.cmpi .ne (Scalar.extui (Scalar.cmpi .eq w0 15#32)) 0#32 = 1#1 <;>
  · sl_exec_parts
    sl_step
    iapply HQ
    isplitl [H2 H3 H4 H5 H6 H7 H8 H9]
    · isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.Proof.Experts

end
-- ==== Proof.ExpertsFrame.lean ====
/-
  The frame of the experts call, over any float values: every execution of the program ends with its eight arguments as
  they were and every semaphore at zero. The pipeline's proof data name each input's block; the output window is
  forgotten (its block is accumulated over the expert blocks of a tile, and nothing is said of it); the eleven scratch
  buffers hold something between points. The kernel's run (ExpertsRun.lean) discharges the body at every point.
-/
module

public import proofs.«01_k».proof.Proof.ExpertsRun
public import proofs.«01_k».proof.Proof.Gen.Kernel.Launch
public import proofs.«01_k».proof.Proof.Gen.Kernel.Points
public import Idealize.ShloMosaic.Lib.Pipeline.FrameBody

@[expose] public section

noncomputable section

namespace Cert.Proof.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligation)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Window 8, the output's, is the one nothing is said of. -/
abbrev unsaid : Fin 9 → Bool := fun w => w.val == 8

/-- The proof data: each array as the region finds it, each input's block left in place, the scratch buffers at
    something. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

theorem data_array (c : Dev nD) (w : Fin cfg0.W) : (data m 0 c).A w = V m c (Pipeline.arrRef spec0 w) := by
  dsimp only [data]

theorem left_0 (c : Dev nD) (t : Fin cfg0.N) : (data m 0 c).after 0 t = iblk m c 0 t := by dsimp only [data]
theorem left_1 (c : Dev nD) (t : Fin cfg0.N) : (data m 0 c).after 1 t = iblk m c 1 t := by dsimp only [data]
theorem left_2 (c : Dev nD) (t : Fin cfg0.N) : (data m 0 c).after 2 t = iblk m c 2 t := by dsimp only [data]
theorem left_3 (c : Dev nD) (t : Fin cfg0.N) : (data m 0 c).after 3 t = iblk m c 3 t := by dsimp only [data]
theorem left_4 (c : Dev nD) (t : Fin cfg0.N) : (data m 0 c).after 4 t = iblk m c 4 t := by dsimp only [data]
theorem left_5 (c : Dev nD) (t : Fin cfg0.N) : (data m 0 c).after 5 t = iblk m c 5 t := by dsimp only [data]
theorem left_6 (c : Dev nD) (t : Fin cfg0.N) : (data m 0 c).after 6 t = iblk m c 6 t := by dsimp only [data]
theorem left_7 (c : Dev nD) (t : Fin cfg0.N) : (data m 0 c).after 7 t = iblk m c 7 t := by dsimp only [data]
theorem found_0 (c : Dev nD) (t : Fin cfg0.N) (d) : (data m 0 c).before 0 t d = iblk m c 0 t :=
  before0_0_of m (data m 0 c) (data_array m c 0) (left_0 m c) t d
theorem found_1 (c : Dev nD) (t : Fin cfg0.N) (d) : (data m 0 c).before 1 t d = iblk m c 1 t :=
  before0_1_of m (data m 0 c) (data_array m c 1) (left_1 m c) t d
theorem found_2 (c : Dev nD) (t : Fin cfg0.N) (d) : (data m 0 c).before 2 t d = iblk m c 2 t :=
  before0_2_of m (data m 0 c) (data_array m c 2) (left_2 m c) t d
theorem found_3 (c : Dev nD) (t : Fin cfg0.N) (d) : (data m 0 c).before 3 t d = iblk m c 3 t :=
  before0_3_of m (data m 0 c) (data_array m c 3) (left_3 m c) t d
theorem found_4 (c : Dev nD) (t : Fin cfg0.N) (d) : (data m 0 c).before 4 t d = iblk m c 4 t :=
  before0_4_of m (data m 0 c) (data_array m c 4) (left_4 m c) t d
theorem found_5 (c : Dev nD) (t : Fin cfg0.N) (d) : (data m 0 c).before 5 t d = iblk m c 5 t :=
  before0_5_of m (data m 0 c) (data_array m c 5) (left_5 m c) t d
theorem found_6 (c : Dev nD) (t : Fin cfg0.N) (d) : (data m 0 c).before 6 t d = iblk m c 6 t :=
  before0_6_of m (data m 0 c) (data_array m c 6) (left_6 m c) t d
theorem found_7 (c : Dev nD) (t : Fin cfg0.N) (d) : (data m 0 c).before 7 t d = iblk m c 7 t :=
  before0_7_of m (data m 0 c) (data_array m c 7) (left_7 m c) t d

/-- What the body is given at point `t`, window by window. -/
def pointPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare d))

/-- What it gives back. -/
def pointPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ (∃ d, owns (c : Thread nD τ) (st0_8 t) fullShare d))

/-- A whole memref owned at `X` is its buffer held whole at contents that read as `X`. -/
theorem owns_held (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ held c M f) := by
  unfold owns; rw [h.set_eq_univ]

/-- The kernel's run with the windows' memrefs owned at the vectors they read as. -/
theorem owned_run (c : Dev nD) (i : grid0.Coords)
  (arg2 : Memref sig .tc .vmem S1024x2048 .bf16) (harg2 : arg2.IsWhole)
  (arg3 : Memref sig .tc .vmem S8x2x128x128 .bf16) (harg3 : arg3.IsWhole)
  (arg4 : Memref sig .tc .vmem S512x2048 .bf16) (harg4 : arg4.IsWhole)
  (arg5 : Memref sig .tc .vmem S512x2048 .bf16) (harg5 : arg5.IsWhole)
  (arg6 : Memref sig .tc .vmem S512x2048 .f32) (harg6 : arg6.IsWhole)
  (arg7 : Memref sig .tc .vmem S1024x2048 .bf16) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S512x2048 .f32) (harg10 : arg10.IsWhole)
  (arg11 : Memref sig .tc .vmem S33792x128 .i32) (harg11 : arg11.IsWhole)
  (arg12 : Memref sig .tc .vmem S512x1024 .bf16) (harg12 : arg12.IsWhole)
  (arg13 : Memref sig .tc .vmem S128x512 .i32) (harg13 : arg13.IsWhole)
  (arg14 : Memref sig .tc .vmem S128x512 .f32) (harg14 : arg14.IsWhole)
  (arg15 : Memref sig .tc .vmem S512x128 .i32) (harg15 : arg15.IsWhole)
  (arg16 : Memref sig .tc .vmem S512x128 .f32) (harg16 : arg16.IsWhole)
  (arg17 : Memref sig .tc .vmem S2x2x2x128x128 .f32) (harg17 : arg17.IsWhole)
  (arg18 : Memref sig .tc .vmem S2x2x16x128 .f32) (harg18 : arg18.IsWhole)
  (arg19 : Memref sig .tc .vmem S2x2x16x128 .i32) (harg19 : arg19.IsWhole)
  (arg20 : Memref sig .tc .vmem S2x16x128 .f32) (harg20 : arg20.IsWhole)
  (arg21 : Memref sig .tc .vmem S2x16x128 .i32) (harg21 : arg21.IsWhole)
  (X2 : Vec F S1024x2048 .bf16) (X3 : Vec F S8x2x128x128 .bf16) (X4 : Vec F S512x2048 .bf16) (X5 : Vec F S512x2048 .bf16) (X6 : Vec F S512x2048 .f32) (X7 : Vec F S1024x2048 .bf16) (X8 : Vec F S1x2048 .f32) (X9 : Vec F S1x2048 .f32) (Q : PUnit → sProp 𝕄) :
    iprop((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9) ∗ (∃ d, owns (c : Thread nD τ) arg10 fullShare d) ∗ ((∃ f, held (F := F) c arg11 f) ∗ (∃ f, held (F := F) c arg12 f) ∗ (∃ f, held (F := F) c arg13 f) ∗ (∃ f, held (F := F) c arg14 f) ∗ (∃ f, held (F := F) c arg15 f) ∗ (∃ f, held (F := F) c arg16 f) ∗ (∃ f, held (F := F) c arg17 f) ∗ (∃ f, held (F := F) c arg18 f) ∗ (∃ f, held (F := F) c arg19 f) ∗ (∃ f, held (F := F) c arg20 f) ∗ (∃ f, held (F := F) c arg21 f))
        ∗ (iprop((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9) ∗ (∃ d, owns (c : Thread nD τ) arg10 fullShare d) ∗ ((∃ f, held (F := F) c arg11 f) ∗ (∃ f, held (F := F) c arg12 f) ∗ (∃ f, held (F := F) c arg13 f) ∗ (∃ f, held (F := F) c arg14 f) ∗ (∃ f, held (F := F) c arg15 f) ∗ (∃ f, held (F := F) c arg16 f) ∗ (∃ f, held (F := F) c arg17 f) ∗ (∃ f, held (F := F) c arg18 f) ∗ (∃ f, held (F := F) c arg19 f) ∗ (∃ f, held (F := F) c arg20 f) ∗ (∃ f, held (F := F) c arg21 f))) -∗ Q ⟨⟩))
      ⊢ wp frame (wpE (defs₀ (F := F)) Variants.none c none) Set.univ (cc0_experts i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  rw [owns_held c arg2 harg2, owns_held c arg3 harg3, owns_held c arg4 harg4, owns_held c arg5 harg5, owns_held c arg6 harg6, owns_held c arg7 harg7, owns_held c arg8 harg8, owns_held c arg9 harg9]
  simp only [owns_held c arg10 harg10]
  iintro ⟨⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩⟩, ⟨%d10, ⟨%g10, %e10, H10⟩⟩, ⟨⟨%s11, H11⟩, ⟨%s12, H12⟩, ⟨%s13, H13⟩, ⟨%s14, H14⟩, ⟨%s15, H15⟩, ⟨%s16, H16⟩, ⟨%s17, H17⟩, ⟨%s18, H18⟩, ⟨%s19, H19⟩, ⟨%s20, H20⟩, ⟨%s21, H21⟩⟩, HQ⟩
  iapply (kernel_run (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 g2 g3 g4 g5 g6 g7 g8 g9 Q)
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10 H11 H12 H13 H14 H15 H16 H17 H18 H19 H20 H21]
  · isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21
  iintro ⟨⟨H2, H3, H4, H5, H6, H7, H8, H9⟩, ⟨⟨%s10', H10⟩, ⟨%s11', H11⟩, ⟨%s12', H12⟩, ⟨%s13', H13⟩, ⟨%s14', H14⟩, ⟨%s15', H15⟩, ⟨%s16', H16⟩, ⟨%s17', H17⟩, ⟨%s18', H18⟩, ⟨%s19', H19⟩, ⟨%s20', H20⟩, ⟨%s21', H21⟩⟩⟩
  iapply HQ
  isplitl [H2 H3 H4 H5 H6 H7 H8 H9]
  · isplitl [H2]
    · iexists _; isplitr
      swap; · iexact H2
      ipureintro; exact e2
    isplitl [H3]
    · iexists _; isplitr
      swap; · iexact H3
      ipureintro; exact e3
    isplitl [H4]
    · iexists _; isplitr
      swap; · iexact H4
      ipureintro; exact e4
    isplitl [H5]
    · iexists _; isplitr
      swap; · iexact H5
      ipureintro; exact e5
    isplitl [H6]
    · iexists _; isplitr
      swap; · iexact H6
      ipureintro; exact e6
    isplitl [H7]
    · iexists _; isplitr
      swap; · iexact H7
      ipureintro; exact e7
    isplitl [H8]
    · iexists _; isplitr
      swap; · iexact H8
      ipureintro; exact e8
    iexists _; isplitr
    swap; · iexact H9
    ipureintro; exact e9
  isplitl [H10]
  · iexists _; iexists _; isplitr
    swap; · iexact H10
    ipureintro; rfl
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iexists _; iexact H21

/-- The scratch buffers one by one, and the core's generator register. -/
theorem scratch_eq (c : Dev nD) : (Pipeline.ΦA spec0 c : sProp 𝕄)
    = iprop(((∃ f, held (F := F) c (Memref.whole cc0_scratch0) f) ∗ (∃ f, held (F := F) c (Memref.whole cc0_scratch1) f) ∗ (∃ f, held (F := F) c (Memref.whole cc0_scratch2) f) ∗ (∃ f, held (F := F) c (Memref.whole cc0_scratch3) f) ∗ (∃ f, held (F := F) c (Memref.whole cc0_scratch4) f) ∗ (∃ f, held (F := F) c (Memref.whole cc0_scratch5) f) ∗ (∃ f, held (F := F) c (Memref.whole cc0_scratch6) f) ∗ (∃ f, held (F := F) c (Memref.whole cc0_scratch7) f) ∗ (∃ f, held (F := F) c (Memref.whole cc0_scratch8) f) ∗ (∃ f, held (F := F) c (Memref.whole cc0_scratch9) f) ∗ (∃ f, held (F := F) c (Memref.whole cc0_scratch10) f)) ∗ ∃ r, prngReg c r) := by
  unfold Pipeline.ΦA; rw [scopedRest0_eq]

set_option maxHeartbeats 2000000 in
/-- The body at any point. -/
theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [found_0, found_1, found_2, found_3, found_4, found_5, found_6, found_7]
  rw [show (data m 0 c).Φ t.succ = Pipeline.ΦA spec0 c from rfl, show (data m 0 c).Φ t.castSucc = Pipeline.ΦA spec0 c from rfl,
    show (data m 0 c).owesAt () t.succ = (data m 0 c).owesAt () t.castSucc from rfl, scratch_eq,
    left_0, left_1, left_2, left_3, left_4, left_5, left_6, left_7]
  iintro ⟨⟨⟨S0, S1, S2, S3, S4, S5, S6, S7, S8, S9, S10⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (owned_run (F := F) c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [S0 S1 S2 S3 S4 S5 S6 S7 S8 S9 S10]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  iintro ⟨⟨H0, H1, H2, H3, H4, H5, H6, H7⟩, H8, ⟨S0, S1, S2, S3, S4, S5, S6, S7, S8, S9, S10⟩⟩
  isplitl [HR S0 S1 S2 S3 S4 S5 S6 S7 S8 S9 S10]
  · isplitr [HR]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`. -/
theorem table_row (t : Fin cfg0.N) :
    defs₀ (F := F) .tc cfg0.body (cfg0.bodyArgs t (cfg0.slots t)) = bodyAt0 t := by
  unfold defs₀; rw [Defs.onTc_tc]

set_option maxRecDepth 8192 in
/-- The pipeline's obligation on the body. -/
theorem obligation (c : Dev nD) :
    BodyObligation (data (F := F) m 0 c) (defs₀ (F := F)) Variants.none () Set.univ unsaid := fun t => by
  rw [bigSep_W0, bigSep_W0, table_row]
  exact triple_restated (point_run m c t) rfl .rfl fun _ => .rfl

set_option backward.isDefEq.respectTransparency.types false in
/-- The run: each array but the output's is named, and every semaphore ends at zero. -/
theorem region_run : θ_run defs (onTc (τ := τ) (main (F := F))) (s₀ m ρ)
    (fun r => RDat.FramePost cfg0 (fun c => (data m 0 c).toRForget unsaid) (V m) r ∧ r.2.sem = fun _ => 0) :=
  Pipeline.θ_run_frame_forget (Q' := _) cfgs (data m) (0 : Fin 1) launch0 defs₀ Variants.none unsaid m ρ main
    (hbody := fun c => (obligation m c).loose) (hshare := fun _ w => by unfold Pipeline.Dat.share; split <;> rfl) (howed := fun _ _ => rfl) (V := V m)
    (hmain := hmain m Variants.none) (hA := data_array m) (hΦ := fun _ _ => rfl)

theorem frame : θ_run defs (onTc (τ := τ) (main (F := F))) ⟨m, fun _ => 0, ρ⟩ (fun r => (∀ c : Dev nD,

      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(RDat.FramePost.arr_in h.1 c 2 rfl).trans ((data_array m c 2).trans (V_main_arg0 m c)),
      ((h.1 c).2 main_arg1 (Pipeline.mem_restRefs_of main_arg1 (by decide) (by decide))).trans (V_main_arg1 m c),
      (RDat.FramePost.arr_in h.1 c 3 rfl).trans ((data_array m c 3).trans (V_main_arg2 m c)),
      (RDat.FramePost.arr_in h.1 c 4 rfl).trans ((data_array m c 4).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (region_run m ρ)

end Cert.Proof.Experts

end
-- ==== Proof.References.lean ====
/- The frames of the host references: each is a host program without a semaphore, so that every counter is
   zero where it ends, and none of its operations writes an argument. -/
module

public import proofs.«01_k».proof.Defs
public import proofs.«01_k».proof.Proof.Gen.InprojRefIdeal
public import proofs.«01_k».proof.Proof.Gen.InprojRefIdeal.Run
public import proofs.«01_k».proof.Proof.Gen.MixRefIdeal
public import proofs.«01_k».proof.Proof.Gen.MixRefIdeal.Run
public import proofs.«01_k».proof.Proof.Gen.AttnRefIdeal
public import proofs.«01_k».proof.Proof.Gen.AttnRefIdeal.Run
public import proofs.«01_k».proof.Proof.Gen.RetRefIdeal
public import proofs.«01_k».proof.Proof.Gen.RetRefIdeal.Run
public import Idealize.ShloMosaic.Lib.Quiescent

@[expose] public section

namespace Cert.Proof.References

open Idealize.ShloMosaic Idealize.SL.Sem

/-- The reference of the in-projection keeps its four arguments. -/
theorem inproj : Cert.quiescent_InprojRefIdeal := fun m ρ _ =>
  (θ_run Cert.InprojRefIdeal.defs _ _).mono
    (fun r h => ⟨fun c => (h c).2.2, sem_eq_zero_of_no_sems (by decide) r.2⟩)
    (Cert.InprojRefIdeal.Value.run (F := Ideal) m ρ)

/-- The reference of the mixing call keeps its seven arguments. -/
theorem mix : Cert.quiescent_MixRefIdeal := fun m ρ _ =>
  (θ_run Cert.MixRefIdeal.defs _ _).mono
    (fun r h => ⟨fun c => (h c).2.2.2, sem_eq_zero_of_no_sems (by decide) r.2⟩)
    (Cert.MixRefIdeal.Value.run (F := Ideal) m ρ)

/-- The reference of the attention keeps its three arguments. -/
theorem attn : Cert.quiescent_AttnRefIdeal := fun m ρ _ =>
  (θ_run Cert.AttnRefIdeal.defs _ _).mono
    (fun r h => ⟨fun c => (h c).2, sem_eq_zero_of_no_sems (by decide) r.2⟩)
    (Cert.AttnRefIdeal.Value.run (F := Ideal) m ρ)

/-- The reference of the retention keeps its two arguments. -/
theorem ret : Cert.quiescent_RetRefIdeal := fun m ρ _ =>
  (θ_run Cert.RetRefIdeal.defs _ _).mono
    (fun r h => ⟨fun c => (h c).2, sem_eq_zero_of_no_sems (by decide) r.2⟩)
    (Cert.RetRefIdeal.Value.run (F := Ideal) m ρ)

end Cert.Proof.References
end
-- ==== Proof.RowNorm.lean ====
/-
  THE LAYER NORM OF ONE ROW, as a function of the row, the gain and the bias, over the extended reals. Both the kernels'
  blocks and the references' arrays are read down to it.
-/
module

public import Idealize.ShloMosaic.Lib.Pointwise

@[expose] public section

noncomputable section

open Idealize.ShloMosaic

namespace Cert.Proof

/-- The mean of a row of 2048 entries: the sum over the printed constant. -/
def rowMean (x : Fin 2048 → EReal) : EReal := Ideal.div (∑ k, x k) (Ideal.ofBits .f32 0x45000000#32)

/-- Entry `k` of the layer norm of the row `x` with gain `g` and bias `b`. -/
def rowNorm (x g b : Fin 2048 → EReal) (k : Fin 2048) : EReal :=
  (x k - rowMean x) * Ideal.rsqrt (rowMean (fun l => (x l - rowMean x) * (x l - rowMean x)) + Ideal.ofBits .f32 0x3727C5AC#32) * g k + b k

theorem rowNorm_congr {x g b x' g' b' : Fin 2048 → EReal} (hx : ∀ l, x l = x' l) (hg : ∀ l, g l = g' l) (hb : ∀ l, b l = b' l)
    (k : Fin 2048) : rowNorm x g b k = rowNorm x' g' b' k := by
  rw [funext hx, funext hg, funext hb]

end Cert.Proof

end
-- ==== Proof.InprojValue.lean ====
/-
  THE INPUT PROJECTION'S VALUES. Over the extended reals the kernel's two result arrays are the reference's two
  composed terms: the layer-normed rows, and their product with the weight whose column groups are re-ordered. The
  kernel re-orders the weight's columns before it multiplies, the reference re-orders the product's columns after.
-/
module

public import proofs.«01_k».proof.Proof.Gen.InprojIdeal.Value
public import proofs.«01_k».proof.Proof.Gen.InprojRefIdeal.Run
public import Idealize.ShloMosaic.Lib.Pipeline.ValueKit
public import Idealize.ShloMosaic.Lib.Pointwise
public import proofs.«01_k».proof.Proof.RowNorm
public import proofs.«01_k».proof.Defs
public import Idealize.ShloMosaic.Lib.StableHlo.RunRead

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof

/-- Column `j` of the re-ordered projection, and of the kernel's weight, is this column of the weight argument. -/
def source (j : Fin 5376) : Fin 5376 :=
  ⟨if j.val < 1024 then j.val else if j.val < 5120 then j.val + 256 else j.val - 4096, by split_ifs <;> omega⟩

end Cert.Proof

namespace Cert.Proof.InprojRef

open Cert.InprojRefIdeal Cert.InprojRefIdeal.Gen

/-- The reference's mean over a row, kept as a column. -/
def mean (Y : FVec Ideal S4x4096x2048 .f32) : FVec Ideal S4x4096x1 .f32 :=
  Host.divf (broadcastInDim S4x4096x1 ![0, 1] bcast_S4x4096_S4x4096x1_0_1 (Host.reduceAdd Y (constant S_ .f32 0x00000000#32) reducesTo_S4x4096x2048_S4x4096_d2 h_S_)) (broadcastInDim S4x4096x1 ![] bcast_S_S4x4096x1 (constant S_ .f32 0x45000000#32))

/-- A row less its mean. -/
def centred (X : FVec Ideal S4x4096x2048 .f32) : FVec Ideal S4x4096x2048 .f32 :=
  subf X (broadcastInDim S4x4096x2048 ![0, 1, 2] bcast_S4x4096x1_S4x4096x2048_0_1_2 (mean X))

/-- The reference's layer norm. -/
def norm (X : FVec Ideal S4x4096x2048 .f32) (G B : FVec Ideal S2048 .f32) : FVec Ideal S4x4096x2048 .f32 :=
  addf (mulf (mulf (centred X) (broadcastInDim S4x4096x2048 ![0, 1, 2] bcast_S4x4096x1_S4x4096x2048_0_1_2 (Host.rsqrt (addf (mean (mulf (centred X) (centred X))) (broadcastInDim S4x4096x1 ![] bcast_S_S4x4096x1 (constant S_ .f32 0x3727C5AC#32)))))) (broadcastInDim S4x4096x2048 ![0, 1, 2] bcast_S1x1x2048_S4x4096x2048_0_1_2 (broadcastInDim S1x1x2048 ![2] bcast_S2048_S1x1x2048_2 G))) (broadcastInDim S4x4096x2048 ![0, 1, 2] bcast_S1x1x2048_S4x4096x2048_0_1_2 (broadcastInDim S1x1x2048 ![2] bcast_S2048_S1x1x2048_2 B))

/-- The reference's first result: the normed rows of the four batches, one below the other. -/
def rows (X : FVec Ideal S4x4096x2048 .f32) (G B : FVec Ideal S2048 .f32) : FVec Ideal S16384x2048 .f32 :=
  shapeCast _ (norm X G B) shapeCasts_S4x4096x2048_S16384x2048

/-- The projection of every row. -/
def product (X : FVec Ideal S4x4096x2048 .f32) (G B : FVec Ideal S2048 .f32) (W : FVec Ideal S1x2048x5376 .f32) : FVec Ideal S4x4096x5376 .f32 :=
  Host.dotGeneral dot_S4x4096x2048_S2048x5376_S4x4096x5376_2_0_01_1_n_n none (norm X G B) (shapeCast _ W shapeCasts_S1x2048x5376_S2048x5376)

/-- The reference's second result: the projection with its column groups re-ordered. -/
def projected (X : FVec Ideal S4x4096x2048 .f32) (G B : FVec Ideal S2048 .f32) (W : FVec Ideal S1x2048x5376 .f32) : FVec Ideal S16384x5376 .bf16 :=
  truncf .bf16 (shapeCast _ (concatenate S4x4096x5376 2 [⟨S4x4096x1024, (extractStridedSlice S4x4096x1024 ![0, 0, 0] (product X G B W) slices_S4x4096x5376_S4x4096x1024_0_0_0)⟩, ⟨S4x4096x4096, (extractStridedSlice S4x4096x4096 ![0, 0, 1280] (product X G B W) slices_S4x4096x5376_S4x4096x4096_0_0_1280)⟩, ⟨S4x4096x128, (extractStridedSlice S4x4096x128 ![0, 0, 1024] (product X G B W) slices_S4x4096x5376_S4x4096x128_0_0_1024)⟩, ⟨S4x4096x128, (extractStridedSlice S4x4096x128 ![0, 0, 1152] (product X G B W) slices_S4x4096x5376_S4x4096x128_0_0_1152)⟩] concatenates_S4x4096x1024_S4x4096x4096_S4x4096x128_S4x4096x128_S4x4096x5376_d2) shapeCasts_S4x4096x5376_S16384x5376) bitsLt_bf16_f32

theorem mean_at (Y : FVec Ideal S4x4096x2048 .f32) (a : Fin 4) (r : Fin 4096) :
    mean Y (ix3 a r 0) = rowMean fun k => Y (ix3 a r k) := by
  pointwise [mean, rowMean]

theorem centred_at (X : FVec Ideal S4x4096x2048 .f32) (a : Fin 4) (r : Fin 4096) (k : Fin 2048) :
    centred X (ix3 a r k) = X (ix3 a r k) - rowMean fun l => X (ix3 a r l) := by
  rw [← mean_at]
  pointwise [centred]

/-- The reference's norm at a position is the row's norm. -/
theorem norm_at (X : FVec Ideal S4x4096x2048 .f32) (G B : FVec Ideal S2048 .f32) (a : Fin 4) (r : Fin 4096) (k : Fin 2048) :
    norm X G B (ix3 a r k) = rowNorm (fun l => X (ix3 a r l)) (fun l => G (ix1 l)) (fun l => B (ix1 l)) k := by
  pointwise [norm, centred_at, mean_at, rowNorm]

theorem product_at (X : FVec Ideal S4x4096x2048 .f32) (G B : FVec Ideal S2048 .f32) (W : FVec Ideal S1x2048x5376 .f32)
    (a : Fin 4) (r : Fin 4096) (j : Fin 5376) :
    product X G B W (ix3 a r j) = ∑ k : Fin 2048, norm X G B (ix3 a r k) * W (ix3 0 k j) := by
  pointwise [product]

/-- The second result at a position is an entry of the projection. -/
theorem projected_at (X : FVec Ideal S4x4096x2048 .f32) (G B : FVec Ideal S2048 .f32) (W : FVec Ideal S1x2048x5376 .f32)
    (i : Fin 16384) (j : Fin 5376) :
    projected X G B W (ix2 i j) = product X G B W (ix3 ⟨i.val / 4096, by omega⟩ ⟨i.val % 4096, by omega⟩ (source j)) := by
  pointwise [projected]
  by_cases h : j.val < 1024
  · rw [dif_pos h]; blk_ext [source]; simp only [if_pos h]
  · rw [dif_neg h]
    by_cases h' : j.val - 1024 < 4096
    · rw [dif_pos h']; blk_ext [source]
      rw [if_neg h, if_pos (by omega)]; omega
    · rw [dif_neg h']
      split <;> (blk_ext [source]; rw [if_neg h, if_neg (by omega)]; omega)

end Cert.Proof.InprojRef

namespace Cert.Proof.Inproj

open Cert.InprojIdeal Cert.InprojIdeal.Gen

variable (m : (ℓ : Loc nD τ sig) → Buf (Elt Ideal) ℓ)

/-- Which block each window holds at grid point `t`. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The kernel's normed block, over any loaded blocks, is the row's norm. -/
theorem norm_at (P : FVec Ideal S512x2048 .f32) (G B : FVec Ideal S1x2048 .f32) (r : Fin 512) (k : Fin 2048) :
    k0_pay1 (F := Ideal) P G B (ix2 r k) = rowNorm (fun l => P (ix2 r l)) (fun l => G (ix2 0 l)) (fun l => B (ix2 0 l)) k := by
  pointwise [k0_pay1, rowNorm, rowMean]

/-- The arguments, at their literal types. -/
abbrev X (c : Dev nD) : FVec Ideal S4x4096x2048 .f32 := m ((c : Thread nD τ).loc main_arg0)
abbrev G (c : Dev nD) : FVec Ideal S2048 .f32 := m ((c : Thread nD τ).loc main_arg1)
abbrev B (c : Dev nD) : FVec Ideal S2048 .f32 := m ((c : Thread nD τ).loc main_arg2)
abbrev W (c : Dev nD) : FVec Ideal S1x2048x5376 .f32 := m ((c : Thread nD τ).loc main_arg3)

theorem lt (t : Fin cfg0.N) : t.val < 32 := lt_of_lt_of_eq t.isLt N_0

/-- Row `r` of a point's block lies in this batch. -/
abbrev batch (t : Fin cfg0.N) (r : Fin 512) : Fin 4 := ⟨(t.val * 512 + r.val) / 4096, by have := lt t; omega⟩
/-- And is this row of its batch. -/
abbrev row (t : Fin cfg0.N) (r : Fin 512) : Fin 4096 := ⟨(t.val * 512 + r.val) % 4096, by omega⟩

/-- The four blocks read back to the arguments. -/
theorem block_x (c : Dev nD) (t : Fin cfg0.N) (r : Fin 512) (k : Fin 2048) :
    (show FVec Ideal S512x2048 .f32 from iblk m c 0 t) (ix2 r k) = X m c (ix3 (batch t r) (row t r) k) := by
  show iblk m c 0 t (ix2 r k) = _
  blk_point [iblk, V, idx t]

theorem block_g (c : Dev nD) (t : Fin cfg0.N) (k : Fin 2048) :
    (show FVec Ideal S1x2048 .f32 from iblk m c 1 t) (ix2 0 k) = G m c (ix1 k) := by
  show iblk m c 1 t (ix2 0 k) = _
  blk_point [iblk, V, idx t]

theorem block_b (c : Dev nD) (t : Fin cfg0.N) (k : Fin 2048) :
    (show FVec Ideal S1x2048 .f32 from iblk m c 2 t) (ix2 0 k) = B m c (ix1 k) := by
  show iblk m c 2 t (ix2 0 k) = _
  blk_point [iblk, V, idx t]

/-- The kernel's weight: the argument's column groups in the kernel's order. -/
def weight (W : FVec Ideal S1x2048x5376 .f32) : FVec Ideal S2048x5376 .bf16 :=
  truncf .bf16 (concatenate S2048x5376 1 [⟨S2048x1024, shapeCast _ (extractStridedSlice S1x2048x1024 ![0, 0, 0] W slices_S1x2048x5376_S1x2048x1024_0_0_0) shapeCasts_S1x2048x1024_S2048x1024⟩, ⟨S2048x4096, shapeCast _ (extractStridedSlice S1x2048x4096 ![0, 0, 1280] W slices_S1x2048x5376_S1x2048x4096_0_0_1280) shapeCasts_S1x2048x4096_S2048x4096⟩, ⟨S2048x256, shapeCast _ (extractStridedSlice S1x2048x256 ![0, 0, 1024] W slices_S1x2048x5376_S1x2048x256_0_0_1024) shapeCasts_S1x2048x256_S2048x256⟩] concatenates_S2048x1024_S2048x4096_S2048x256_S2048x5376_d1) bitsLt_bf16_f32

theorem weight_at (W : FVec Ideal S1x2048x5376 .f32) (k : Fin 2048) (j : Fin 5376) :
    weight W (ix2 k j) = W (ix3 0 k (source j)) := by
  pointwise [weight]
  by_cases h : j.val < 1024
  · rw [dif_pos h]; blk_ext [source]; simp only [if_pos h]
  · rw [dif_neg h]
    by_cases h' : j.val - 1024 < 4096
    · rw [dif_pos h']; blk_ext [source]
      rw [if_neg h, if_pos (by omega)]; omega
    · rw [dif_neg h']; blk_ext [source]
      rw [if_neg h, if_neg (by omega)]; omega

theorem entry_w (c : Dev nD) : V m c main_v8 = weight (W m c) := by
  unfold V
  after_reads_simp
  rfl

theorem block_w (c : Dev nD) (t : Fin cfg0.N) (k : Fin 2048) (j : Fin 5376) :
    (show FVec Ideal S2048x5376 .bf16 from iblk m c 3 t) (ix2 k j) = W m c (ix3 0 k (source j)) := by
  refine Eq.trans ?_ (weight_at (W m c) k j)
  rw [← entry_w]
  show iblk m c 3 t (ix2 k j) = V m c main_v8 (ix2 k j)
  blk_simp [iblk]
  blk_ext [idx t]

/-- A point's normed block is the reference's norm of the block's rows. -/
theorem block_norm (c : Dev nD) (t : Fin cfg0.N) (r : Fin 512) (k : Fin 2048) :
    k0_pay1 (F := Ideal) (iblk m c 0 t) (iblk m c 1 t) (iblk m c 2 t) (ix2 r k)
      = InprojRef.norm (X m c) (G m c) (B m c) (ix3 (batch t r) (row t r) k) := by
  rw [InprojRef.norm_at]
  refine (norm_at _ _ _ r k).trans ?_
  simp only [block_x, block_g, block_b]

/-- The first result array. -/
theorem final4 (c : Dev nD) : (dats m 0 c).arrAt 4 (cfgs 0).N = InprojRef.rows (X m c) (G m c) (B m c) := by
  refine (dats m 0 c).arrAt_eq_of_covers 4 _ (by decide +kernel) fun t _ y => ?_
  blk_simp
  rw [after0_4]; frame_out
  idx_vars y
  refine (block_norm m c t y0 y1).trans ?_
  pointwise [InprojRef.rows]
  blk_point [idx t]

/-- Every entry of a point's projected block: a row's norm times a column of the kernel's weight. -/
theorem core (c : Dev nD) (t : Fin cfg0.N) (r : Fin 512) (j : Fin 5376) (i : Fin 16384) (hi : i.val = t.val * 512 + r.val) :
    ∑ k : Fin 2048, k0_pay1 (F := Ideal) (iblk m c 0 t) (iblk m c 1 t) (iblk m c 2 t) (ix2 r k)
        * (show FVec Ideal S2048x5376 .bf16 from iblk m c 3 t) (ix2 k j)
      = InprojRef.projected (X m c) (G m c) (B m c) (W m c) (ix2 i j) := by
  rw [InprojRef.projected_at, InprojRef.product_at]
  refine Finset.sum_congr rfl fun k _ => ?_
  rw [block_norm, block_w]
  have e : (ix3 (batch t r) (row t r) k : Cert.InprojRefIdeal.S4x4096x2048.Idx)
      = ix3 ⟨i.val / 4096, by omega⟩ ⟨i.val % 4096, by omega⟩ k := by
    blk_ext
  rw [e]

theorem point5 (c : Dev nD) (t : Fin cfg0.N) (y : S512x5376.Idx) :
    out0_5 (F := Ideal) (iblk m c 0 t) (iblk m c 1 t) (iblk m c 2 t) (iblk m c 3 t) y
      = ∑ k : Fin 2048, k0_pay1 (F := Ideal) (iblk m c 0 t) (iblk m c 1 t) (iblk m c 2 t) (ix2 (y 0) k)
        * (show FVec Ideal S2048x5376 .bf16 from iblk m c 3 t) (ix2 k (y 1)) := by
  canon_tiles x h
  all_goals (open_payloads; pointwise; blk_point [])

/-- The second result array. -/
theorem final5 (c : Dev nD) : (dats m 0 c).arrAt 5 (cfgs 0).N = InprojRef.projected (X m c) (G m c) (B m c) (W m c) := by
  refine (dats m 0 c).arrAt_eq_of_covers 5 _ (by decide +kernel) fun t _ y => ?_
  blk_simp
  rw [after0_5]
  refine (point5 m c t y).trans ?_
  idx_vars y
  have h := lt t
  refine (core m c t y0 y1 ⟨t.val * 512 + y0.val, by omega⟩ rfl).trans ?_
  blk_ext [idx t]

/-- The input projection at the ideal instance: the kernel's two results are the reference's. -/
theorem algebraic : Cert.algebraic_InprojIdeal_InprojRefIdeal := by
  intro m ρ m' ρ' _ hagree
  refine ⟨_, _, Cert.InprojIdeal.Value.run_blocks m ρ, ?_⟩
  refine (θ_run Cert.InprojRefIdeal.defs _ _).mono (fun _ h c => ?_) (Cert.InprojRefIdeal.Value.run (F := Ideal) m' ρ')
  obtain ⟨e0, e1, kept⟩ := h c
  obtain ⟨a0, a1, a2, a3⟩ := hagree c
  refine ⟨e0.trans ?_, e1.trans ?_, kept⟩
  · refine Eq.trans ?_ (final4 m c).symm
    rw [a0, a1, a2]
    rfl
  · refine Eq.trans ?_ (final5 m c).symm
    unfold Cert.InprojRefIdeal.Value.res_main_v33
    rw [a0, a1, a2, a3]
    rfl

end Cert.Proof.Inproj

end
-- ==== Proof.MixValue.lean ====
/-
  THE MIX'S VALUES. Over the extended reals the kernel's three result arrays are the reference's: the layer norm of the
  scaled residual plus the output projection, the same again, and its product with the query weight. The kernel adds
  the products of the two halves where the reference multiplies their concatenation.
-/
module

public import proofs.«01_k».proof.Proof.Gen.MixIdeal.Value
public import proofs.«01_k».proof.Proof.Gen.MixRefIdeal.Run
public import Idealize.ShloMosaic.Lib.Pipeline.ValueKit
public import Idealize.ShloMosaic.Lib.Pointwise
public import proofs.«01_k».proof.Proof.RowNorm
public import Idealize.ShloMosaic.Lib.StableHlo.RunRead
public import proofs.«01_k».proof.Defs

@[expose] public section

set_option maxRecDepth 16384

noncomputable section

open Idealize.ShloMosaic Idealize.ShloMosaic.TcCoe Idealize.SL.Sem Idealize.ShloMosaic.StableHlo
open Idealize.ShloMosaic.Pipeline (Dat)

namespace Cert.Proof

/-- Entry `k` of a row before the norm: the scaled residual `h`, plus the products of the attention's row `a` and the
    retention's row `r` with the two halves of column `k` of the weight. -/
def mixRow (a r : Fin 1024 → EReal) (h : Fin 2048 → EReal) (w : Fin 2048 → Fin 2048 → EReal) (k : Fin 2048) : EReal :=
  Ideal.ofBits .f32 0x3F9837F0#32 * h k
    + (∑ l : Fin 1024, a l * w ⟨l.val, by omega⟩ k + ∑ l : Fin 1024, r l * w ⟨1024 + l.val, by omega⟩ k)

end Cert.Proof

namespace Cert.Proof.MixRef

open Cert.MixRefIdeal Cert.MixRefIdeal.Gen

/-- The reference's rows before the norm. -/
def sum (A R : FVec Ideal S16384x1024 .bf16) (H : FVec Ideal S16384x2048 .f32) (W : FVec Ideal S1x2048x2048 .f32) : FVec Ideal S16384x2048 .f32 :=
  addf (mulf (broadcastInDim S16384x2048 ![] bcast_S_S16384x2048 (constant S_ .f32 0x3F9837F0#32)) H) (Host.dotGeneral dot_S16384x2048_S2048x2048_S16384x2048_1_0_0_1_n_n none (concatenate S16384x2048 1 [⟨S16384x1024, extf .f32 A bitsLt_bf16_f32⟩, ⟨S16384x1024, extf .f32 R bitsLt_bf16_f32⟩] concatenates_S16384x1024_S16384x1024_S16384x2048_d1) (shapeCast _ W shapeCasts_S1x2048x2048_S2048x2048))

/-- The reference's mean over a row, kept as a column. -/
def mean (Y : FVec Ideal S16384x2048 .f32) : FVec Ideal S16384x1 .f32 :=
  Host.divf (broadcastInDim S16384x1 ![0] bcast_S16384_S16384x1_0 (Host.reduceAdd Y (constant S_ .f32 0x00000000#32) reducesTo_S16384x2048_S16384_d1 h_S_)) (broadcastInDim S16384x1 ![] bcast_S_S16384x1 (constant S_ .f32 0x45000000#32))

/-- A row less its mean. -/
def centred (X : FVec Ideal S16384x2048 .f32) : FVec Ideal S16384x2048 .f32 :=
  subf X (broadcastInDim S16384x2048 ![0, 1] bcast_S16384x1_S16384x2048_0_1 (mean X))

/-- The reference's layer norm. -/
def norm (X : FVec Ideal S16384x2048 .f32) (G B : FVec Ideal S1x2048 .f32) : FVec Ideal S16384x2048 .f32 :=
  addf (mulf (mulf (centred X) (broadcastInDim S16384x2048 ![0, 1] bcast_S16384x1_S16384x2048_0_1 (Host.rsqrt (addf (mean (mulf (centred X) (centred X))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 (shapeCast _ G shapeCasts_S1x2048_S2048)))) (broadcastInDim S16384x2048 ![0, 1] bcast_S1x2048_S16384x2048_0_1 (broadcastInDim S1x2048 ![1] bcast_S2048_S1x2048_1 (shapeCast _ B shapeCasts_S1x2048_S2048)))

/-- The queries: the rows' product with the query weight. -/
def queries (Y : FVec Ideal S16384x2048 .f32) (Q : FVec Ideal S1x2048x2048 .f32) : FVec Ideal S16384x2048 .bf16 :=
  truncf .bf16 (Host.dotGeneral dot_S16384x2048_S2048x2048_S16384x2048_1_0_0_1_n_n none Y (shapeCast _ Q shapeCasts_S1x2048x2048_S2048x2048)) bitsLt_bf16_f32

theorem sum_at (A R : FVec Ideal S16384x1024 .bf16) (H : FVec Ideal S16384x2048 .f32) (W : FVec Ideal S1x2048x2048 .f32)
    (i : Fin 16384) (k : Fin 2048) :
    sum A R H W (ix2 i k) = mixRow (fun l => A (ix2 i l)) (fun l => R (ix2 i l)) (fun l => H (ix2 i l)) (fun l j => W (ix3 0 l j)) k := by
  pointwise [sum, mixRow]

theorem mean_at (Y : FVec Ideal S16384x2048 .f32) (i : Fin 16384) :
    mean Y (ix2 i 0) = rowMean fun k => Y (ix2 i k) := by
  pointwise [mean, rowMean]

theorem centred_at (X : FVec Ideal S16384x2048 .f32) (i : Fin 16384) (k : Fin 2048) :
    centred X (ix2 i k) = X (ix2 i k) - rowMean fun l => X (ix2 i l) := by
  rw [← mean_at]
  pointwise [centred]

/-- The reference's norm at a position is the row's norm. -/
theorem norm_at (X : FVec Ideal S16384x2048 .f32) (G B : FVec Ideal S1x2048 .f32) (i : Fin 16384) (k : Fin 2048) :
    norm X G B (ix2 i k) = rowNorm (fun l => X (ix2 i l)) (fun l => G (ix2 0 l)) (fun l => B (ix2 0 l)) k := by
  pointwise [norm, centred_at, mean_at, rowNorm]

theorem queries_at (Y : FVec Ideal S16384x2048 .f32) (Q : FVec Ideal S1x2048x2048 .f32) (i : Fin 16384) (j : Fin 2048) :
    queries Y Q (ix2 i j) = ∑ k : Fin 2048, Y (ix2 i k) * Q (ix3 0 k j) := by
  pointwise [queries]

end Cert.Proof.MixRef

namespace Cert.Proof.Mix

open Cert.MixIdeal Cert.MixIdeal.Gen

variable (m : (ℓ : Loc nD τ sig) → Buf (Elt Ideal) ℓ)

/-- Which block each window holds at grid point `t`. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

/-- The rows of a point's block before the norm, over any loaded blocks. -/
def sum (A : FVec Ideal S512x1024 .bf16) (U : FVec Ideal S1024x2048 .bf16) (R : FVec Ideal S512x1024 .bf16)
    (V : FVec Ideal S1024x2048 .bf16) (H : FVec Ideal S512x2048 .f32) : FVec Ideal S512x2048 .f32 :=
  fun y => Ideal.ofBits .f32 0x3F9837F0#32 * H y
    + (∑ l : Fin 1024, A (ix2 (y 0) l) * U (ix2 l (y 1)) + ∑ l : Fin 1024, R (ix2 (y 0) l) * V (ix2 l (y 1)))

theorem pay_at (A : FVec Ideal S512x1024 .bf16) (U : FVec Ideal S1024x2048 .bf16) (R : FVec Ideal S512x1024 .bf16)
    (V : FVec Ideal S1024x2048 .bf16) (H : FVec Ideal S512x2048 .f32) (G B : FVec Ideal S1x2048 .f32) (r : Fin 512) (k : Fin 2048) :
    k0_pay3 (F := Ideal) A U R V H G B (ix2 r k)
      = rowNorm (fun l => sum A U R V H (ix2 r l)) (fun l => G (ix2 0 l)) (fun l => B (ix2 0 l)) k := by
  pointwise [k0_pay3, rowNorm, rowMean, sum]

/-- The arguments, at their literal types. -/
abbrev A (c : Dev nD) : FVec Ideal S16384x1024 .bf16 := m ((c : Thread nD τ).loc main_arg0)
abbrev R (c : Dev nD) : FVec Ideal S16384x1024 .bf16 := m ((c : Thread nD τ).loc main_arg1)
abbrev H (c : Dev nD) : FVec Ideal S16384x2048 .f32 := m ((c : Thread nD τ).loc main_arg2)
abbrev W (c : Dev nD) : FVec Ideal S1x2048x2048 .f32 := m ((c : Thread nD τ).loc main_arg3)
abbrev Q (c : Dev nD) : FVec Ideal S1x2048x2048 .f32 := m ((c : Thread nD τ).loc main_arg4)
abbrev G (c : Dev nD) : FVec Ideal S1x2048 .f32 := m ((c : Thread nD τ).loc main_arg5)
abbrev B (c : Dev nD) : FVec Ideal S1x2048 .f32 := m ((c : Thread nD τ).loc main_arg6)

/-- The reference's first result over the kernel's arguments. -/
abbrev normed (c : Dev nD) : FVec Ideal S16384x2048 .f32 :=
  MixRef.norm (MixRef.sum (A m c) (R m c) (H m c) (W m c)) (G m c) (B m c)

theorem lt (t : Fin cfg0.N) : t.val < 32 := lt_of_lt_of_eq t.isLt N_0

/-- Row `r` of a point's block is this row of the arrays. -/
abbrev row (t : Fin cfg0.N) (r : Fin 512) : Fin 16384 := ⟨t.val * 512 + r.val, by have := lt t; omega⟩

theorem entry_w (c : Dev nD) : V m c main_v1 = truncf .bf16 (shapeCast _ (W m c) shapeCasts_S1x2048x2048_S2048x2048) bitsLt_bf16_f32 := by
  unfold V
  after_reads_simp
  rfl

theorem entry_q (c : Dev nD) : V m c main_v3 = truncf .bf16 (shapeCast _ (Q m c) shapeCasts_S1x2048x2048_S2048x2048) bitsLt_bf16_f32 := by
  unfold V
  after_reads_simp
  rfl

/-- The two weights' blocks read back to the arguments. -/
theorem block_w (c : Dev nD) (t : Fin cfg0.N) (k j : Fin 2048) :
    (show FVec Ideal S2048x2048 .bf16 from iblk m c 3 t) (ix2 k j) = W m c (ix3 0 k j) := by
  refine Eq.trans (b := V m c main_v1 (ix2 k j)) ?_ (by rw [entry_w]; pointwise)
  show iblk m c 3 t (ix2 k j) = V m c main_v1 (ix2 k j)
  blk_simp [iblk]
  blk_ext [idx t]

theorem block_q (c : Dev nD) (t : Fin cfg0.N) (k j : Fin 2048) :
    (show FVec Ideal S2048x2048 .bf16 from iblk m c 4 t) (ix2 k j) = Q m c (ix3 0 k j) := by
  refine Eq.trans (b := V m c main_v3 (ix2 k j)) ?_ (by rw [entry_q]; pointwise)
  show iblk m c 4 t (ix2 k j) = V m c main_v3 (ix2 k j)
  blk_simp [iblk]
  blk_ext [idx t]

/-- A point's normed block is the reference's norm of the block's rows. -/
theorem block_norm (c : Dev nD) (t : Fin cfg0.N) (r : Fin 512) (k : Fin 2048) :
    k0_pay4 (F := Ideal) (iblk m c 0 t) (iblk m c 1 t) (iblk m c 2 t) (iblk m c 3 t) (iblk m c 4 t) (iblk m c 5 t) (iblk m c 6 t) (ix2 r k)
      = normed m c (ix2 (row t r) k) := by
  refine Eq.trans ?_ (MixRef.norm_at _ _ _ _ k).symm
  unfold k0_pay4
  refine (pay_at _ _ _ _ _ _ _ r k).trans (rowNorm_congr (fun l => ?_) (fun l => ?_) (fun l => ?_) k)
  · rw [MixRef.sum_at]
    simp only [mixRow, ← block_w m c t]
    pointwise [sum]
    blk_point [iblk, V, idx t]
  · pointwise
    blk_point [iblk, V, idx t]
  · pointwise
    blk_point [iblk, V, idx t]

/-- The first result array. -/
theorem final7 (c : Dev nD) : (dats m 0 c).arrAt 7 (cfgs 0).N = normed m c := by
  refine (dats m 0 c).arrAt_eq_of_covers 7 _ (by decide +kernel) fun t _ y => ?_
  blk_simp
  rw [after0_7]; frame_out
  idx_vars y
  refine (block_norm m c t y0 y1).trans ?_
  blk_ext [idx t]

/-- The second result array: the same rows. -/
theorem final8 (c : Dev nD) : (dats m 0 c).arrAt 8 (cfgs 0).N = truncf (F := Ideal) .bf16 (normed m c) bitsLt_bf16_f32 := by
  refine (dats m 0 c).arrAt_eq_of_covers 8 _ (by decide +kernel) fun t _ y => ?_
  blk_simp
  rw [after0_8]; frame_out
  idx_vars y
  refine (block_norm m c t y0 y1).trans ?_
  show normed m c _ = normed m c _
  blk_ext [idx t]

/-- The queries' block over any normed block. -/
theorem queries_pay (Y : FVec Ideal S512x2048 .f32) (U : FVec Ideal S2048x2048 .bf16) (r : Fin 512) (j : Fin 2048) :
    k0_pay2 (F := Ideal) Y U (ix2 r j) = ∑ k : Fin 2048, Y (ix2 r k) * U (ix2 k j) := by
  pointwise [k0_pay2, k0_pay1]

/-- The third result array. -/
theorem final9 (c : Dev nD) : (dats m 0 c).arrAt 9 (cfgs 0).N = MixRef.queries (normed m c) (Q m c) := by
  refine (dats m 0 c).arrAt_eq_of_covers 9 _ (by decide +kernel) fun t _ y => ?_
  blk_simp
  rw [after0_9]; frame_out
  idx_vars y
  refine (queries_pay _ _ y0 y1).trans ?_
  refine Eq.trans (b := MixRef.queries (normed m c) (Q m c) (ix2 (row t y0) y1)) ?_ (by blk_ext [idx t])
  rw [MixRef.queries_at]
  refine Finset.sum_congr rfl fun k _ => ?_
  rw [block_norm, ← block_q m c t]

/-- The mix at the ideal instance: the kernel's three results are the reference's. -/
theorem algebraic : Cert.algebraic_MixIdeal_MixRefIdeal := by
  intro m ρ m' ρ' _ hagree
  refine ⟨_, _, _, Cert.MixIdeal.Value.run_blocks m ρ, ?_⟩
  refine (θ_run Cert.MixRefIdeal.defs _ _).mono (fun _ h c => ?_) (Cert.MixRefIdeal.Value.run (F := Ideal) m' ρ')
  obtain ⟨e0, e1, e2, kept⟩ := h c
  obtain ⟨a0, a1, a2, a3, a4, a5, a6⟩ := hagree c
  refine ⟨e0.trans ?_, e1.trans ?_, e2.trans ?_, kept⟩
  · refine Eq.trans ?_ (final7 m c).symm
    unfold Cert.MixRefIdeal.Value.res_main_v33
    rw [a0, a1, a2, a3, a5, a6]
    rfl
  · refine Eq.trans ?_ (final8 m c).symm
    unfold Cert.MixRefIdeal.Value.res_main_v34
    rw [a0, a1, a2, a3, a5, a6]
    rfl
  · refine Eq.trans ?_ (final9 m c).symm
    unfold Cert.MixRefIdeal.Value.res_main_v37
    rw [a0, a1, a2, a3, a4, a5, a6]
    rfl

end Cert.Proof.Mix

end
-- ==== Proof.AttnRow.lean ====
/-
  One row of the attention over extended reals, as both programs compute it: the stream of slots a batch row reads, the
  rotary turn of a head's vector, and the weighted mean of the visible values.
-/
module

public import proofs.«01_k».proof.Defs
public import Idealize.ShloMosaic.Lib.Pointwise

@[expose] public section

noncomputable section

open Idealize.ShloMosaic

namespace Cert.Proof.AttnRow

/-- Slot `s` of batch row `b`, column `c`: the first block holds the meta tokens, the others the projected tokens. -/
def slot (P : FVec Ideal ⟨2, ![16384, 5376]⟩ .bf16) (M : FVec Ideal ⟨2, ![128, 5376]⟩ .bf16) (b : Fin 4) (s : Fin 4224) (c : Fin 5376) : EReal :=
  if h : s.val < 128 then M (ix2 ⟨s.val, h⟩ c) else P (ix2 ⟨b.val * 4096 + (s.val - 128), by omega⟩ c)

/-- The angle by which pair `j` of a head's vector is turned at slot `s`: the position counts from the first meta token. -/
def angle (s : Fin 4224) (j : Fin 32) : EReal :=
  FloatOps.sitofp (F := Ideal) .f32 (IntOp.subi (BitVec.ofNat 32 s.val) 112#32)
    * Ideal.pow (Ideal.ofBits .f32 1176256512#32)
        (Ideal.div (-(Ideal.ofBits .f32 1073741824#32 * FloatOps.sitofp (F := Ideal) .f32 (BitVec.ofNat 32 j.val)))
          (Ideal.ofBits .f32 1115684864#32))

/-- The rotary turn of a head's vector at slot `s`: lane `d` of the first half is paired with lane `32 + d`. -/
def turn (x : Fin 64 → EReal) (s : Fin 4224) (d : Fin 64) : EReal :=
  if h : d.val < 32 then
    x d * Ideal.cos (angle s ⟨d.val, h⟩) - x ⟨32 + d.val, by omega⟩ * Ideal.sin (angle s ⟨d.val, h⟩)
  else
    x d * Ideal.cos (angle s ⟨d.val - 32, by omega⟩)
      + x ⟨d.val - 32, by omega⟩ * Ideal.sin (angle s ⟨d.val - 32, by omega⟩)

/-- The turned key of key head `h` at slot `s`. -/
def key (P : FVec Ideal ⟨2, ![16384, 5376]⟩ .bf16) (M : FVec Ideal ⟨2, ![128, 5376]⟩ .bf16) (b : Fin 4) (s : Fin 4224) (h : Fin 2) : Fin 64 → EReal :=
  turn (fun e => slot P M b s ⟨5120 + (h.val * 64 + e.val), by omega⟩) s

/-- The turned query of head `h` at slot `s`. -/
def query (P : FVec Ideal ⟨2, ![16384, 5376]⟩ .bf16) (M : FVec Ideal ⟨2, ![128, 5376]⟩ .bf16) (b : Fin 4) (s : Fin 4224) (h : Fin 16) : Fin 64 → EReal :=
  turn (fun e => slot P M b s ⟨h.val * 64 + e.val, by omega⟩) s

/-- The value of key head `h` at slot `s`. -/
def value (P : FVec Ideal ⟨2, ![16384, 5376]⟩ .bf16) (M : FVec Ideal ⟨2, ![128, 5376]⟩ .bf16) (b : Fin 4) (s : Fin 4224) (h : Fin 2) (d : Fin 64) : EReal :=
  slot P M b s ⟨5248 + (h.val * 64 + d.val), by omega⟩

/-- The slot of key `k` in the window of block `n`, which starts at slot `128 n`; the queries are its second half. -/
def place (n : Fin 32) (k : Fin 256) : Fin 4224 := ⟨n.val * 128 + k.val, by omega⟩

/-- Whether the query of row `r` in block `n` sees key `k` of the window that starts one block earlier: not later than
    the query, less than a block before it, and not among the slots before the meta tokens. -/
def seen (n r k : ℕ) : BitVec 1 :=
  let key := IntOp.addi (IntOp.subi (IntOp.muli (BitVec.ofNat 32 n) 128#32) 128#32) (BitVec.ofNat 32 k)
  let diff := IntOp.subi (IntOp.addi (IntOp.muli (BitVec.ofNat 32 n) 128#32) (BitVec.ofNat 32 r)) key
  IntOp.andi (IntOp.andi (IntOp.cmpi .sge diff 0#32) (IntOp.cmpi .slt diff 128#32)) (IntOp.cmpi .sge key 112#32)

/-- One score: the scaled product of a key and a query where the key is seen, a large negative number elsewhere. -/
def score (sees : BitVec 1) (key query : Fin 64 → EReal) : EReal :=
  if sees = 1#1 then (∑ d, key d * query d) * Ideal.ofBits .f32 1040187392#32 else Ideal.ofBits .f32 4048155338#32

/-- The score of key `k` for row `r` of block `n`, in head `8 h + g`. -/
def scoreAt (P : FVec Ideal ⟨2, ![16384, 5376]⟩ .bf16) (M : FVec Ideal ⟨2, ![128, 5376]⟩ .bf16) (b : Fin 4) (n : Fin 32) (h : Fin 2) (g : Fin 8)
    (r : Fin 128) (k : Fin 256) : EReal :=
  score (seen (n.val + 1) r.val k.val) (key P M b (place n k) h)
    (query P M b (place n ⟨128 + r.val, by omega⟩) ⟨h.val * 8 + g.val, by omega⟩)

/-- The number subtracted before the exponential: the largest of a row's scores and its sink. -/
def top (x : Fin 256 → EReal) (sink : EReal) : EReal :=
  max (Finset.univ.fold max (Ideal.ofBits .f32 4286578688#32) x) sink

/-- What the weights are divided by: their sum with the sink's. -/
def total (x : Fin 256 → EReal) (sink : EReal) : EReal :=
  (∑ k, Ideal.exp (x k - top x sink)) + Ideal.exp (sink - top x sink)

/-- The reference's mean: each weight divided by the total, then the sum over the values. -/
def mean (x : Fin 256 → EReal) (sink : EReal) (v : Fin 256 → EReal) : EReal :=
  ∑ k, v k * Ideal.div (Ideal.exp (x k - top x sink)) (total x sink)

end Cert.Proof.AttnRow

end
end
-- ==== Proof.AttnRefValue.lean ====
/-
  The attention of the reference, read at an index: every array of it at a window, a head, a row and a lane, and the result
  at a row and a column as the mean of `AttnRow`.
-/
module

public import proofs.«01_k».proof.Proof.Gen.AttnRefIdeal.Run
public import proofs.«01_k».proof.Proof.AttnRow

@[expose] public section

set_option maxRecDepth 16384

noncomputable section

open Idealize.ShloMosaic Idealize.ShloMosaic.TcCoe Idealize.SL.Sem Idealize.ShloMosaic.StableHlo

namespace Cert.Proof.AttnRef

open Cert.AttnRefIdeal Cert.AttnRefIdeal.Gen Cert.AttnRefIdeal.Value AttnRow

variable (V0 : Valuation τ sig (Elt Ideal))

/-- The three arguments, at their literal types. -/
abbrev P : FVec Ideal S16384x5376 .bf16 := V0 (Proc.devRef .tc main_arg0)
abbrev M : FVec Ideal S128x5376 .bf16 := V0 (Proc.devRef .tc main_arg1)
abbrev S : FVec Ideal S1x16 .f32 := V0 (Proc.devRef .tc main_arg2)

theorem v5_at (b : Fin 4) (s : Fin 4224) (c : Fin 5376) :
    (show FVec Ideal S4x4224x5376 .f32 from res_main_v5 V0) (ix3 b s c) = slot (P V0) (M V0) b s c := by
  pointwise [res_main_v5, slot]

theorem v26_at (s : Fin 4224) (j : Fin 32) :
    (show FVec Ideal S1x4224x1x32 .f32 from res_main_v26 V0) (ix4 0 s 0 j) = Ideal.cos (angle s j) := by
  pointwise [res_main_v26, res_main_v24, angle]

theorem v28_at (s : Fin 4224) (j : Fin 32) :
    (show FVec Ideal S1x4224x1x32 .f32 from res_main_v28 V0) (ix4 0 s 0 j) = Ideal.sin (angle s j) := by
  pointwise [res_main_v28, res_main_v24, angle]

/-- One half of every head of the queries. -/
def queryLo (X : FVec Ideal S4x4224x5376 .f32) : FVec Ideal S4x4224x16x32 .f32 :=
  extractStridedSlice S4x4224x16x32 ![0, 0, 0, 0] (shapeCast S4x4224x16x64 (extractStridedSlice S4x4224x1024 ![0, 0, 0] X slices_S4x4224x5376_S4x4224x1024_0_0_0) shapeCasts_S4x4224x1024_S4x4224x16x64) slices_S4x4224x16x64_S4x4224x16x32_0_0_0_0

theorem queryLo_at (X : FVec Ideal S4x4224x5376 .f32) (b : Fin 4) (s : Fin 4224) (h : Fin 16) (j : Fin 32) :
    queryLo X (ix4 b s h j) = X (ix3 b s ⟨h.val * 64 + j.val, by omega⟩) := by
  pointwise [queryLo]

/-- One half of every head of the queries, or of the keys. -/
def queryHi (X : FVec Ideal S4x4224x5376 .f32) : FVec Ideal S4x4224x16x32 .f32 :=
  extractStridedSlice S4x4224x16x32 ![0, 0, 0, 32] (shapeCast S4x4224x16x64 (extractStridedSlice S4x4224x1024 ![0, 0, 0] X slices_S4x4224x5376_S4x4224x1024_0_0_0) shapeCasts_S4x4224x1024_S4x4224x16x64) slices_S4x4224x16x64_S4x4224x16x32_0_0_0_32
def keyLo (X : FVec Ideal S4x4224x5376 .f32) : FVec Ideal S4x4224x2x32 .f32 :=
  extractStridedSlice S4x4224x2x32 ![0, 0, 0, 0] (shapeCast S4x4224x2x64 (extractStridedSlice S4x4224x128 ![0, 0, 5120] X slices_S4x4224x5376_S4x4224x128_0_0_5120) shapeCasts_S4x4224x128_S4x4224x2x64) slices_S4x4224x2x64_S4x4224x2x32_0_0_0_0
def keyHi (X : FVec Ideal S4x4224x5376 .f32) : FVec Ideal S4x4224x2x32 .f32 :=
  extractStridedSlice S4x4224x2x32 ![0, 0, 0, 32] (shapeCast S4x4224x2x64 (extractStridedSlice S4x4224x128 ![0, 0, 5120] X slices_S4x4224x5376_S4x4224x128_0_0_5120) shapeCasts_S4x4224x128_S4x4224x2x64) slices_S4x4224x2x64_S4x4224x2x32_0_0_0_32

theorem queryHi_at (X : FVec Ideal S4x4224x5376 .f32) (b : Fin 4) (s : Fin 4224) (h : Fin 16) (j : Fin 32) :
    queryHi X (ix4 b s h j) = X (ix3 b s ⟨h.val * 64 + (32 + j.val), by omega⟩) := by
  pointwise [queryHi]

theorem keyLo_at (X : FVec Ideal S4x4224x5376 .f32) (b : Fin 4) (s : Fin 4224) (h : Fin 2) (j : Fin 32) :
    keyLo X (ix4 b s h j) = X (ix3 b s ⟨5120 + (h.val * 64 + j.val), by omega⟩) := by
  pointwise [keyLo]

theorem keyHi_at (X : FVec Ideal S4x4224x5376 .f32) (b : Fin 4) (s : Fin 4224) (h : Fin 2) (j : Fin 32) :
    keyHi X (ix4 b s h j) = X (ix3 b s ⟨5120 + (h.val * 64 + (32 + j.val)), by omega⟩) := by
  pointwise [keyHi]

/-- The turned keys in blocks, of the two halves of the keys and the two tables. -/
def keysOf (A B : FVec Ideal S4x4224x2x32 .f32) (C D : FVec Ideal S1x4224x1x32 .f32) : FVec Ideal S4x33x128x2x64 .f32 :=
  shapeCast _ (concatenate S4x4224x2x64 3 [⟨S4x4224x2x32, (subf (mulf A (broadcastInDim S4x4224x2x32 ![0, 1, 2, 3] bcast_S1x4224x1x32_S4x4224x2x32_0_1_2_3 C)) (mulf B (broadcastInDim S4x4224x2x32 ![0, 1, 2, 3] bcast_S1x4224x1x32_S4x4224x2x32_0_1_2_3 D)))⟩, ⟨S4x4224x2x32, (addf (mulf B (broadcastInDim S4x4224x2x32 ![0, 1, 2, 3] bcast_S1x4224x1x32_S4x4224x2x32_0_1_2_3 C)) (mulf A (broadcastInDim S4x4224x2x32 ![0, 1, 2, 3] bcast_S1x4224x1x32_S4x4224x2x32_0_1_2_3 D)))⟩] concatenates_S4x4224x2x32_S4x4224x2x32_S4x4224x2x64_d3) shapeCasts_S4x4224x2x64_S4x33x128x2x64

theorem keysOf_at (A B : FVec Ideal S4x4224x2x32 .f32) (C D : FVec Ideal S1x4224x1x32 .f32)
    (b : Fin 4) (n : Fin 33) (r : Fin 128) (h : Fin 2) (d : Fin 64) :
    keysOf A B C D (ix5 b n r h d) = if hd : d.val < 32 then
      A (ix4 b ⟨n.val * 128 + r.val, by omega⟩ h ⟨d.val, hd⟩) * C (ix4 0 ⟨n.val * 128 + r.val, by omega⟩ 0 ⟨d.val, hd⟩)
        - B (ix4 b ⟨n.val * 128 + r.val, by omega⟩ h ⟨d.val, hd⟩) * D (ix4 0 ⟨n.val * 128 + r.val, by omega⟩ 0 ⟨d.val, hd⟩)
     else
      B (ix4 b ⟨n.val * 128 + r.val, by omega⟩ h ⟨d.val - 32, by omega⟩) * C (ix4 0 ⟨n.val * 128 + r.val, by omega⟩ 0 ⟨d.val - 32, by omega⟩)
        + A (ix4 b ⟨n.val * 128 + r.val, by omega⟩ h ⟨d.val - 32, by omega⟩) * D (ix4 0 ⟨n.val * 128 + r.val, by omega⟩ 0 ⟨d.val - 32, by omega⟩) := by
  pointwise [keysOf]

/-- The turned queries in blocks, of the two halves of the queries and the two tables. -/
def queriesOf (A B : FVec Ideal S4x4224x16x32 .f32) (C D : FVec Ideal S1x4224x1x32 .f32) : FVec Ideal S132x128x2x8x64 .f32 :=
  (shapeCast _ (concatenate S4x4224x16x64 3 [⟨S4x4224x16x32, (subf (mulf A (broadcastInDim S4x4224x16x32 ![0, 1, 2, 3] bcast_S1x4224x1x32_S4x4224x16x32_0_1_2_3 C)) (mulf B (broadcastInDim S4x4224x16x32 ![0, 1, 2, 3] bcast_S1x4224x1x32_S4x4224x16x32_0_1_2_3 D)))⟩, ⟨S4x4224x16x32, (addf (mulf B (broadcastInDim S4x4224x16x32 ![0, 1, 2, 3] bcast_S1x4224x1x32_S4x4224x16x32_0_1_2_3 C)) (mulf A (broadcastInDim S4x4224x16x32 ![0, 1, 2, 3] bcast_S1x4224x1x32_S4x4224x16x32_0_1_2_3 D)))⟩] concatenates_S4x4224x16x32_S4x4224x16x32_S4x4224x16x64_d3) shapeCasts_S4x4224x16x64_S132x128x2x8x64)

theorem queriesOf_at (A B : FVec Ideal S4x4224x16x32 .f32) (C D : FVec Ideal S1x4224x1x32 .f32)
    (b : Fin 4) (n : Fin 33) (r : Fin 128) (h : Fin 2) (g : Fin 8) (d : Fin 64) :
    queriesOf A B C D (ix5 ⟨b.val * 33 + n.val, by omega⟩ r h g d) = if hd : d.val < 32 then
      A (ix4 b ⟨n.val * 128 + r.val, by omega⟩ ⟨h.val * 8 + g.val, by omega⟩ ⟨d.val, hd⟩) * C (ix4 0 ⟨n.val * 128 + r.val, by omega⟩ 0 ⟨d.val, hd⟩)
        - B (ix4 b ⟨n.val * 128 + r.val, by omega⟩ ⟨h.val * 8 + g.val, by omega⟩ ⟨d.val, hd⟩) * D (ix4 0 ⟨n.val * 128 + r.val, by omega⟩ 0 ⟨d.val, hd⟩)
     else
      B (ix4 b ⟨n.val * 128 + r.val, by omega⟩ ⟨h.val * 8 + g.val, by omega⟩ ⟨d.val - 32, by omega⟩) * C (ix4 0 ⟨n.val * 128 + r.val, by omega⟩ 0 ⟨d.val - 32, by omega⟩)
        + A (ix4 b ⟨n.val * 128 + r.val, by omega⟩ ⟨h.val * 8 + g.val, by omega⟩ ⟨d.val - 32, by omega⟩) * D (ix4 0 ⟨n.val * 128 + r.val, by omega⟩ 0 ⟨d.val - 32, by omega⟩) := by
  pointwise [queriesOf]
  have hn : (b.val * 33 + n.val) % 33 = n.val := by omega
  simp only [hn]

theorem v69_at (b : Fin 4) (n : Fin 33) (r : Fin 128) (h : Fin 2) (d : Fin 64) :
    (show FVec Ideal S4x33x128x2x64 .f32 from res_main_v69 V0) (ix5 b n r h d)
      = slot (P V0) (M V0) b ⟨n.val * 128 + r.val, by omega⟩ ⟨5248 + (h.val * 64 + d.val), by omega⟩ := by
  pointwise [res_main_v69, v5_at]

/-- The windows of two blocks of an array of blocks: the one before, which is zero before the first, and its own. -/
def windows (X : FVec Ideal S4x33x128x2x64 .f32) : FVec Ideal S132x256x2x64 .f32 :=
  (shapeCast _ (concatenate S4x33x256x2x64 2 [⟨S4x33x128x2x64, (concatenate S4x33x128x2x64 1 [⟨S4x1x128x2x64, (broadcastInDim S4x1x128x2x64 ![] bcast_S_S4x1x128x2x64 (constant S_ .f32 0x00000000#32))⟩, ⟨S4x32x128x2x64, (extractStridedSlice S4x32x128x2x64 ![0, 0, 0, 0, 0] X slices_S4x33x128x2x64_S4x32x128x2x64_0_0_0_0_0)⟩] concatenates_S4x1x128x2x64_S4x32x128x2x64_S4x33x128x2x64_d1)⟩, ⟨S4x33x128x2x64, X⟩] concatenates_S4x33x128x2x64_S4x33x128x2x64_S4x33x256x2x64_d2) shapeCasts_S4x33x256x2x64_S132x256x2x64)

theorem windows_at (X : FVec Ideal S4x33x128x2x64 .f32) (b : Fin 4) (n : Fin 33) (k : Fin 256) (h : Fin 2) (d : Fin 64) (hn : 1 ≤ n.val) :
    windows X (ix4 ⟨b.val * 33 + n.val, by omega⟩ k h d)
      = if hk : k.val < 128 then X (ix5 b ⟨n.val - 1, by omega⟩ ⟨k.val, hk⟩ h d) else X (ix5 b n ⟨k.val - 128, by omega⟩ h d) := by
  pointwise [windows]
  split
  · rw [dif_neg (by omega)]
  · rfl

/-- The masked scores, of the windows of keys and the blocks of queries. -/
def scoresOf (K : FVec Ideal S132x256x2x64 .f32) (Q : FVec Ideal S132x128x2x8x64 .f32) : FVec Ideal S132x2x8x128x256 .f32 :=
  mulf (transpose S132x2x8x128x256 [0, 1, 4, 3, 2] (Host.dotGeneral dot_S132x256x2x64_S132x128x2x8x64_S132x2x256x128x8_3_4_1_13_02_02 none K Q) transposes_S132x2x256x128x8_S132x2x8x128x256_0_1_4_3_2) (broadcastInDim S132x2x8x128x256 ![] bcast_S_S132x2x8x128x256 (constant S_ .f32 0x3E000000#32))

theorem scoresOf_at (K : FVec Ideal S132x256x2x64 .f32) (Q : FVec Ideal S132x128x2x8x64 .f32) (w : Fin 132) (h : Fin 2) (g : Fin 8) (r : Fin 128) (k : Fin 256) :
    scoresOf K Q (ix5 w h g r k) = (∑ d : Fin 64, K (ix4 w k h d) * Q (ix5 w r h g d)) * Ideal.ofBits .f32 1040187392#32 := by
  pointwise [scoresOf]

/-- The mask of the reference, one bit for each window, row and key. -/
def mask : IVec S132x1x1x128x256 1 :=
  (shapeCast _ (broadcastInDim S4x33x128x256 ![0, 1, 2, 3] bcast_S1x33x128x256_S4x33x128x256_0_1_2_3 (broadcastInDim S1x33x128x256 ![1, 2, 3] bcast_S33x128x256_S1x33x128x256_1_2_3 (andi (andi (cmpi .sge (res_main_v100 V0) (broadcastInDim S33x128x256 ![] bcast_S_S33x128x256 (constantI S_ 32 0#32))) (cmpi .slt (res_main_v100 V0) (broadcastInDim S33x128x256 ![] bcast_S_S33x128x256 (constantI S_ 32 128#32)))) (broadcastInDim S33x128x256 ![0, 1, 2] bcast_S33x1x256_S33x128x256_0_1_2 (cmpi .sge (broadcastInDim S33x1x256 ![0, 2] bcast_S33x256_S33x1x256_0_2 (res_main_v95 V0)) (broadcastInDim S33x1x256 ![] bcast_S_S33x1x256 (constantI S_ 32 112#32))))))) shapeCasts_S4x33x128x256_S132x1x1x128x256)

theorem mask_at (b : Fin 4) (n : Fin 33) (r : Fin 128) (k : Fin 256) :
    mask V0 (ix5 ⟨b.val * 33 + n.val, by omega⟩ 0 0 r k) = seen n.val r.val k.val := by
  pointwise [mask, res_main_v100, res_main_v95, res_main_v83, seen]

/-- The weights of the scores. -/
def weightsOf (Z : FVec Ideal S132x2x8x128x256 .f32) (T : FVec Ideal S132x2x8x128x1 .f32) : FVec Ideal S132x2x8x128x256 .f32 :=
  Host.exp (subf Z (broadcastInDim S132x2x8x128x256 ![0, 1, 2, 3, 4] bcast_S132x2x8x128x1_S132x2x8x128x256_0_1_2_3_4 T))

theorem weightsOf_at (Z : FVec Ideal S132x2x8x128x256 .f32) (T : FVec Ideal S132x2x8x128x1 .f32) (w : Fin 132) (h : Fin 2) (g : Fin 8) (r : Fin 128) (k : Fin 256) :
    weightsOf Z T (ix5 w h g r k) = Ideal.exp (Z (ix5 w h g r k) - T (ix5 w h g r 0)) := by
  pointwise [weightsOf]

/-- The scores where the mask is set, a large negative number elsewhere. -/
def maskedOf (B : IVec S132x1x1x128x256 1) (Z : FVec Ideal S132x2x8x128x256 .f32) : FVec Ideal S132x2x8x128x256 .f32 :=
  select (broadcastInDim S132x2x8x128x256 ![0, 1, 2, 3, 4] bcast_S132x1x1x128x256_S132x2x8x128x256_0_1_2_3_4 B) Z (broadcastInDim S132x2x8x128x256 ![] bcast_S_S132x2x8x128x256 (constant S_ .f32 0xF149F2CA#32))

theorem maskedOf_at (B : IVec S132x1x1x128x256 1) (Z : FVec Ideal S132x2x8x128x256 .f32) (w : Fin 132) (h : Fin 2) (g : Fin 8) (r : Fin 128) (k : Fin 256) :
    maskedOf B Z (ix5 w h g r k) = if B (ix5 w 0 0 r k) = 1#1 then Z (ix5 w h g r k) else Ideal.ofBits .f32 4048155338#32 := by
  pointwise [maskedOf]
  rfl

/-- The largest score of each row. -/
def peaks (Z : FVec Ideal S132x2x8x128x256 .f32) : FVec Ideal S132x2x8x128 .f32 :=
  Host.reduce FloatOps.maximumf Z (constant S_ .f32 0xFF800000#32) reducesTo_S132x2x8x128x256_S132x2x8x128_d4 h_S_

theorem peaks_at (Z : FVec Ideal S132x2x8x128x256 .f32) (w : Fin 132) (h : Fin 2) (g : Fin 8) (r : Fin 128) :
    peaks Z (ix4 w h g r) = Finset.univ.fold max (Ideal.ofBits .f32 4286578688#32) fun k : Fin 256 => Z (ix5 w h g r k) := by
  pointwise [peaks]

/-- The larger of each row's largest score and its sink. -/
def topsOf (Z : FVec Ideal S132x2x8x128 .f32) (S : FVec Ideal S1x2x8x1x1 .f32) : FVec Ideal S132x2x8x128x1 .f32 :=
  maximumf (broadcastInDim S132x2x8x128x1 ![0, 1, 2, 3] bcast_S132x2x8x128_S132x2x8x128x1_0_1_2_3 Z) (broadcastInDim S132x2x8x128x1 ![0, 1, 2, 3, 4] bcast_S1x2x8x1x1_S132x2x8x128x1_0_1_2_3_4 S)

theorem topsOf_at (Z : FVec Ideal S132x2x8x128 .f32) (S : FVec Ideal S1x2x8x1x1 .f32) (w : Fin 132) (h : Fin 2) (g : Fin 8) (r : Fin 128) :
    topsOf Z S (ix5 w h g r 0) = max (Z (ix4 w h g r)) (S (ix5 0 h g 0 0)) := by
  pointwise [topsOf]

/-- The weighted means of the values, as the rows of the result. -/
def meansOf (V : FVec Ideal S132x256x2x64 .f32) (W : FVec Ideal S132x2x8x128x256 .f32) (S : FVec Ideal S1x2x8x1x1 .f32) (T : FVec Ideal S132x2x8x128x1 .f32) : FVec Ideal S16384x1024 .bf16 :=
  truncf .bf16 (shapeCast _ (extractStridedSlice S4x4096x1024 ![0, 128, 0] (shapeCast _ (transpose S132x128x2x8x64 [0, 4, 1, 3, 2] (Host.dotGeneral dot_S132x256x2x64_S132x2x8x128x256_S132x2x64x8x128_1_4_3_23_02_01 none V (Host.divf W (broadcastInDim S132x2x8x128x256 ![0, 1, 2, 3, 4] bcast_S132x2x8x128x1_S132x2x8x128x256_0_1_2_3_4 (addf (broadcastInDim S132x2x8x128x1 ![0, 1, 2, 3] bcast_S132x2x8x128_S132x2x8x128x1_0_1_2_3 (Host.reduceAdd W (constant S_ .f32 0x00000000#32) reducesTo_S132x2x8x128x256_S132x2x8x128_d4 h_S_)) (Host.exp (subf (broadcastInDim S132x2x8x128x1 ![0, 1, 2, 3, 4] bcast_S1x2x8x1x1_S132x2x8x128x1_0_1_2_3_4 S) T)))))) transposes_S132x2x64x8x128_S132x128x2x8x64_0_4_1_3_2) shapeCasts_S132x128x2x8x64_S4x4224x1024) slices_S4x4224x1024_S4x4096x1024_0_128_0) shapeCasts_S4x4096x1024_S16384x1024) bitsLt_bf16_f32

theorem meansOf_at (V : FVec Ideal S132x256x2x64 .f32) (W : FVec Ideal S132x2x8x128x256 .f32) (S : FVec Ideal S1x2x8x1x1 .f32) (T : FVec Ideal S132x2x8x128x1 .f32)
    (b : Fin 4) (n : Fin 32) (h : Fin 2) (g : Fin 8) (r : Fin 128) (d : Fin 64) (w : Fin 132) (hw : w.val = b.val * 33 + (n.val + 1)) :
    meansOf V W S T (ix2 ⟨b.val * 4096 + (n.val * 128 + r.val), by omega⟩ ⟨(h.val * 8 + g.val) * 64 + d.val, by omega⟩)
      = ∑ k : Fin 256, V (ix4 w k h d) * Ideal.div (W (ix5 w h g r k)) ((∑ l : Fin 256, W (ix5 w h g r l)) + Ideal.exp (S (ix5 0 h g 0 0) - T (ix5 w h g r 0))) := by
  pointwise [meansOf]
  have hb : b.val * 33 + (128 + (b.val * 4096 + (n.val * 128 + r.val)) % 4096) / 128 = w.val := by omega
  simp only [hb]

/-- The sinks, one for each head. -/
def sinks : FVec Ideal S1x2x8x1x1 .f32 := res_main_v118 V0

theorem sinks_at (h : Fin 2) (g : Fin 8) : sinks V0 (ix5 0 h g 0 0) = S V0 (ix2 0 ⟨h.val * 8 + g.val, by omega⟩) := by
  pointwise [sinks, res_main_v118]

/-- The turned keys, in blocks of 128 slots. -/
def keys : FVec Ideal S4x33x128x2x64 .f32 :=
  keysOf (keyLo (res_main_v5 V0)) (keyHi (res_main_v5 V0)) (res_main_v26 V0) (res_main_v28 V0)

theorem keys_at (b : Fin 4) (n : Fin 33) (r : Fin 128) (h : Fin 2) (d : Fin 64) (s : Fin 4224) (hs : s.val = n.val * 128 + r.val) :
    keys V0 (ix5 b n r h d) = key (P V0) (M V0) b s h d := by
  obtain ⟨s, hlt⟩ := s
  obtain rfl : s = n.val * 128 + r.val := hs
  unfold keys
  rw [keysOf_at]
  unfold key turn
  split
  · rw [keyLo_at, keyHi_at]
    exact congrArg₂ (· - ·) (congrArg₂ (· * ·) (v5_at V0 b _ _) (v26_at V0 _ _)) (congrArg₂ (· * ·) (v5_at V0 b _ _) (v28_at V0 _ _))
  · rename_i hd
    rw [keyLo_at, keyHi_at]
    refine congrArg₂ (· + ·) (congrArg₂ (· * ·) ((v5_at V0 b _ _).trans (congrArg _ (Fin.ext ?_))) (v26_at V0 _ _)) (congrArg₂ (· * ·) (v5_at V0 b _ _) (v28_at V0 _ _))
    show 5120 + (h.val * 64 + (32 + (d.val - 32))) = 5120 + (h.val * 64 + d.val)
    omega

/-- The turned queries, in blocks of 128 slots. -/
def queries : FVec Ideal S132x128x2x8x64 .f32 :=
  queriesOf (queryLo (res_main_v5 V0)) (queryHi (res_main_v5 V0)) (res_main_v26 V0) (res_main_v28 V0)

theorem queries_at (b : Fin 4) (n : Fin 33) (r : Fin 128) (h : Fin 2) (g : Fin 8) (d : Fin 64) (s : Fin 4224) (hs : s.val = n.val * 128 + r.val) :
    queries V0 (ix5 ⟨b.val * 33 + n.val, by omega⟩ r h g d) = query (P V0) (M V0) b s ⟨h.val * 8 + g.val, by omega⟩ d := by
  obtain ⟨s, hlt⟩ := s
  obtain rfl : s = n.val * 128 + r.val := hs
  unfold queries
  rw [queriesOf_at]
  unfold query turn
  split
  · rw [queryLo_at, queryHi_at]
    exact congrArg₂ (· - ·) (congrArg₂ (· * ·) (v5_at V0 b _ _) (v26_at V0 _ _)) (congrArg₂ (· * ·) (v5_at V0 b _ _) (v28_at V0 _ _))
  · rename_i hd
    rw [queryLo_at, queryHi_at]
    refine congrArg₂ (· + ·) (congrArg₂ (· * ·) ((v5_at V0 b _ _).trans (congrArg _ (Fin.ext ?_))) (v26_at V0 _ _)) (congrArg₂ (· * ·) (v5_at V0 b _ _) (v28_at V0 _ _))
    show (h.val * 8 + g.val) * 64 + (32 + (d.val - 32)) = (h.val * 8 + g.val) * 64 + d.val
    omega

/-- The masked scores of every window. -/
def scores : FVec Ideal S132x2x8x128x256 .f32 := maskedOf (mask V0) (scoresOf (windows (keys V0)) (queries V0))

/-- A key of a window is the turned key of its slot. -/
theorem window_key (b : Fin 4) (n : Fin 32) (k : Fin 256) (h : Fin 2) (d : Fin 64) :
    windows (keys V0) (ix4 ⟨b.val * 33 + (n.val + 1), by omega⟩ k h d) = key (P V0) (M V0) b (place n k) h d := by
  refine (windows_at _ b ⟨n.val + 1, by omega⟩ k h d (by simp)).trans ?_
  split
  · exact keys_at V0 b _ _ h d _ (by simp [place])
  · exact keys_at V0 b _ _ h d _ (by simp only [place]; omega)

/-- A value of a window is the value of its slot. -/
theorem window_value (b : Fin 4) (n : Fin 32) (k : Fin 256) (h : Fin 2) (d : Fin 64) :
    windows (res_main_v69 V0) (ix4 ⟨b.val * 33 + (n.val + 1), by omega⟩ k h d) = value (P V0) (M V0) b (place n k) h d := by
  refine (windows_at _ b ⟨n.val + 1, by omega⟩ k h d (by simp)).trans ?_
  split
  · exact (v69_at V0 b _ _ h d).trans (congrArg (slot _ _ b · _) (Fin.ext (by simp [place])))
  · exact (v69_at V0 b _ _ h d).trans (congrArg (slot _ _ b · _) (Fin.ext (by simp only [place]; omega)))

theorem scores_at (b : Fin 4) (n : Fin 32) (h : Fin 2) (g : Fin 8) (r : Fin 128) (k : Fin 256) :
    scores V0 (ix5 ⟨b.val * 33 + (n.val + 1), by omega⟩ h g r k) = scoreAt (P V0) (M V0) b n h g r k := by
  unfold scores scoreAt score
  rw [maskedOf_at, scoresOf_at]
  have hm : mask V0 (ix5 ⟨b.val * 33 + (n.val + 1), by omega⟩ 0 0 r k) = seen (n.val + 1) r.val k.val :=
    mask_at V0 b ⟨n.val + 1, by omega⟩ r k
  rw [hm]
  refine congrArg (fun z => if seen (n.val + 1) r.val k.val = 1#1 then z * _ else _) (Finset.sum_congr rfl fun d _ => ?_)
  refine congrArg₂ (· * ·) (window_key V0 b n k h d) (queries_at V0 b ⟨n.val + 1, by omega⟩ r h g d _ ?_)
  simp only [place]
  omega

/-- The result. -/
def result : FVec Ideal S16384x1024 .bf16 :=
  meansOf (windows (res_main_v69 V0)) (weightsOf (scores V0) (topsOf (peaks (scores V0)) (sinks V0))) (sinks V0) (topsOf (peaks (scores V0)) (sinks V0))

/-- The result at a row of block `n` of batch row `b` and a lane of head `8 h + g`: the mean of `AttnRow`. -/
theorem result_at (b : Fin 4) (n : Fin 32) (h : Fin 2) (g : Fin 8) (r : Fin 128) (d : Fin 64) :
    result V0 (ix2 ⟨b.val * 4096 + (n.val * 128 + r.val), by omega⟩ ⟨(h.val * 8 + g.val) * 64 + d.val, by omega⟩)
      = mean (scoreAt (P V0) (M V0) b n h g r) (S V0 (ix2 0 ⟨h.val * 8 + g.val, by omega⟩)) fun k => value (P V0) (M V0) b (place n k) h d := by
  have ht : topsOf (peaks (scores V0)) (sinks V0) (ix5 ⟨b.val * 33 + (n.val + 1), by omega⟩ h g r 0)
      = top (scoreAt (P V0) (M V0) b n h g r) (S V0 (ix2 0 ⟨h.val * 8 + g.val, by omega⟩)) := by
    rw [topsOf_at, peaks_at, sinks_at]
    unfold top
    simp only [scores_at]
  refine (meansOf_at _ _ _ _ b n h g r d ⟨b.val * 33 + (n.val + 1), by omega⟩ rfl).trans ?_
  unfold mean total
  simp only [weightsOf_at, ht, scores_at, sinks_at, window_value]

end Cert.Proof.AttnRef

end
end
-- ==== Proof.AttnLaw.lean ====
/-
  The laws of real rows of attention: finite arguments give real scores and a positive real total, so that dividing each
  weight and dividing the sum of the weighted values agree.
-/
module

public import proofs.«01_k».proof.Proof.AttnRow

@[expose] public section

noncomputable section

open Idealize.ShloMosaic

namespace Cert.Proof.AttnRow

/-- Neither infinity. -/
def IsReal (x : EReal) : Prop := ∃ r : ℝ, x = (r : EReal)

theorem isReal_iff {x : EReal} : IsReal x ↔ x ≠ ⊤ ∧ x ≠ ⊥ :=
  ⟨fun ⟨r, h⟩ => h ▸ ⟨EReal.coe_ne_top r, EReal.coe_ne_bot r⟩, fun h => ⟨x.toReal, (EReal.coe_toReal h.1 h.2).symm⟩⟩

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.neg {x : EReal} : IsReal x → IsReal (-x)
  | ⟨a, ha⟩ => ⟨-a, by rw [ha, EReal.coe_neg]⟩

theorem IsReal.sub {x y : EReal} : IsReal x → IsReal y → IsReal (x - y)
  | ⟨a, ha⟩, ⟨b, hb⟩ => ⟨a - b, by rw [ha, hb, EReal.coe_sub]⟩

theorem IsReal.cos {x : EReal} : IsReal x → IsReal (Ideal.cos x)
  | ⟨a, ha⟩ => ⟨Real.cos a, by rw [ha, Ideal.cos_coe]⟩

theorem IsReal.sin {x : EReal} : IsReal x → IsReal (Ideal.sin x)
  | ⟨a, ha⟩ => ⟨Real.sin a, by rw [ha, Ideal.sin_coe]⟩

theorem IsReal.pow {x y : EReal} : IsReal x → IsReal y → IsReal (Ideal.pow x y)
  | ⟨a, ha⟩, ⟨b, hb⟩ => ⟨Real.rpow a b, by rw [ha, hb, Ideal.pow_coe_coe]⟩

theorem sum_coe {n : ℕ} (f : Fin n → ℝ) : ∑ k, ((f k : ℝ) : EReal) = ((∑ k, f k : ℝ) : EReal) := by
  classical
  have h : ∀ s : Finset (Fin n), ∑ k ∈ s, ((f k : ℝ) : EReal) = ((∑ k ∈ s, f k : ℝ) : EReal) := fun s => by
    induction s using Finset.induction_on with
    | empty => simp
    | insert a s ha ih => rw [Finset.sum_insert ha, Finset.sum_insert ha, ih, EReal.coe_add]
  exact h _

theorem IsReal.sum {n : ℕ} {f : Fin n → EReal} (h : ∀ k, IsReal (f k)) : IsReal (∑ k, f k) := by
  choose g hg using h
  exact ⟨∑ k, g k, by rw [← sum_coe]; exact Finset.sum_congr rfl fun k _ => hg k⟩

theorem IsReal.max {x y : EReal} (hx : IsReal x) (hy : IsReal y) : IsReal (max x y) := by
  rcases max_choice x y with h | h <;> rw [h] <;> assumption

/-- The starting value of the largest score is the bottom element. -/
theorem start_bot : Ideal.ofBits .f32 4286578688#32 = ⊥ := by
  simp [Ideal.ofBits, Ideal.ieee]

/-- The largest of real scores and a real sink is real. -/
theorem isReal_top {x : Fin 256 → EReal} {s : EReal} (hx : ∀ k, IsReal (x k)) (hs : IsReal s) : IsReal (top x s) := by
  classical
  have h : ∀ t : Finset (Fin 256), t.fold max (Ideal.ofBits .f32 4286578688#32) x = ⊥
      ∨ IsReal (t.fold max (Ideal.ofBits .f32 4286578688#32) x) := fun t => by
    induction t using Finset.induction_on with
    | empty => exact Or.inl (by rw [Finset.fold_empty, start_bot])
    | insert a t ha ih =>
      rw [Finset.fold_insert ha]
      rcases ih with h | h
      · rw [h, max_bot_right]; exact Or.inr (hx a)
      · exact Or.inr ((hx a).max h)
  unfold top
  rcases h Finset.univ with h | h
  · rw [h, max_bot_left]; exact hs
  · exact h.max hs

/-- The mean with one division: the law that joins the two programs. -/
theorem mean_of_real {x v : Fin 256 → EReal} {s : EReal} (hx : ∀ k, IsReal (x k)) (hv : ∀ k, IsReal (v k)) (hs : IsReal s) :
    Ideal.div (∑ k, Ideal.exp (x k - top x s) * v k) (total x s) = mean x s v := by
  obtain ⟨t, ht⟩ := isReal_top hx hs
  obtain ⟨s', rfl⟩ := hs
  choose x' hx' using hx
  choose v' hv' using hv
  have he : ∀ k, Ideal.exp (x k - top x s') = ((Real.exp (x' k - t) : ℝ) : EReal) := fun k => by
    rw [ht, hx' k, ← EReal.coe_sub, Ideal.exp_coe]
  have hT : total x s' = (((∑ k, Real.exp (x' k - t)) + Real.exp (s' - t) : ℝ) : EReal) := by
    unfold total
    rw [EReal.coe_add, ← sum_coe, ht, ← EReal.coe_sub, Ideal.exp_coe]
    exact congrArg (· + _) (Finset.sum_congr rfl fun k _ => by rw [← he k, ht])
  have hpos : (∑ k, Real.exp (x' k - t)) + Real.exp (s' - t) ≠ 0 :=
    (add_pos_of_nonneg_of_pos (Finset.sum_nonneg fun k _ => (Real.exp_pos _).le) (Real.exp_pos _)).ne'
  unfold mean
  rw [hT, Ideal.div_coe hpos]
  have hl : ∀ k, Ideal.exp (x k - top x s') * v k = ((Real.exp (x' k - t) * v' k : ℝ) : EReal) := fun k => by
    rw [he, hv' k, EReal.coe_mul]
  have hr : ∀ k, v k * Ideal.div (Ideal.exp (x k - top x s')) (((∑ k, Real.exp (x' k - t)) + Real.exp (s' - t) : ℝ) : EReal)
      = ((Real.exp (x' k - t) * v' k * (1 / ((∑ k, Real.exp (x' k - t)) + Real.exp (s' - t))) : ℝ) : EReal) := fun k => by
    rw [Ideal.div_coe hpos, he, hv' k, ← EReal.coe_mul, ← EReal.coe_mul]
    exact congrArg _ (by ring)
  rw [Finset.sum_congr rfl fun k _ => hl k, Finset.sum_congr rfl fun k _ => hr k, sum_coe, sum_coe, ← EReal.coe_mul, Finset.sum_mul]

section
variable {P : FVec Ideal ⟨2, ![16384, 5376]⟩ .bf16} {M : FVec Ideal ⟨2, ![128, 5376]⟩ .bf16}

theorem isReal_slot (hP : ∀ i, IsReal (P i)) (hM : ∀ i, IsReal (M i)) (b : Fin 4) (s : Fin 4224) (c : Fin 5376) :
    IsReal (slot P M b s c) := by
  unfold slot; split
  · exact hM _
  · exact hP _

/-- A pattern whose exponent bits are not all ones denotes a real number. -/
theorem isReal_literal (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split
  · exact ⟨_, rfl⟩
  · exact ⟨_, rfl⟩

/-- The pair count by which the exponent is divided. -/
theorem pairs : Ideal.ofBits .f32 1115684864#32 = ((64 : ℝ) : EReal) := by
  simp [Ideal.ofBits, Ideal.ieee, -EReal.coe_mul]; norm_num

theorem isReal_angle (s : Fin 4224) (j : Fin 32) : IsReal (angle s j) := by
  unfold angle
  refine IsReal.mul ⟨_, rfl⟩ (IsReal.pow (isReal_literal _ (by decide)) ?_)
  rw [pairs, Ideal.div_coe (by norm_num)]
  exact ((isReal_literal _ (by decide)).mul ⟨_, rfl⟩).neg.mul ⟨_, rfl⟩

theorem isReal_turn {x : Fin 64 → EReal} (h : ∀ d, IsReal (x d)) (s : Fin 4224) (d : Fin 64) : IsReal (turn x s d) := by
  unfold turn; split
  · exact ((h _).mul (isReal_angle _ _).cos).sub ((h _).mul (isReal_angle _ _).sin)
  · exact ((h _).mul (isReal_angle _ _).cos).add ((h _).mul (isReal_angle _ _).sin)

theorem isReal_score {x y : Fin 64 → EReal} (hx : ∀ d, IsReal (x d)) (hy : ∀ d, IsReal (y d)) (c : BitVec 1) : IsReal (score c x y) := by
  unfold score; split
  · exact (IsReal.sum fun d => (hx d).mul (hy d)).mul (isReal_literal _ (by decide))
  · exact isReal_literal _ (by decide)

end

end Cert.Proof.AttnRow

end
end
-- ==== Proof.AttnFinite.lean ====
/-
  The precondition of the attention's value claim: its shape relations, and that arguments it holds of are real numbers.
-/
module

public import proofs.«01_k».proof.Proof.AttnRefValue
public import proofs.«01_k».proof.Proof.AttnLaw
public import Idealize.ShloMosaic.Lib.ReduceAll

@[expose] public section

set_option maxRecDepth 16384

noncomputable section

open Idealize.ShloMosaic Idealize.ShloMosaic.TcCoe Idealize.SL.Sem Idealize.ShloMosaic.StableHlo

namespace Cert.Proof.AttnFinite

open AttnRow

/-- The shape relations of the precondition. -/
instance facts : Cert.Pre_finite_attention.Facts where
  bitsLt_bf16_f32 := by decide
  bcast_S_S16384x5376 := by decide
  reducesTo_S16384x5376_S_d0_1 := by decide
  h_S_ := by decide
  bcast_S_S128x5376 := by decide
  reducesTo_S128x5376_S_d0_1 := by decide
  bcast_S_S1x16 := by decide
  reducesTo_S1x16_S_d0_1 := by decide

/-- The pattern the precondition compares with is the top element. -/
theorem bound_top : Ideal.ofBits .f32 0x7F800000#32 = ⊤ := by
  simp [Ideal.ofBits, Ideal.ieee]

/-- A number whose magnitude is below the top element is real. -/
theorem isReal_of_lt {x : EReal} (h : FloatOps.cmpf (F := Ideal) (φ := .f32) .olt (FloatOps.hostAbsf (F := Ideal) (φ := .f32) x) (Ideal.ofBits .f32 0x7F800000#32) = 1#1) : IsReal x := by
  rw [bound_top] at h
  have hlt : max x (-x) < ⊤ := by
    have h' : BitVec.ofBool (decide (max x (-x) < ⊤)) = 1#1 := h
    by_contra hn
    simp [hn] at h'
  obtain ⟨h1, h2⟩ := max_lt_iff.mp hlt
  refine isReal_iff.mpr ⟨ne_of_lt h1, fun hb => ?_⟩
  subst hb
  simp at h2

/-- Arguments the precondition holds of are real numbers. -/
theorem reals (P : FVec Ideal ⟨2, ![16384, 5376]⟩ .bf16) (M : FVec Ideal ⟨2, ![128, 5376]⟩ .bf16) (S : FVec Ideal ⟨2, ![1, 16]⟩ .f32)
    (h : Cert.Pre_finite_attention.fn (F := Ideal) P M S = fun _ => 1#1) :
    (∀ i, IsReal (P i)) ∧ (∀ i, IsReal (M i)) ∧ ∀ i, IsReal (S i) := by
  have e := congrFun h (Shape.Idx.first facts.h_S_)
  dsimp only [Cert.Pre_finite_attention.fn] at e
  obtain ⟨e01, e2⟩ := IntOp.andi_eq_one.mp e
  obtain ⟨e0, e1⟩ := IntOp.andi_eq_one.mp e01
  exact ⟨fun i => isReal_of_lt (Host.reduce_andi_all _ _ _ _ _ e0 i), fun i => isReal_of_lt (Host.reduce_andi_all _ _ _ _ _ e1 i),
    fun i => isReal_of_lt (Host.reduce_andi_all _ _ _ _ _ e2 i)⟩

end Cert.Proof.AttnFinite

end
end
-- ==== Proof.AttnKernel.lean ====
/-
  The attention kernel's steps as functions of whole arrays, each read at an index: stacking the heads' rows, the two
  products, the weights.
-/
module

public import proofs.«01_k».proof.Proof.Gen.AttnIdeal.Value
public import proofs.«01_k».proof.Proof.AttnLaw
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo

namespace Cert.Proof.Attn

open Cert.AttnIdeal Cert.AttnIdeal.Gen AttnRow

/-- The scale of the scores. -/
abbrev scale : Ideal .f32 := Scalar.ofBits (F := Ideal) .f32 0x3E000000#32

/-- One head's rows of the stacked scores. -/
def rows (g : Fin 8) (X : FVec Ideal S1024x256 .f32) : FVec Ideal S128x256 .f32 :=
  match g with
  | 0 => extractStridedSlice S128x256 ![0, 0] X slices_S1024x256_o0_0_S128x256
  | 1 => extractStridedSlice S128x256 ![128, 0] X slices_S1024x256_o128_0_S128x256
  | 2 => extractStridedSlice S128x256 ![256, 0] X slices_S1024x256_o256_0_S128x256
  | 3 => extractStridedSlice S128x256 ![384, 0] X slices_S1024x256_o384_0_S128x256
  | 4 => extractStridedSlice S128x256 ![512, 0] X slices_S1024x256_o512_0_S128x256
  | 5 => extractStridedSlice S128x256 ![640, 0] X slices_S1024x256_o640_0_S128x256
  | 6 => extractStridedSlice S128x256 ![768, 0] X slices_S1024x256_o768_0_S128x256
  | 7 => extractStridedSlice S128x256 ![896, 0] X slices_S1024x256_o896_0_S128x256

theorem rows_at (g : Fin 8) (X : FVec Ideal S1024x256 .f32) (r : Fin 128) (k : Fin 256) :
    rows g X (ix2 r k) = X (ix2 ⟨g.val * 128 + r.val, by omega⟩ k) := by
  fin_cases g <;> pointwise [rows]

/-- One head's rows of a stacked product. -/
def outRows (g : Fin 8) (Y : FVec Ideal S1024x64 .f32) : FVec Ideal S128x64 .f32 :=
  match g with
  | 0 => extractStridedSlice S128x64 ![0, 0] Y slices_S1024x64_o0_0_S128x64
  | 1 => extractStridedSlice S128x64 ![128, 0] Y slices_S1024x64_o128_0_S128x64
  | 2 => extractStridedSlice S128x64 ![256, 0] Y slices_S1024x64_o256_0_S128x64
  | 3 => extractStridedSlice S128x64 ![384, 0] Y slices_S1024x64_o384_0_S128x64
  | 4 => extractStridedSlice S128x64 ![512, 0] Y slices_S1024x64_o512_0_S128x64
  | 5 => extractStridedSlice S128x64 ![640, 0] Y slices_S1024x64_o640_0_S128x64
  | 6 => extractStridedSlice S128x64 ![768, 0] Y slices_S1024x64_o768_0_S128x64
  | 7 => extractStridedSlice S128x64 ![896, 0] Y slices_S1024x64_o896_0_S128x64

theorem outRows_at (g : Fin 8) (Y : FVec Ideal S1024x64 .f32) (r : Fin 128) (d : Fin 64) :
    outRows g Y (ix2 r d) = Y (ix2 ⟨g.val * 128 + r.val, by omega⟩ d) := by
  fin_cases g <;> pointwise [outRows]

/-- Eight heads' weights, one above the other. -/
def stack (W : Fin 8 → FVec Ideal S128x256 .bf16) : FVec Ideal S1024x256 .bf16 :=
  concatenate S1024x256 0 [⟨S128x256, W 0⟩, ⟨S128x256, W 1⟩, ⟨S128x256, W 2⟩, ⟨S128x256, W 3⟩, ⟨S128x256, W 4⟩, ⟨S128x256, W 5⟩, ⟨S128x256, W 6⟩, ⟨S128x256, W 7⟩] concatenates_S128x256_S128x256_S128x256_S128x256_S128x256_S128x256_S128x256_S128x256_S1024x256_d0

theorem stack_at (W : Fin 8 → FVec Ideal S128x256 .bf16) (g : Fin 8) (r : Fin 128) (k : Fin 256) :
    stack W (ix2 ⟨g.val * 128 + r.val, by omega⟩ k) = W g (ix2 r k) := by
  fin_cases g <;> pointwise [stack]
  all_goals
    have := r.isLt
    simp (disch := omega) only [dif_neg, dif_pos]
    exact congrArg (W _) (congrArg (ix2 · k) (Fin.ext (by dsimp only; omega)))

/-- Eight heads' queries, one above the other. -/
def stackQ (W : Fin 8 → FVec Ideal S128x64 .bf16) : FVec Ideal S1024x64 .bf16 :=
  concatenate S1024x64 0 [⟨S128x64, W 0⟩, ⟨S128x64, W 1⟩, ⟨S128x64, W 2⟩, ⟨S128x64, W 3⟩, ⟨S128x64, W 4⟩, ⟨S128x64, W 5⟩, ⟨S128x64, W 6⟩, ⟨S128x64, W 7⟩] concatenates_S128x64_S128x64_S128x64_S128x64_S128x64_S128x64_S128x64_S128x64_S1024x64_d0

theorem stackQ_at (W : Fin 8 → FVec Ideal S128x64 .bf16) (g : Fin 8) (r : Fin 128) (k : Fin 64) :
    stackQ W (ix2 ⟨g.val * 128 + r.val, by omega⟩ k) = W g (ix2 r k) := by
  fin_cases g <;> pointwise [stackQ]
  all_goals
    have := r.isLt
    simp (disch := omega) only [dif_neg, dif_pos]
    exact congrArg (W _) (congrArg (ix2 · k) (Fin.ext (by dsimp only; omega)))

/-- The stacked queries against a key head's keys. -/
def products (Q : FVec Ideal S1024x64 .bf16) (K : FVec Ideal S256x64 .bf16) : FVec Ideal S1024x256 .f32 :=
  matmul dot_S1024x64_S256x64_S1024x256_1_1_0_0_n_n none Q K (constant S1024x256 .f32 0x00000000#32)

theorem products_at (Q : FVec Ideal S1024x64 .bf16) (K : FVec Ideal S256x64 .bf16) (i : Fin 1024) (k : Fin 256) :
    products Q K (ix2 i k) = ∑ d : Fin 64, Q (ix2 i d) * K (ix2 k d) := by
  pointwise [products]

/-- The stacked weights against a key head's values. -/
def sums (A : FVec Ideal S1024x256 .bf16) (V : FVec Ideal S256x64 .bf16) : FVec Ideal S1024x64 .f32 :=
  matmul dot_S1024x256_S256x64_S1024x64_1_0_0_1_n_n none A V (constant S1024x64 .f32 0x00000000#32)

theorem sums_at (A : FVec Ideal S1024x256 .bf16) (V : FVec Ideal S256x64 .bf16) (i : Fin 1024) (d : Fin 64) :
    sums A V (ix2 i d) = ∑ k : Fin 256, A (ix2 i k) * V (ix2 k d) := by
  pointwise [sums]

theorem ones_at (k : Fin 256) (d : Fin 64) : k0_pay13 (F := Ideal) (ix2 k d) = 1 := by
  pointwise [k0_pay13]

theorem weight_at (M : IVec S128x256 1) (x : FVec Ideal S128x256 .f32) (s : Ideal .f32) (r : Fin 128) (k : Fin 256) :
    k0_pay21 (F := Ideal) M x scale s (ix2 r k) = Ideal.exp (k0_pay19 (F := Ideal) M x scale (ix2 r k) - k0_pay20 (F := Ideal) M x scale s (ix2 r 0)) := by
  pointwise [k0_pay21]

theorem sink_at (M : IVec S128x256 1) (x : FVec Ideal S128x256 .f32) (s : Ideal .f32) (r : Fin 128) :
    k0_pay22 (F := Ideal) M x scale s (ix2 r 0) = Ideal.exp (s - k0_pay20 (F := Ideal) M x scale s (ix2 r 0)) := by
  pointwise [k0_pay22]

theorem logit_at (M : IVec S128x256 1) (x : FVec Ideal S128x256 .f32) (r : Fin 128) (k : Fin 256) :
    k0_pay19 (F := Ideal) M x scale (ix2 r k) = if M (ix2 r k) = 1#1 then x (ix2 r k) * Ideal.ofBits .f32 1040187392#32 else Ideal.ofBits .f32 4048155338#32 := by
  pointwise [k0_pay19]
  try rfl

end Cert.Proof.Attn

end
end
-- ==== Proof.AttnPeak.lean ====
/-
  The largest score of a row in the kernel, and the kernel's rotary turn by a lane shuffle and a selection.
-/
module

public import proofs.«01_k».proof.Proof.Gen.AttnIdeal.Value
public import proofs.«01_k».proof.Proof.AttnLaw
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.StableHlo

namespace Cert.Proof.Attn

open Cert.AttnIdeal Cert.AttnIdeal.Gen AttnRow

/-- The largest score of each row. -/
def largest (L : FVec Ideal S128x256 .f32) : FVec Ideal S128 .f32 :=
  multiReduction .maximumf [1] S128 L 0xFF800000#32 reduces_S128x256_S128 (.inl rfl) rfl

theorem largest_at (L : FVec Ideal S128x256 .f32) (r : Fin 128) :
    largest L (ix1 r) = Finset.univ.fold max (Ideal.ofBits .f32 4286578688#32) (fun k : Fin 256 => L (ix2 r k)) := by
  pointwise [largest]

theorem peak_at (M : IVec S128x256 1) (x : FVec Ideal S128x256 .f32) (c s : Ideal .f32) (r : Fin 128) :
    k0_pay20 (F := Ideal) M x c s (ix2 r 0) = max (largest (k0_pay19 M x c) (ix1 r)) s := by
  show maximumf (F := Ideal) (shapeCast S128x1 (largest (k0_pay19 M x c)) shapeCasts_S128_S128x1) (broadcast S128x1 s) (ix2 r 0) = _
  generalize largest (k0_pay19 M x c) = L
  pointwise

/-- Which lanes belong to the first half of a head. -/
theorem lane_at (r : Fin 128) (l : Fin 128) : k0_pay4 (ix2 r l) = if l.val % 64 < 32 then 1#1 else 0#1 := by
  have h : ∀ l : Fin 128, k0_pay4 (ix2 0 l) = if l.val % 64 < 32 then 1#1 else 0#1 := by decide +kernel
  exact h l

/-- One turned block of 128 lanes: two heads. -/
theorem turned_at (C S : FVec Ideal S128x128 .f32) (X : FVec Ideal S128x128 .bf16) (r : Fin 128) (l : Fin 128) :
    k0_pay61 (F := Ideal) k0_pay4 C S X (ix2 r l)
      = X (ix2 r l) * C (ix2 r l) + (if l.val % 64 < 32 then X (ix2 r ⟨(l.val + 32) % 128, by omega⟩) else X (ix2 r ⟨(l.val + 96) % 128, by omega⟩)) * S (ix2 r l) := by
  pointwise [k0_pay61, lane_at]
  split
  · exact congrArg (fun i => X (ix2 r l) * C (ix2 r l) + X (ix2 r i) * S (ix2 r l)) (Fin.ext (by dsimp only; omega))
  · exact congrArg (fun i => X (ix2 r l) * C (ix2 r l) + X (ix2 r i) * S (ix2 r l)) (Fin.ext (by dsimp only; omega))

end Cert.Proof.Attn

end
end
-- ==== Proof.AttnTables.lean ====
/-
  The rotary tables the host hands to the attention kernel, and the kernel's turn of a 128-lane block of two heads.
-/
module

public import proofs.«01_k».proof.Proof.AttnKernel
public import proofs.«01_k».proof.Proof.AttnPeak

@[expose] public section

set_option maxRecDepth 16384

noncomputable section

open Idealize.ShloMosaic Idealize.ShloMosaic.TcCoe Idealize.SL.Sem Idealize.ShloMosaic.StableHlo

namespace Cert.Proof.Attn

open Cert.AttnIdeal Cert.AttnIdeal.Gen AttnRow

/-- The angles of all slots and pairs, as the host computes them. -/
def angles : FVec Ideal S4224x32 .f32 :=
  mulf
    (broadcastInDim S4224x32 ![0, 1] bcast_S4224x1_S4224x32_0_1
      (broadcastInDim S4224x1 ![0] bcast_S4224_S4224x1_0
        (sitofp (F := Ideal) .f32 (subi (iotaInDim S4224 32 0) (broadcastInDim S4224 ![] bcast_S_S4224 (constantI S_ 32 112#32))))))
    (broadcastInDim S4224x32 ![0, 1] bcast_S1x32_S4224x32_0_1
      (broadcastInDim S1x32 ![1] bcast_S32_S1x32_1
        (Host.powf (broadcastInDim S32 ![] bcast_S_S32 (constant (F := Ideal) S_ .f32 0x461C4000#32))
          (Host.divf
            (Host.negf (addf (broadcastInDim S32 ![] bcast_S_S32 (constant (F := Ideal) S_ .f32 0x00000000#32))
              (mulf (broadcastInDim S32 ![] bcast_S_S32 (constant (F := Ideal) S_ .f32 0x40000000#32)) (sitofp (F := Ideal) .f32 (iotaInDim S32 32 0)))))
            (broadcastInDim S32 ![] bcast_S_S32 (constant (F := Ideal) S_ .f32 0x42800000#32))))))

theorem angles_at (s : Fin 4224) (j : Fin 32) : angles (ix2 s j) = angle s j := by
  pointwise [angles, angle]

/-- A table of 128 lanes: the two halves of a head's 64 lanes, for two heads. -/
def table (L R : FVec Ideal S4224x32 .f32) : FVec Ideal S4224x128 .f32 :=
  shapeCast S4224x128 (broadcastInDim S1x4224x2x64 ![0, 1, 2, 3] bcast_S1x4224x1x64_S1x4224x2x64_0_1_2_3
    (shapeCast S1x4224x1x64 (concatenate S4224x64 1 [⟨S4224x32, L⟩, ⟨S4224x32, R⟩] concatenates_S4224x32_S4224x32_S4224x64_d1)
      shapeCasts_S4224x64_S1x4224x1x64)) shapeCasts_S1x4224x2x64_S4224x128

theorem table_at (L R : FVec Ideal S4224x32 .f32) (s : Fin 4224) (h : Fin 2) (e : Fin 64) :
    table L R (ix2 s ⟨h.val * 64 + e.val, by omega⟩)
      = if he : e.val < 32 then L (ix2 s ⟨e.val, he⟩) else R (ix2 s ⟨e.val - 32, by omega⟩) := by
  pointwise [table]

variable (m : (ℓ : Loc nD τ sig) → Buf (Elt Ideal) ℓ)

theorem entry_cos (c : Dev nD) : V m c main_v24 = table (Host.cos angles) (Host.cos angles) := by
  unfold V
  after_reads_simp
  rfl

theorem entry_sin (c : Dev nD) : V m c main_v29 = table (Host.negf (Host.sin angles)) (Host.sin angles) := by
  unfold V
  after_reads_simp
  rfl

theorem cos_at (s : Fin 4224) (h : Fin 2) (e : Fin 64) :
    table (Host.cos angles) (Host.cos angles) (ix2 s ⟨h.val * 64 + e.val, by omega⟩)
      = if he : e.val < 32 then Ideal.cos (angle s ⟨e.val, he⟩) else Ideal.cos (angle s ⟨e.val - 32, by omega⟩) := by
  rw [table_at]
  simp only [← angles_at]
  rfl

theorem sin_at (s : Fin 4224) (h : Fin 2) (e : Fin 64) :
    table (Host.negf (Host.sin angles)) (Host.sin angles) (ix2 s ⟨h.val * 64 + e.val, by omega⟩)
      = if he : e.val < 32 then -(Ideal.sin (angle s ⟨e.val, he⟩)) else Ideal.sin (angle s ⟨e.val - 32, by omega⟩) := by
  rw [table_at]
  simp only [← angles_at]
  rfl

/-- One turned lane as the kernel computes it: the partner is fetched by a rotation of the whole block. -/
def turned (X C S : Fin 128 → EReal) (l : Fin 128) : EReal :=
  X l * C l + (if l.val % 64 < 32 then X ⟨(l.val + 32) % 128, by omega⟩ else X ⟨(l.val + 96) % 128, by omega⟩) * S l

theorem turned_eq (X C S : Fin 128 → EReal) (s : Fin 4224) (h : Fin 2) (e : Fin 64)
    (hC : C ⟨h.val * 64 + e.val, by omega⟩ = table (Host.cos angles) (Host.cos angles) (ix2 s ⟨h.val * 64 + e.val, by omega⟩))
    (hS : S ⟨h.val * 64 + e.val, by omega⟩ = table (Host.negf (Host.sin angles)) (Host.sin angles) (ix2 s ⟨h.val * 64 + e.val, by omega⟩)) :
    turned X C S ⟨h.val * 64 + e.val, by omega⟩ = turn (fun e => X ⟨h.val * 64 + e.val, by omega⟩) s e := by
  have hm : (h.val * 64 + e.val) % 64 = e.val := by omega
  unfold turned turn
  rw [hC, hS, cos_at, sin_at]
  dsimp only
  rw [hm]
  by_cases he : e.val < 32
  · simp only [he, if_true, dif_pos]
    rw [mul_neg, ← sub_eq_add_neg]
    exact congrArg (fun i => X ⟨h.val * 64 + e.val, _⟩ * _ - X i * _) (Fin.ext (by dsimp only; omega))
  · simp only [he, if_false, dif_neg, not_false_eq_true]
    exact congrArg (fun i => X ⟨h.val * 64 + e.val, _⟩ * _ + X i * _) (Fin.ext (by dsimp only; omega))

/-- One turned block of 128 lanes. -/
def turnedBlock (C S X : FVec Ideal S128x128 .f32) : FVec Ideal S128x128 .f32 :=
  addf (mulf X C) (mulf (select k0_pay4 (dynamicRotate 1 96#32 none X rotates_S128x128_d1) (dynamicRotate 1 32#32 none X rotates_S128x128_d1)) S)

theorem turnedBlock_at (C S X : FVec Ideal S128x128 .f32) (r l : Fin 128) :
    turnedBlock C S X (ix2 r l) = turned (fun l => X (ix2 r l)) (fun l => C (ix2 r l)) (fun l => S (ix2 r l)) l :=
  turned_at C S X r l

theorem recast (x : FVec Ideal S128x128 .f32) : shapeCast S128x128 x shapeCasts_S128x128_S128x128 = x := by
  funext i
  obtain ⟨r, l, rfl⟩ : ∃ r l : Fin 128, i = ix2 r l := ⟨i 0, i 1, by funext k; fin_cases k <;> rfl⟩
  pointwise

/-- The keys of a point: the turned rows of the block before on top of the turned rows of the point's own block. -/
theorem keys_at (C S P C' S' : FVec Ideal S128x128 .f32) (X : FVec Ideal S128x128 .bf16) (k : Fin 256) (l : Fin 128) :
    k0_pay10 (F := Ideal) k0_pay4 C S P C' S' X (ix2 k l)
      = if hk : k.val < 128 then turned (fun l => P (ix2 ⟨k.val, hk⟩ l)) (fun l => C' (ix2 ⟨k.val, hk⟩ l)) (fun l => S' (ix2 ⟨k.val, hk⟩ l)) l
        else turned (fun l => X (ix2 ⟨k.val - 128, by omega⟩ l)) (fun l => C (ix2 ⟨k.val - 128, by omega⟩ l)) (fun l => S (ix2 ⟨k.val - 128, by omega⟩ l)) l := by
  refine Eq.trans (b := truncf (F := Ideal) .bf16 (concatenate S256x128 0 [⟨S128x128, turnedBlock C' (shapeCast S128x128 S' shapeCasts_S128x128_S128x128) P⟩, ⟨S128x128, turnedBlock C S (extf (F := Ideal) .f32 X bitsLt_bf16_f32)⟩] concatenates_S128x128_S128x128_S256x128_d0) bitsLt_bf16_f32 (ix2 k l)) rfl ?_
  rw [recast]
  have ha := turnedBlock_at C' S' P
  have hb := turnedBlock_at C S (extf (F := Ideal) .f32 X bitsLt_bf16_f32)
  generalize turnedBlock C' S' P = a at ha ⊢
  generalize turnedBlock C S (extf (F := Ideal) .f32 X bitsLt_bf16_f32) = b at hb ⊢
  refine Eq.trans (b := if hk : k.val < 128 then a (ix2 ⟨k.val, hk⟩ l) else b (ix2 ⟨k.val - 128, by omega⟩ l)) (by pointwise) ?_
  split
  · exact ha _ _
  · exact hb _ _

/-- The values of a point: the block before on top of the point's own. -/
theorem values_at (P X : FVec Ideal S128x128 .bf16) (k : Fin 256) (l : Fin 128) :
    k0_pay11 (F := Ideal) P X (ix2 k l) = if hk : k.val < 128 then P (ix2 ⟨k.val, hk⟩ l) else X (ix2 ⟨k.val - 128, by omega⟩ l) := by
  pointwise [k0_pay11]

end Cert.Proof.Attn

end
end
-- ==== Proof.AttnMask.lean ====
/-
  The kernel's mask at a grid point: the same bit as the reference's, though counted from the block's own start.
-/
module

public import proofs.«01_k».proof.Proof.Gen.AttnIdeal.Value
public import proofs.«01_k».proof.Proof.AttnLaw
public import Idealize.ShloMosaic.Lib.Pipeline.ValueKit
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem Idealize.ShloMosaic.StableHlo

namespace Cert.Proof.Attn

open Cert.AttnIdeal Cert.AttnIdeal.Gen AttnRow

theorem bit_ext {a b : BitVec 1} (h : a = 1#1 ↔ b = 1#1) : a = b := by
  revert h; revert a b; decide

theorem flip_bit (f : BitVec 1) : Scalar.xori f 1#1 = 1#1 ↔ ¬ f = 1#1 := by
  revert f; decide

theorem and_bit (a b : BitVec 1) : IntOp.andi a b = 1#1 ↔ a = 1#1 ∧ b = 1#1 := by
  revert a b; decide

theorem or_bit (a b : BitVec 1) : IntOp.ori a b = 1#1 ↔ a = 1#1 ∨ b = 1#1 := by
  revert a b; decide

/-- A difference of words is the word of the difference, a whole turn added. -/
theorem sub_word (a b : ℕ) (h : b < 2 ^ 32) : IntOp.subi (BitVec.ofNat 32 a) (BitVec.ofNat 32 b) = BitVec.ofNat 32 (a + 2 ^ 32 - b) := by
  apply BitVec.eq_of_toNat_eq
  simp only [IntOp.subi, BitVec.toNat_sub, BitVec.toNat_ofNat]
  omega

theorem mul_word (a b : ℕ) : IntOp.muli (BitVec.ofNat 32 a) (BitVec.ofNat 32 b) = BitVec.ofNat 32 (a * b) :=
  BitVec.ofNat_mul_ofNat a b

theorem seen_iff (n : Fin 32) (r : Fin 128) (k : Fin 256) :
    seen (n.val + 1) r.val k.val = 1#1 ↔ (k.val ≤ 128 + r.val ∧ r.val < k.val ∧ 112 ≤ n.val * 128 + k.val) := by
  have hk : IntOp.addi (IntOp.subi (IntOp.muli (BitVec.ofNat 32 (n.val + 1)) 128#32) 128#32) (BitVec.ofNat 32 k.val) = BitVec.ofNat 32 (n.val * 128 + k.val) := by
    rw [show 128#32 = BitVec.ofNat 32 128 from rfl, mul_word, sub_word _ _ (by norm_num)]
    word_omega
  have hq : IntOp.addi (IntOp.muli (BitVec.ofNat 32 (n.val + 1)) 128#32) (BitVec.ofNat 32 r.val) = BitVec.ofNat 32 ((n.val + 1) * 128 + r.val) := by
    rw [show 128#32 = BitVec.ofNat 32 128 from rfl, mul_word]
    word_omega
  unfold seen
  dsimp only
  rw [hk, hq]
  rw [and_bit, and_bit]
  have hs0 : n.val * 128 + k.val < 100000 := by omega
  have hu0 : (n.val + 1) * 128 + r.val < 100000 := by omega
  clear hk hq
  obtain ⟨s, hs⟩ : ∃ s, s = n.val * 128 + k.val := ⟨_, rfl⟩
  obtain ⟨u, hu⟩ : ∃ u, u = (n.val + 1) * 128 + r.val := ⟨_, rfl⟩
  rw [← hs, ← hu]
  have h1 : IntOp.cmpi .sge (IntOp.subi (BitVec.ofNat 32 u) (BitVec.ofNat 32 s)) 0#32 = 1#1 ↔ s ≤ u := by
    have : s < 100000 := by omega
    have : u < 100000 := by omega
    rw [sub_word _ _ (by omega)]
    word_omega
  have h2 : IntOp.cmpi .slt (IntOp.subi (BitVec.ofNat 32 u) (BitVec.ofNat 32 s)) 128#32 = 1#1 ↔ u < 128 + s := by
    have : s < 100000 := by omega
    have : u < 100000 := by omega
    rw [sub_word _ _ (by omega)]
    word_omega
  have h3 : IntOp.cmpi .sge (BitVec.ofNat 32 s) 112#32 = 1#1 ↔ 112 ≤ s := by
    have : s < 100000 := by omega
    word_omega
  rw [h1, h2, h3]
  omega

/-- The kernel's mask is the reference's. -/
theorem mask_at (n : Fin 32) (r : Fin 128) (k : Fin 256) :
    k0_pay12 (Scalar.cmpi .eq (BitVec.ofNat 32 n.val) 0#32) (ix2 r k) = seen (n.val + 1) r.val k.val := by
  refine bit_ext ((show _ ↔ _ from ?_).trans (seen_iff n r k).symm)
  have hf : Scalar.cmpi .eq (BitVec.ofNat 32 n.val) 0#32 = 1#1 ↔ n.val = 0 := by
    show IntOp.cmpi .eq (BitVec.ofNat 32 n.val) 0#32 = 1#1 ↔ n.val = 0
    word_omega
  generalize Scalar.cmpi .eq (BitVec.ofNat 32 n.val) 0#32 = f at hf ⊢
  pointwise [k0_pay12]
  have h1 : IntOp.cmpi .slt (BitVec.ofNat 32 k.val) 128#32 = 1#1 ↔ k.val < 128 := by word_omega
  have h2 : IntOp.cmpi .sgt (BitVec.ofNat 32 k.val) (BitVec.ofNat 32 r.val) = 1#1 ↔ r.val < k.val := by word_omega
  have h3 : IntOp.cmpi .sge (BitVec.ofNat 32 k.val) 112#32 = 1#1 ↔ 112 ≤ k.val := by word_omega
  have h4 : IntOp.cmpi .sge (BitVec.ofNat 32 k.val) 128#32 = 1#1 ↔ 128 ≤ k.val := by word_omega
  have h5 : IntOp.cmpi .sle (IntOp.subi (BitVec.ofNat 32 k.val) 128#32) (BitVec.ofNat 32 r.val) = 1#1 ↔ k.val ≤ 128 + r.val := by
    rw [show 128#32 = BitVec.ofNat 32 128 from rfl, sub_word _ _ (by norm_num)]
    word_omega
  rw [or_bit, and_bit, and_bit, and_bit, or_bit, flip_bit, hf, h1, h2, h3, h4, h5]
  omega

end Cert.Proof.Attn

end
end
-- ==== Proof.AttnBlocks.lean ====
/-
  What the attention kernel's windows hold at a grid point, as entries of the arguments: its queries, keys, values and
  sinks.
-/
module

public import proofs.«01_k».proof.Proof.AttnTables
public import proofs.«01_k».proof.Proof.AttnMask

@[expose] public section

set_option maxRecDepth 16384

noncomputable section

open Idealize.ShloMosaic Idealize.ShloMosaic.TcCoe Idealize.SL.Sem Idealize.ShloMosaic.StableHlo

namespace Cert.Proof.Attn

open Cert.AttnIdeal Cert.AttnIdeal.Gen AttnRow

variable (m : (ℓ : Loc nD τ sig) → Buf (Elt Ideal) ℓ)

/-- Which block each window holds at grid point `t`. -/
theorem idx : ∀ t : Fin cfg0.N, win0_0.index t = ![0] ∧ win0_1.index t = ![t.val, 0] ∧ win0_2.index t = ![t.val, 40] ∧ win0_3.index t = ![t.val, 41]
    ∧ win0_4.index t = ![t.val / 32 * 32 + (t.val % 32 - 1), 40] ∧ win0_5.index t = ![t.val / 32 * 32 + (t.val % 32 - 1), 41]
    ∧ win0_6.index t = ![0, 40] ∧ win0_7.index t = ![0, 41]
    ∧ win0_8.index t = ![t.val % 32 + 1, 0] ∧ win0_9.index t = ![t.val % 32 + 1, 0]
    ∧ win0_10.index t = ![t.val % 32, 0] ∧ win0_11.index t = ![t.val % 32, 0] ∧ win0_12.index t = ![t.val, 0] :=
  (by decide +kernel : ∀ t : Fin grid0.N, _)

theorem coord : ∀ t : Fin cfg0.N, (grid0.coords t 1).val = t.val % 32 :=
  (by decide +kernel : ∀ t : Fin grid0.N, _)

theorem lt (t : Fin cfg0.N) : t.val < 128 := lt_of_lt_of_eq t.isLt N_0

/-- The arguments, at their literal types. -/
abbrev P (c : Dev nD) : FVec Ideal S16384x5376 .bf16 := m ((c : Thread nD τ).loc main_arg0)
abbrev M (c : Dev nD) : FVec Ideal S128x5376 .bf16 := m ((c : Thread nD τ).loc main_arg1)
abbrev S (c : Dev nD) : FVec Ideal S1x16 .f32 := m ((c : Thread nD τ).loc main_arg2)

/-- The batch row and the block of a grid point. -/
abbrev batch (t : Fin cfg0.N) : Fin 4 := ⟨t.val / 32, by have := lt t; omega⟩
abbrev block (t : Fin cfg0.N) : Fin 32 := ⟨t.val % 32, by omega⟩

theorem own_k (c : Dev nD) (t : Fin cfg0.N) (r l : Fin 128) :
    (show FVec Ideal S128x128 .bf16 from iblk m c 2 t) (ix2 r l) = P m c (ix2 ⟨t.val * 128 + r.val, by have := lt t; omega⟩ ⟨5120 + l.val, by omega⟩) := by
  show iblk m c 2 t (ix2 r l) = _
  blk_simp [iblk]
  blk_ext [idx t]

theorem own_v (c : Dev nD) (t : Fin cfg0.N) (r l : Fin 128) :
    (show FVec Ideal S128x128 .bf16 from iblk m c 3 t) (ix2 r l) = P m c (ix2 ⟨t.val * 128 + r.val, by have := lt t; omega⟩ ⟨5248 + l.val, by omega⟩) := by
  show iblk m c 3 t (ix2 r l) = _
  blk_simp [iblk]
  blk_ext [idx t]

theorem prev_k (c : Dev nD) (t : Fin cfg0.N) (r l : Fin 128) :
    (show FVec Ideal S128x128 .bf16 from iblk m c 4 t) (ix2 r l) = P m c (ix2 ⟨(t.val / 32 * 32 + (t.val % 32 - 1)) * 128 + r.val, by have := lt t; omega⟩ ⟨5120 + l.val, by omega⟩) := by
  show iblk m c 4 t (ix2 r l) = _
  blk_simp [iblk]
  blk_ext [idx t]

theorem meta_k (c : Dev nD) (t : Fin cfg0.N) (r l : Fin 128) :
    (show FVec Ideal S128x128 .bf16 from iblk m c 6 t) (ix2 r l) = M m c (ix2 r ⟨5120 + l.val, by omega⟩) := by
  show iblk m c 6 t (ix2 r l) = _
  blk_simp [iblk]
  blk_ext [idx t]

theorem own_cos (c : Dev nD) (t : Fin cfg0.N) (r l : Fin 128) :
    (show FVec Ideal S128x128 .f32 from iblk m c 8 t) (ix2 r l) = V m c main_v24 (ix2 ⟨(t.val % 32 + 1) * 128 + r.val, by omega⟩ l) := by
  show iblk m c 8 t (ix2 r l) = _
  blk_simp [iblk]
  blk_ext [idx t]

theorem own_q (c : Dev nD) (t : Fin cfg0.N) (r : Fin 128) (l : Fin 1024) :
    (show FVec Ideal S128x1024 .bf16 from X0_1 m c t) (ix2 r l) = P m c (ix2 ⟨t.val * 128 + r.val, by have := lt t; omega⟩ ⟨l.val, by omega⟩) := by
  show X0_1 m c t (ix2 r l) = _
  unfold X0_1 Pipeline.Window.fill
  rw [dif_pos (moved0_1 t _)]
  blk_simp [iblk]
  blk_ext [idx t]

theorem sink (c : Dev nD) (t : Fin cfg0.N) (i : Fin 16) :
    (show FVec Ideal S16 .f32 from iblk m c 0 t) (ix1 i) = V m c main_v30 (ix1 i) := by
  show iblk m c 0 t (ix1 i) = _
  blk_simp [iblk]
  blk_ext [idx t]

theorem prev_v (c : Dev nD) (t : Fin cfg0.N) (r l : Fin 128) :
    (show FVec Ideal S128x128 .bf16 from iblk m c 5 t) (ix2 r l) = P m c (ix2 ⟨(t.val / 32 * 32 + (t.val % 32 - 1)) * 128 + r.val, by have := lt t; omega⟩ ⟨5248 + l.val, by omega⟩) := by
  show iblk m c 5 t (ix2 r l) = _
  blk_simp [iblk]
  blk_ext [idx t]

theorem meta_v (c : Dev nD) (t : Fin cfg0.N) (r l : Fin 128) :
    (show FVec Ideal S128x128 .bf16 from iblk m c 7 t) (ix2 r l) = M m c (ix2 r ⟨5248 + l.val, by omega⟩) := by
  show iblk m c 7 t (ix2 r l) = _
  blk_simp [iblk]
  blk_ext [idx t]

theorem own_sin (c : Dev nD) (t : Fin cfg0.N) (r l : Fin 128) :
    (show FVec Ideal S128x128 .f32 from iblk m c 9 t) (ix2 r l) = V m c main_v29 (ix2 ⟨(t.val % 32 + 1) * 128 + r.val, by omega⟩ l) := by
  show iblk m c 9 t (ix2 r l) = _
  blk_simp [iblk]
  blk_ext [idx t]

theorem prev_cos (c : Dev nD) (t : Fin cfg0.N) (r l : Fin 128) :
    (show FVec Ideal S128x128 .f32 from iblk m c 10 t) (ix2 r l) = V m c main_v24 (ix2 ⟨t.val % 32 * 128 + r.val, by omega⟩ l) := by
  show iblk m c 10 t (ix2 r l) = _
  blk_simp [iblk]
  blk_ext [idx t]

theorem prev_sin (c : Dev nD) (t : Fin cfg0.N) (r l : Fin 128) :
    (show FVec Ideal S128x128 .f32 from iblk m c 11 t) (ix2 r l) = V m c main_v29 (ix2 ⟨t.val % 32 * 128 + r.val, by omega⟩ l) := by
  show iblk m c 11 t (ix2 r l) = _
  blk_simp [iblk]
  blk_ext [idx t]

theorem entry_sinks (c : Dev nD) : V m c main_v30 = shapeCast S16 (S m c) shapeCasts_S1x16_S16 := by
  unfold V
  after_reads_simp
  rfl

/-- The point's query lanes, 128 at a time. -/
def lanes (c : Dev nD) (t : Fin cfg0.N) (j : Fin 8) : FVec Ideal S128x128 .bf16 :=
  match j with
  | 0 => View.ld (X0_1 m c t) (Rect.unit ![0, 0] ![128, 128] inb_S128x1024_S128x128_0_0)
  | 1 => View.ld (X0_1 m c t) (Rect.unit ![0, 128] ![128, 128] inb_S128x1024_S128x128_0_128)
  | 2 => View.ld (X0_1 m c t) (Rect.unit ![0, 256] ![128, 128] inb_S128x1024_S128x128_0_256)
  | 3 => View.ld (X0_1 m c t) (Rect.unit ![0, 384] ![128, 128] inb_S128x1024_S128x128_0_384)
  | 4 => View.ld (X0_1 m c t) (Rect.unit ![0, 512] ![128, 128] inb_S128x1024_S128x128_0_512)
  | 5 => View.ld (X0_1 m c t) (Rect.unit ![0, 640] ![128, 128] inb_S128x1024_S128x128_0_640)
  | 6 => View.ld (X0_1 m c t) (Rect.unit ![0, 768] ![128, 128] inb_S128x1024_S128x128_0_768)
  | 7 => View.ld (X0_1 m c t) (Rect.unit ![0, 896] ![128, 128] inb_S128x1024_S128x128_0_896)

theorem lanes_at (c : Dev nD) (t : Fin cfg0.N) (j : Fin 8) (r l : Fin 128) :
    lanes m c t j (ix2 r l) = P m c (ix2 ⟨t.val * 128 + r.val, by have := lt t; omega⟩ ⟨j.val * 128 + l.val, by omega⟩) := by
  refine Eq.trans ?_ (own_q m c t r ⟨j.val * 128 + l.val, by omega⟩)
  fin_cases j <;> (show X0_1 m c t _ = X0_1 m c t _; congr 1; funext a; fin_cases a <;> (apply Fin.ext; simp [Rect.unit, lanes]))

/-- The point's sinks: head `8 h + g`. -/
def sinks (c : Dev nD) (t : Fin cfg0.N) (h : Fin 2) (g : Fin 8) : Ideal .f32 :=
  match h, g with
  | 0, 0 => View.ld (iblk m c 0 t) (Rect.unit ![0] ![1] inb_S16_S1_0) (Shape.Idx.first (Nat.lt_of_lt_of_eq Nat.one_pos numel1_S1.symm))
  | 0, 1 => View.ld (iblk m c 0 t) (Rect.unit ![1] ![1] inb_S16_S1_1) (Shape.Idx.first (Nat.lt_of_lt_of_eq Nat.one_pos numel1_S1.symm))
  | 0, 2 => View.ld (iblk m c 0 t) (Rect.unit ![2] ![1] inb_S16_S1_2) (Shape.Idx.first (Nat.lt_of_lt_of_eq Nat.one_pos numel1_S1.symm))
  | 0, 3 => View.ld (iblk m c 0 t) (Rect.unit ![3] ![1] inb_S16_S1_3) (Shape.Idx.first (Nat.lt_of_lt_of_eq Nat.one_pos numel1_S1.symm))
  | 0, 4 => View.ld (iblk m c 0 t) (Rect.unit ![4] ![1] inb_S16_S1_4) (Shape.Idx.first (Nat.lt_of_lt_of_eq Nat.one_pos numel1_S1.symm))
  | 0, 5 => View.ld (iblk m c 0 t) (Rect.unit ![5] ![1] inb_S16_S1_5) (Shape.Idx.first (Nat.lt_of_lt_of_eq Nat.one_pos numel1_S1.symm))
  | 0, 6 => View.ld (iblk m c 0 t) (Rect.unit ![6] ![1] inb_S16_S1_6) (Shape.Idx.first (Nat.lt_of_lt_of_eq Nat.one_pos numel1_S1.symm))
  | 0, 7 => View.ld (iblk m c 0 t) (Rect.unit ![7] ![1] inb_S16_S1_7) (Shape.Idx.first (Nat.lt_of_lt_of_eq Nat.one_pos numel1_S1.symm))
  | 1, 0 => View.ld (iblk m c 0 t) (Rect.unit ![8] ![1] inb_S16_S1_8) (Shape.Idx.first (Nat.lt_of_lt_of_eq Nat.one_pos numel1_S1.symm))
  | 1, 1 => View.ld (iblk m c 0 t) (Rect.unit ![9] ![1] inb_S16_S1_9) (Shape.Idx.first (Nat.lt_of_lt_of_eq Nat.one_pos numel1_S1.symm))
  | 1, 2 => View.ld (iblk m c 0 t) (Rect.unit ![10] ![1] inb_S16_S1_10) (Shape.Idx.first (Nat.lt_of_lt_of_eq Nat.one_pos numel1_S1.symm))
  | 1, 3 => View.ld (iblk m c 0 t) (Rect.unit ![11] ![1] inb_S16_S1_11) (Shape.Idx.first (Nat.lt_of_lt_of_eq Nat.one_pos numel1_S1.symm))
  | 1, 4 => View.ld (iblk m c 0 t) (Rect.unit ![12] ![1] inb_S16_S1_12) (Shape.Idx.first (Nat.lt_of_lt_of_eq Nat.one_pos numel1_S1.symm))
  | 1, 5 => View.ld (iblk m c 0 t) (Rect.unit ![13] ![1] inb_S16_S1_13) (Shape.Idx.first (Nat.lt_of_lt_of_eq Nat.one_pos numel1_S1.symm))
  | 1, 6 => View.ld (iblk m c 0 t) (Rect.unit ![14] ![1] inb_S16_S1_14) (Shape.Idx.first (Nat.lt_of_lt_of_eq Nat.one_pos numel1_S1.symm))
  | 1, 7 => View.ld (iblk m c 0 t) (Rect.unit ![15] ![1] inb_S16_S1_15) (Shape.Idx.first (Nat.lt_of_lt_of_eq Nat.one_pos numel1_S1.symm))

theorem sinks_at (c : Dev nD) (t : Fin cfg0.N) (h : Fin 2) (g : Fin 8) : sinks m c t h g = S m c (ix2 0 ⟨h.val * 8 + g.val, by omega⟩) := by
  refine Eq.trans ?_ ((sink m c t ⟨h.val * 8 + g.val, by omega⟩).trans (by rw [entry_sinks]; pointwise))
  fin_cases h <;> fin_cases g <;> (show iblk m c 0 t _ = iblk m c 0 t _; congr 1; funext a; fin_cases a; rfl)

theorem pick {s : Shape} {α : Type} (f : BitVec 1) (A B : s.Idx → α) (i : s.Idx) : (Scalar.select f A B) i = if f = 1#1 then A i else B i := by
  by_cases h : f = 1#1
  · subst h; rfl
  · rw [if_neg h]; exact congrFun (if_neg h) i

/-- The bit that says a point is the first of its batch row. -/
theorem first_iff (t : Fin cfg0.N) : Scalar.cmpi .eq (BitVec.ofNat 32 (grid0.coords t 1).val) 0#32 = 1#1 ↔ t.val % 32 = 0 := by
  rw [coord]
  show IntOp.cmpi .eq (BitVec.ofNat 32 (t.val % 32)) 0#32 = 1#1 ↔ _
  have : t.val % 32 < 32 := by omega
  word_omega

theorem before_k (c : Dev nD) (t : Fin cfg0.N) (r l : Fin 128) :
    k0_pay7 (F := Ideal) (grid0.coords t) (iblk m c 6 t) (iblk m c 4 t) (ix2 r l)
      = slot (P m c) (M m c) (batch t) (place (block t) ⟨r.val, by omega⟩) ⟨5120 + l.val, by omega⟩ := by
  refine (pick _ _ _ _).trans ?_
  rw [if_congr (first_iff t) (meta_k m c t r l) (prev_k m c t r l)]
  have := lt t
  unfold slot place
  dsimp only
  by_cases h : t.val % 32 = 0
  · rw [if_pos h, dif_pos (by omega)]
    exact congrArg (fun i => M m c (ix2 i _)) (Fin.ext (by dsimp only; omega))
  · rw [if_neg h, dif_neg (by omega)]
    exact congrArg (fun i => P m c (ix2 i _)) (Fin.ext (by dsimp only; omega))

theorem before_v (c : Dev nD) (t : Fin cfg0.N) (r l : Fin 128) :
    k0_pay8 (F := Ideal) (grid0.coords t) (iblk m c 7 t) (iblk m c 5 t) (ix2 r l)
      = slot (P m c) (M m c) (batch t) (place (block t) ⟨r.val, by omega⟩) ⟨5248 + l.val, by omega⟩ := by
  refine (pick _ _ _ _).trans ?_
  rw [if_congr (first_iff t) (meta_v m c t r l) (prev_v m c t r l)]
  have := lt t
  unfold slot place
  dsimp only
  by_cases h : t.val % 32 = 0
  · rw [if_pos h, dif_pos (by omega)]
    exact congrArg (fun i => M m c (ix2 i _)) (Fin.ext (by dsimp only; omega))
  · rw [if_neg h, dif_neg (by omega)]
    exact congrArg (fun i => P m c (ix2 i _)) (Fin.ext (by dsimp only; omega))

/-- A row of the point's own block is the slot one block later. -/
theorem own_slot (c : Dev nD) (t : Fin cfg0.N) (r : Fin 128) (j : Fin 5376) :
    P m c (ix2 ⟨t.val * 128 + r.val, by have := lt t; omega⟩ j) = slot (P m c) (M m c) (batch t) (place (block t) ⟨128 + r.val, by omega⟩) j := by
  have := lt t
  unfold slot place
  dsimp only
  rw [dif_neg (by omega)]
  exact congrArg (fun i => P m c (ix2 i _)) (Fin.ext (by dsimp only; omega))

/-- The keys, the values, the mask of a point, as the kernel's body forms them. -/
abbrev keysOf (c : Dev nD) (t : Fin cfg0.N) : FVec Ideal S256x128 .bf16 :=
  k0_pay10 (F := Ideal) k0_pay4 (k0_pay5 (iblk m c 8 t)) (k0_pay6 (iblk m c 9 t)) (k0_pay7 (grid0.coords t) (iblk m c 6 t) (iblk m c 4 t))
    (k0_pay9 (iblk m c 10 t)) (iblk m c 11 t) (iblk m c 2 t)

abbrev valuesOf (c : Dev nD) (t : Fin cfg0.N) : FVec Ideal S256x128 .bf16 :=
  k0_pay11 (F := Ideal) (k0_pay8 (grid0.coords t) (iblk m c 7 t) (iblk m c 5 t)) (iblk m c 3 t)

theorem own_turn_cos (c : Dev nD) (t : Fin cfg0.N) (r l : Fin 128) :
    k0_pay5 (F := Ideal) (iblk m c 8 t) (ix2 r l) = table (Host.cos angles) (Host.cos angles) (ix2 (place (block t) ⟨128 + r.val, by omega⟩) l) := by
  refine (congrFun (recast _) _).trans ((own_cos m c t r l).trans ?_)
  rw [entry_cos]
  exact congrArg (fun i => table _ _ (ix2 i l)) (Fin.ext (by simp only [place]; omega))

theorem own_turn_sin (c : Dev nD) (t : Fin cfg0.N) (r l : Fin 128) :
    k0_pay6 (F := Ideal) (iblk m c 9 t) (ix2 r l) = table (Host.negf (Host.sin angles)) (Host.sin angles) (ix2 (place (block t) ⟨128 + r.val, by omega⟩) l) := by
  refine (congrFun (recast _) _).trans ((own_sin m c t r l).trans ?_)
  rw [entry_sin]
  exact congrArg (fun i => table _ _ (ix2 i l)) (Fin.ext (by simp only [place]; omega))

theorem keysOf_at (c : Dev nD) (t : Fin cfg0.N) (k : Fin 256) (h : Fin 2) (e : Fin 64) :
    keysOf m c t (ix2 k ⟨h.val * 64 + e.val, by omega⟩) = key (P m c) (M m c) (batch t) (place (block t) k) h e := by
  refine (keys_at _ _ _ _ _ _ _ _).trans ?_
  unfold key
  split
  next hk =>
    refine (turned_eq _ _ _ (place (block t) k) h e ?_ ?_).trans ?_
    · refine (congrFun (recast _) _).trans ((prev_cos m c t _ _).trans ?_)
      rw [entry_cos]; rfl
    · refine (prev_sin m c t _ _).trans ?_
      rw [entry_sin]; rfl
    · exact congrArg (fun x => turn x _ e) (funext fun e => before_k m c t _ _)
  next hk =>
    have hp : place (block t) k = place (block t) ⟨128 + (k.val - 128), by omega⟩ := Fin.ext (by simp only [place]; omega)
    rw [hp]
    refine (turned_eq _ _ _ (place (block t) ⟨128 + (k.val - 128), by omega⟩) h e ?_ ?_).trans ?_
    · exact own_turn_cos m c t ⟨k.val - 128, by omega⟩ _
    · exact own_turn_sin m c t ⟨k.val - 128, by omega⟩ _
    · exact congrArg (fun x => turn x _ e) (funext fun e => (own_k m c t ⟨k.val - 128, by omega⟩ _).trans (own_slot m c t ⟨k.val - 128, by omega⟩ _))

theorem valuesOf_at (c : Dev nD) (t : Fin cfg0.N) (k : Fin 256) (h : Fin 2) (d : Fin 64) :
    valuesOf m c t (ix2 k ⟨h.val * 64 + d.val, by omega⟩) = value (P m c) (M m c) (batch t) (place (block t) k) h d := by
  refine (values_at _ _ _ _).trans ?_
  unfold value
  split
  next hk => exact before_v m c t _ _
  next hk =>
    have hp : place (block t) k = place (block t) ⟨128 + (k.val - 128), by omega⟩ := Fin.ext (by simp only [place]; omega)
    rw [hp]
    exact (own_v m c t ⟨k.val - 128, by omega⟩ _).trans (own_slot m c t ⟨k.val - 128, by omega⟩ _)

/-- A turned block, from its tables' slot. -/
theorem turned_block (C S : FVec Ideal S128x128 .f32) (X : FVec Ideal S128x128 .bf16) (s : Fin 4224) (r : Fin 128) (h : Fin 2) (e : Fin 64)
    (hC : ∀ l, C (ix2 r l) = table (Host.cos angles) (Host.cos angles) (ix2 s l))
    (hS : ∀ l, S (ix2 r l) = table (Host.negf (Host.sin angles)) (Host.sin angles) (ix2 s l)) :
    k0_pay61 (F := Ideal) k0_pay4 C S X (ix2 r ⟨h.val * 64 + e.val, by omega⟩) = turn (fun e => X (ix2 r ⟨h.val * 64 + e.val, by omega⟩)) s e :=
  (turned_at C S X r _).trans (turned_eq (fun l => X (ix2 r l)) (fun l => C (ix2 r l)) (fun l => S (ix2 r l)) s h e (hC _) (hS _))

/-- Turned query lanes, 128 at a time: heads `2 j` and `2 j + 1`. -/
theorem queriesOf_at (c : Dev nD) (t : Fin cfg0.N) (j : Fin 8) (r : Fin 128) (h : Fin 2) (e : Fin 64) :
    k0_pay61 (F := Ideal) k0_pay4 (k0_pay5 (iblk m c 8 t)) (k0_pay6 (iblk m c 9 t)) (lanes m c t j) (ix2 r ⟨h.val * 64 + e.val, by omega⟩)
      = query (P m c) (M m c) (batch t) (place (block t) ⟨128 + r.val, by omega⟩) ⟨j.val * 2 + h.val, by omega⟩ e := by
  refine (turned_block _ _ (lanes m c t j) _ r h e (own_turn_cos m c t r) (own_turn_sin m c t r)).trans ?_
  unfold query
  refine congrArg (fun x => turn x _ e) (funext fun e => (lanes_at m c t j r _).trans ((own_slot m c t r _).trans ?_))
  exact congrArg (slot (P m c) (M m c) (batch t) _) (Fin.ext (by dsimp only; omega))

end Cert.Proof.Attn

end
end
-- ==== Proof.AttnHead.lean ====
/-
  One head of the attention kernel over any stacked scores: its rows' weighted sum divided by their total.
-/
module

public import proofs.«01_k».proof.Proof.AttnTables

@[expose] public section

set_option maxRecDepth 16384

noncomputable section

open Idealize.ShloMosaic Idealize.ShloMosaic.TcCoe Idealize.SL.Sem Idealize.ShloMosaic.StableHlo

namespace Cert.Proof.Attn

open Cert.AttnIdeal Cert.AttnIdeal.Gen AttnRow

/-- A head's weights and its sink's weight, from the stacked scores. -/
abbrev weights (X : FVec Ideal S1024x256 .f32) (M : IVec S128x256 1) (s : Fin 8 → Ideal .f32) (g : Fin 8) : FVec Ideal S128x256 .bf16 :=
  k0_pay21 (F := Ideal) M (rows g X) scale (s g)

abbrev sinkWeight (X : FVec Ideal S1024x256 .f32) (M : IVec S128x256 1) (s : Fin 8 → Ideal .f32) (g : Fin 8) : FVec Ideal S128x1 .f32 :=
  k0_pay22 (F := Ideal) M (rows g X) scale (s g)

/-- A quotient by a sum and a column. -/
def ratio (A B : FVec Ideal S128x64 .f32) (w : FVec Ideal S128x1 .f32) : FVec Ideal S128x64 .bf16 :=
  truncf .bf16 (divf A (addf B (broadcastTo S128x64 w broadcasts_S128x1_S128x64))) bitsLt_bf16_f32

theorem ratio_at (A B : FVec Ideal S128x64 .f32) (w : FVec Ideal S128x1 .f32) (r : Fin 128) (d : Fin 64) :
    ratio A B w (ix2 r d) = Ideal.div (A (ix2 r d)) (B (ix2 r d) + w (ix2 r 0)) := by
  pointwise [ratio]

/-- One head's output, from the stacked scores of its eight heads and their values. -/
def head (X : FVec Ideal S1024x256 .f32) (V : FVec Ideal S256x64 .bf16) (M : IVec S128x256 1) (s : Fin 8 → Ideal .f32) (g : Fin 8) :
    FVec Ideal S128x64 .bf16 :=
  ratio (outRows g (sums (stack (weights X M s)) V)) (outRows g (sums (stack (weights X M s)) k0_pay13)) (sinkWeight X M s g)

/-- The masked score of one head's row. -/
def line (X : FVec Ideal S1024x256 .f32) (M : IVec S128x256 1) (g : Fin 8) (r : Fin 128) (k : Fin 256) : EReal :=
  if M (ix2 r k) = 1#1 then X (ix2 ⟨g.val * 128 + r.val, by omega⟩ k) * Ideal.ofBits .f32 1040187392#32 else Ideal.ofBits .f32 4048155338#32

theorem logit_line (X : FVec Ideal S1024x256 .f32) (M : IVec S128x256 1) (g : Fin 8) (r : Fin 128) (k : Fin 256) :
    k0_pay19 (F := Ideal) M (rows g X) scale (ix2 r k) = line X M g r k := by
  rw [logit_at, rows_at]; rfl

theorem peak_line (X : FVec Ideal S1024x256 .f32) (M : IVec S128x256 1) (s : Ideal .f32) (g : Fin 8) (r : Fin 128) :
    k0_pay20 (F := Ideal) M (rows g X) scale s (ix2 r 0) = top (line X M g r) s := by
  rw [peak_at, largest_at]
  unfold top
  exact congrArg (fun x => max (Finset.univ.fold max (Ideal.ofBits .f32 4286578688#32) x) s) (funext fun k => logit_line X M g r k)

theorem weight_line (X : FVec Ideal S1024x256 .f32) (M : IVec S128x256 1) (s : Fin 8 → Ideal .f32) (g : Fin 8) (r : Fin 128) (k : Fin 256) :
    weights X M s g (ix2 r k) = Ideal.exp (line X M g r k - top (line X M g r) (s g)) := by
  unfold weights
  rw [weight_at, logit_line, peak_line]

theorem head_at (X : FVec Ideal S1024x256 .f32) (V : FVec Ideal S256x64 .bf16) (M : IVec S128x256 1) (s : Fin 8 → Ideal .f32) (g : Fin 8)
    (r : Fin 128) (d : Fin 64) :
    head X V M s g (ix2 r d)
      = Ideal.div (∑ k : Fin 256, Ideal.exp (line X M g r k - top (line X M g r) (s g)) * V (ix2 k d)) (total (line X M g r) (s g)) := by
  unfold head
  rw [ratio_at, outRows_at, outRows_at, sums_at, sums_at]
  unfold sinkWeight
  rw [sink_at, peak_line]
  simp only [stack_at, weight_line, ones_at, mul_one]
  rfl

/-- The stacked queries of eight heads: the turned lanes, split into heads. -/
def headQ (C S : FVec Ideal S128x128 .f32) (q : Fin 4 → FVec Ideal S128x128 .bf16) (g : Fin 8) : FVec Ideal S128x64 .bf16 :=
  match g with
  | 0 => extractStridedSlice S128x64 ![0, 0] (k0_pay61 (F := Ideal) k0_pay4 C S (q 0)) slices_S128x128_o0_0_S128x64
  | 1 => extractStridedSlice S128x64 ![0, 64] (k0_pay61 (F := Ideal) k0_pay4 C S (q 0)) slices_S128x128_o0_64_S128x64
  | 2 => extractStridedSlice S128x64 ![0, 0] (k0_pay61 (F := Ideal) k0_pay4 C S (q 1)) slices_S128x128_o0_0_S128x64
  | 3 => extractStridedSlice S128x64 ![0, 64] (k0_pay61 (F := Ideal) k0_pay4 C S (q 1)) slices_S128x128_o0_64_S128x64
  | 4 => extractStridedSlice S128x64 ![0, 0] (k0_pay61 (F := Ideal) k0_pay4 C S (q 2)) slices_S128x128_o0_0_S128x64
  | 5 => extractStridedSlice S128x64 ![0, 64] (k0_pay61 (F := Ideal) k0_pay4 C S (q 2)) slices_S128x128_o0_64_S128x64
  | 6 => extractStridedSlice S128x64 ![0, 0] (k0_pay61 (F := Ideal) k0_pay4 C S (q 3)) slices_S128x128_o0_0_S128x64
  | 7 => extractStridedSlice S128x64 ![0, 64] (k0_pay61 (F := Ideal) k0_pay4 C S (q 3)) slices_S128x128_o0_64_S128x64

theorem slice_lo (x : FVec Ideal S128x128 .bf16) (r : Fin 128) (e : Fin 64) :
    extractStridedSlice S128x64 ![0, 0] x slices_S128x128_o0_0_S128x64 (ix2 r e) = x (ix2 r ⟨e.val, by omega⟩) := by
  pointwise

theorem slice_hi (x : FVec Ideal S128x128 .bf16) (r : Fin 128) (e : Fin 64) :
    extractStridedSlice S128x64 ![0, 64] x slices_S128x128_o0_64_S128x64 (ix2 r e) = x (ix2 r ⟨64 + e.val, by omega⟩) := by
  pointwise

theorem headQ_at (C S : FVec Ideal S128x128 .f32) (q : Fin 4 → FVec Ideal S128x128 .bf16) (j : Fin 4) (h : Fin 2) (r : Fin 128) (e : Fin 64) :
    headQ C S q ⟨j.val * 2 + h.val, by omega⟩ (ix2 r e) = k0_pay61 (F := Ideal) k0_pay4 C S (q j) (ix2 r ⟨h.val * 64 + e.val, by omega⟩) := by
  fin_cases h
  · refine Eq.trans ?_ ((slice_lo (k0_pay61 (F := Ideal) k0_pay4 C S (q j)) r e).trans (congrArg (fun i => k0_pay61 (F := Ideal) k0_pay4 C S (q j) (ix2 r i)) (Fin.ext (by dsimp only; omega))))
    fin_cases j <;> rfl
  · refine Eq.trans ?_ ((slice_hi (k0_pay61 (F := Ideal) k0_pay4 C S (q j)) r e).trans (congrArg (fun i => k0_pay61 (F := Ideal) k0_pay4 C S (q j) (ix2 r i)) rfl))
    fin_cases j <;> rfl

/-- The keys and values of the two key heads. -/
def half (h : Fin 2) (K : FVec Ideal S256x128 .bf16) : FVec Ideal S256x64 .bf16 :=
  match h with
  | 0 => extractStridedSlice S256x64 ![0, 0] K slices_S256x128_o0_0_S256x64
  | 1 => extractStridedSlice S256x64 ![0, 64] K slices_S256x128_o0_64_S256x64

theorem half_at (h : Fin 2) (K : FVec Ideal S256x128 .bf16) (k : Fin 256) (e : Fin 64) :
    half h K (ix2 k e) = K (ix2 k ⟨h.val * 64 + e.val, by omega⟩) := by
  fin_cases h <;> pointwise [half]

/-- The stacked scores of a key head. -/
def scores (h : Fin 2) (C S : FVec Ideal S128x128 .f32) (q : Fin 4 → FVec Ideal S128x128 .bf16) (K : FVec Ideal S256x128 .bf16) : FVec Ideal S1024x256 .f32 :=
  products (stackQ (headQ C S q)) (half h K)

/-- The kernel's own forms of the two stacks of scores. -/
theorem scores_first (C S : FVec Ideal S128x128 .f32) (q : Fin 4 → FVec Ideal S128x128 .bf16) (K : FVec Ideal S256x128 .bf16) :
    k0_pay17 (F := Ideal) k0_pay4 C S K (k0_pay14 (q 0)) (k0_pay15 (q 0)) 32#32 (q 1) (q 2) (q 3) = scores 0 C S q K := rfl

theorem scores_second (C S : FVec Ideal S128x128 .f32) (q : Fin 4 → FVec Ideal S128x128 .bf16) (K : FVec Ideal S256x128 .bf16) :
    k0_pay72 (F := Ideal) k0_pay4 C S K (k0_pay62 k0_pay4 C S (q 0)) (k0_pay63 k0_pay4 C S (q 0)) (k0_pay65 k0_pay4 C S (q 1)) (k0_pay66 k0_pay4 C S (q 1))
      (k0_pay68 k0_pay4 C S (q 2)) (k0_pay69 k0_pay4 C S (q 2)) (k0_pay70 (q 3)) = scores 1 C S q K := rfl

end Cert.Proof.Attn

end
end
-- ==== Proof.AttnPoint.lean ====
/-
  One head at one grid point: its entries are the means of AttnRow.lean.
-/
module

public import proofs.«01_k».proof.Proof.AttnBlocks
public import proofs.«01_k».proof.Proof.AttnHead
public import proofs.«01_k».proof.Proof.AttnLaw

@[expose] public section

set_option maxRecDepth 16384

noncomputable section

open Idealize.ShloMosaic Idealize.ShloMosaic.TcCoe Idealize.SL.Sem Idealize.ShloMosaic.StableHlo

namespace Cert.Proof.Attn

open Cert.AttnIdeal Cert.AttnIdeal.Gen AttnRow

variable (m : (ℓ : Loc nD τ sig) → Buf (Elt Ideal) ℓ)

/-- The mask of a point. -/
abbrev maskOf (t : Fin cfg0.N) : IVec S128x256 1 := k0_pay12 (Scalar.cmpi .eq (BitVec.ofNat 32 (grid0.coords t 1).val) 0#32)

/-- The stacked scores of a point's key head. -/
abbrev scoresOf (c : Dev nD) (t : Fin cfg0.N) (h : Fin 2) : FVec Ideal S1024x256 .f32 :=
  scores h (k0_pay5 (iblk m c 8 t)) (k0_pay6 (iblk m c 9 t)) (fun j => lanes m c t ⟨h.val * 4 + j.val, by omega⟩) (keysOf m c t)

/-- One head of a point. -/
abbrev headOf (c : Dev nD) (t : Fin cfg0.N) (h : Fin 2) (g : Fin 8) : FVec Ideal S128x64 .bf16 :=
  head (scoresOf m c t h) (half h (valuesOf m c t)) (maskOf t) (sinks m c t h) g

/-- A turned query of a point, from its head. -/
theorem head_query (c : Dev nD) (t : Fin cfg0.N) (h : Fin 2) (g : Fin 8) (r : Fin 128) (e : Fin 64) :
    headQ (k0_pay5 (iblk m c 8 t)) (k0_pay6 (iblk m c 9 t)) (fun j => lanes m c t ⟨h.val * 4 + j.val, by omega⟩) g (ix2 r e)
      = query (P m c) (M m c) (batch t) (place (block t) ⟨128 + r.val, by omega⟩) ⟨h.val * 8 + g.val, by omega⟩ e := by
  have hg : g = ⟨(⟨g.val / 2, by omega⟩ : Fin 4).val * 2 + (⟨g.val % 2, by omega⟩ : Fin 2).val, by dsimp only; omega⟩ := Fin.ext (by dsimp only; omega)
  refine (congrArg (fun g => headQ _ _ _ g (ix2 r e)) hg).trans ((headQ_at _ _ _ _ _ r e).trans ?_)
  refine (queriesOf_at m c t ⟨h.val * 4 + g.val / 2, by omega⟩ r ⟨g.val % 2, by omega⟩ e).trans ?_
  exact congrArg (fun i => query (P m c) (M m c) (batch t) _ i e) (Fin.ext (by dsimp only; omega))

/-- A row of masked scores. -/
theorem line_score (c : Dev nD) (t : Fin cfg0.N) (h : Fin 2) (g : Fin 8) (r : Fin 128) :
    line (scoresOf m c t h) (maskOf t) g r = scoreAt (P m c) (M m c) (batch t) (block t) h g r := by
  funext k
  have hm : maskOf t (ix2 r k) = seen ((block t).val + 1) r.val k.val := by
    unfold maskOf; rw [coord]; exact mask_at (block t) r k
  unfold line scoreAt score
  rw [hm]
  refine if_congr Iff.rfl (congrArg (· * Ideal.ofBits .f32 1040187392#32) ?_) rfl
  unfold scoresOf scores
  rw [products_at]
  refine Finset.sum_congr rfl fun e _ => ?_
  rw [stackQ_at, half_at, head_query, keysOf_at, mul_comm]

/-- One entry of a head: the reference's mean, when the arguments are real numbers. -/
theorem headOf_at (c : Dev nD) (t : Fin cfg0.N) (h : Fin 2) (g : Fin 8) (r : Fin 128) (d : Fin 64)
    (hP : ∀ i, IsReal (P m c i)) (hM : ∀ i, IsReal (M m c i)) (hS : ∀ i, IsReal (S m c i)) :
    headOf m c t h g (ix2 r d)
      = mean (scoreAt (P m c) (M m c) (batch t) (block t) h g r) (S m c (ix2 0 ⟨h.val * 8 + g.val, by omega⟩))
          fun k => value (P m c) (M m c) (batch t) (place (block t) k) h d := by
  unfold headOf
  rw [head_at, line_score, sinks_at]
  simp only [half_at, valuesOf_at]
  refine mean_of_real (fun k => ?_) (fun k => isReal_slot hP hM _ _ _) (hS _)
  exact isReal_score (isReal_turn (fun e => isReal_slot hP hM _ _ _) _) (isReal_turn (fun e => isReal_slot hP hM _ _ _) _) _

end Cert.Proof.Attn

end
end
-- ==== Proof.AttnValue.lean ====
/-
  The attention kernel's result is its reference's, at finite arguments.
-/
module

public import proofs.«01_k».proof.Proof.Gen.AttnRefIdeal
public import proofs.«01_k».proof.Proof.Gen.AttnRefIdeal.Run
public import proofs.«01_k».proof.Proof.AttnRefValue
public import proofs.«01_k».proof.Proof.AttnPoint
public import proofs.«01_k».proof.Proof.AttnFinite

@[expose] public section

set_option maxRecDepth 16384

noncomputable section

open Idealize.ShloMosaic Idealize.ShloMosaic.TcCoe Idealize.SL.Sem Idealize.ShloMosaic.StableHlo

namespace Cert.Proof.Attn

open Cert.AttnIdeal Cert.AttnIdeal.Gen AttnRow

variable (m : (ℓ : Loc nD τ sig) → Buf (Elt Ideal) ℓ)

/-- The array of means: what both programs return. -/
def means (P : FVec Ideal S16384x5376 .bf16) (M : FVec Ideal S128x5376 .bf16) (S : FVec Ideal S1x16 .f32) (b : Fin 4) (n : Fin 32) (h : Fin 2) (g : Fin 8)
    (r : Fin 128) (d : Fin 64) : EReal :=
  mean (scoreAt P M b n h g r) (S (ix2 0 ⟨h.val * 8 + g.val, by omega⟩)) fun k => value P M b (place n k) h d

/-- A head's entry is the entry of any array with those means at the row and lane the head's block covers. -/
theorem place_head (c : Dev nD) (X : FVec Ideal S16384x1024 .bf16)
    (hP : ∀ i, IsReal (P m c i)) (hM : ∀ i, IsReal (M m c i)) (hS : ∀ i, IsReal (S m c i))
    (hX : ∀ b n h g r d, X (ix2 ⟨b.val * 4096 + (n.val * 128 + r.val), by omega⟩ ⟨(h.val * 8 + g.val) * 64 + d.val, by omega⟩)
      = means (P m c) (M m c) (S m c) b n h g r d)
    (t : Fin cfg0.N) (h : Fin 2) (g : Fin 8) (x : S128x64.Idx) (z : S16384x1024.Idx)
    (h0 : (z 0).val = t.val * 128 + (x 0).val) (h1 : (z 1).val = (h.val * 8 + g.val) * 64 + (x 1).val) :
    headOf m c t h g x = X z := by
  idx_vars x
  refine (headOf_at m c t h g x0 x1 hP hM hS).trans ((hX (batch t) (block t) h g x0 x1).symm.trans ?_)
  have := lt t
  congr 1
  funext a
  fin_cases a
  · exact Fin.ext (by simp only [ix2] at h0 ⊢; dsimp at h0 ⊢; omega)
  · exact Fin.ext h1.symm

theorem final (c : Dev nD) (X : FVec Ideal S16384x1024 .bf16)
    (hP : ∀ i, IsReal (P m c i)) (hM : ∀ i, IsReal (M m c i)) (hS : ∀ i, IsReal (S m c i))
    (hX : ∀ b n h g r d, X (ix2 ⟨b.val * 4096 + (n.val * 128 + r.val), by omega⟩ ⟨(h.val * 8 + g.val) * 64 + d.val, by omega⟩)
      = means (P m c) (M m c) (S m c) b n h g r d) :
    (dats m 0 c).arrAt 12 (cfgs 0).N = X := by
  refine (dats m 0 c).arrAt_eq_of_covers 12 _ (by decide +kernel) fun t _ y => ?_
  blk_simp
  rw [after0_12]; unfold outsAt0; frame_out
  have hz : ∃ z : S16384x1024.Idx, X (((View.whole main_v31).slice (win0_12.rect t)).emb y) = X z
      ∧ (z 0).val = t.val * 128 + (y 0).val ∧ (z 1).val = (y 1).val := by
    have := lt t
    have b0 : (y 0).val < 128 := (y 0).isLt
    have b1 : (y 1).val < 1024 := (y 1).isLt
    refine ⟨ix2 ⟨t.val * 128 + (y 0).val, by omega⟩ ⟨(y 1).val, b1⟩, ?_, rfl, rfl⟩
    blk_ext [idx t]
  obtain ⟨z, hz, z0, z1⟩ := hz
  rw [hz]
  clear hz
  canon_tiles x h
  case piece15 => exact place_head m c X hP hM hS hX t 0 0 x z (by omega) (by rw [z1, h1]; simp)
  case piece14 => exact place_head m c X hP hM hS hX t 0 1 x z (by omega) (by rw [z1, h1]; rfl)
  case piece13 => exact place_head m c X hP hM hS hX t 0 2 x z (by omega) (by rw [z1, h1]; rfl)
  case piece12 => exact place_head m c X hP hM hS hX t 0 3 x z (by omega) (by rw [z1, h1]; rfl)
  case piece11 => exact place_head m c X hP hM hS hX t 0 4 x z (by omega) (by rw [z1, h1]; rfl)
  case piece10 => exact place_head m c X hP hM hS hX t 0 5 x z (by omega) (by rw [z1, h1]; rfl)
  case piece9 => exact place_head m c X hP hM hS hX t 0 6 x z (by omega) (by rw [z1, h1]; rfl)
  case piece8 => exact place_head m c X hP hM hS hX t 0 7 x z (by omega) (by rw [z1, h1]; rfl)
  case piece7 => exact place_head m c X hP hM hS hX t 1 0 x z (by omega) (by rw [z1, h1]; rfl)
  case piece6 => exact place_head m c X hP hM hS hX t 1 1 x z (by omega) (by rw [z1, h1]; rfl)
  case piece5 => exact place_head m c X hP hM hS hX t 1 2 x z (by omega) (by rw [z1, h1]; rfl)
  case piece4 => exact place_head m c X hP hM hS hX t 1 3 x z (by omega) (by rw [z1, h1]; rfl)
  case piece3 => exact place_head m c X hP hM hS hX t 1 4 x z (by omega) (by rw [z1, h1]; rfl)
  case piece2 => exact place_head m c X hP hM hS hX t 1 5 x z (by omega) (by rw [z1, h1]; rfl)
  case piece1 => exact place_head m c X hP hM hS hX t 1 6 x z (by omega) (by rw [z1, h1]; rfl)
  case piece0 => exact place_head m c X hP hM hS hX t 1 7 x z (by omega) (by rw [z1, h1]; rfl)

/-- The attention at the ideal instance: from finite arguments the kernel's result is the reference's. -/
theorem algebraic : Cert.algebraic_AttnIdeal_AttnRefIdeal_pre_finite_attention := by
  intro m ρ m' ρ' hpre hagree
  refine ⟨_, Cert.AttnIdeal.Value.run_blocks m ρ, ?_⟩
  refine (θ_run Cert.AttnRefIdeal.defs _ _).mono (fun _ h c => ?_) (Cert.AttnRefIdeal.Value.run (F := Ideal) m' ρ')
  obtain ⟨e0, kept⟩ := h c
  obtain ⟨a0, a1, a2⟩ := hagree c
  obtain ⟨hP, hM, hS⟩ := AttnFinite.reals (P m c) (M m c) (S m c) (hpre c)
  refine ⟨e0.trans ?_, kept⟩
  refine Eq.trans (b := AttnRef.result (launchContents m' c)) ?_ (final m c _ hP hM hS fun b n h g r d => ?_).symm
  · rfl
  · refine (AttnRef.result_at (launchContents m' c) b n h g r d).trans ?_
    have e0 : AttnRef.P (launchContents m' c) = P m c := a0
    have e1 : AttnRef.M (launchContents m' c) = M m c := a1
    have e2 : AttnRef.S (launchContents m' c) = S m c := a2
    rw [e0, e1, e2]
    rfl

end Cert.Proof.Attn

end
end
-- ==== Proof.RetRow.lean ====
/-
  The retention over extended reals, as both programs compute it: the rotary turn of a head's vector, the state carried from
  block to block, and the normalised, gated row.
-/
module

public import proofs.«01_k».proof.Proof.AttnRow

@[expose] public section

noncomputable section

open Idealize.ShloMosaic

namespace Cert.Proof.RetRow

open AttnRow (slot)

/-- The angle by which pair `j` of a head's vector is turned at slot `s`. -/
def angle (s : Fin 4224) (j : Fin 128) : EReal :=
  FloatOps.sitofp (F := Ideal) .f32 (IntOp.subi (BitVec.ofNat 32 s.val) 112#32)
    * Ideal.pow (Ideal.ofBits .f32 1176256512#32)
        (Ideal.div (-(Ideal.ofBits .f32 1073741824#32 * FloatOps.sitofp (F := Ideal) .f32 (BitVec.ofNat 32 j.val)))
          (Ideal.ofBits .f32 1132462080#32))

/-- The rotary turn of a head's vector at slot `s`: lane `d` of the first half is paired with lane `128 + d`. -/
def turn (x : Fin 256 → EReal) (s : Fin 4224) (d : Fin 256) : EReal :=
  if h : d.val < 128 then
    x d * Ideal.cos (angle s ⟨d.val, h⟩) - x ⟨128 + d.val, by omega⟩ * Ideal.sin (angle s ⟨d.val, h⟩)
  else
    x d * Ideal.cos (angle s ⟨d.val - 128, by omega⟩)
      + x ⟨d.val - 128, by omega⟩ * Ideal.sin (angle s ⟨d.val - 128, by omega⟩)

/-- Whether a slot holds a token: the slots before the meta tokens do not. -/
def holds (s : Fin 4224) : BitVec 1 := IntOp.cmpi .sge (BitVec.ofNat 32 s.val) 112#32

variable (P : FVec Ideal ⟨2, ![16384, 5376]⟩ .bf16) (M : FVec Ideal ⟨2, ![128, 5376]⟩ .bf16)

/-- The turned query of head `h` at slot `s`. -/
def query (b : Fin 4) (h : Fin 4) (s : Fin 4224) : Fin 256 → EReal :=
  turn (fun e => slot P M b s ⟨1024 + (h.val * 256 + e.val), by omega⟩) s

/-- The turned and scaled key of head `h` at slot `s`: zero before the meta tokens. -/
def key (b : Fin 4) (h : Fin 4) (s : Fin 4224) (d : Fin 256) : EReal :=
  turn (fun e => slot P M b s ⟨2048 + (h.val * 256 + e.val), by omega⟩ * FloatOps.uitofp (F := Ideal) .f32 (holds s)) s d
    * Ideal.ofBits .f32 1031798784#32

/-- The value of head `h` at slot `s`. -/
def value (b : Fin 4) (h : Fin 4) (s : Fin 4224) (e : Fin 256) : EReal :=
  slot P M b s ⟨3072 + (h.val * 256 + e.val), by omega⟩

/-- The slot of row `j` of block `n`. -/
def place (n : ℕ) (j : Fin 128) : Fin 4224 := ⟨(n * 128 + j.val) % 4224, Nat.mod_lt _ (by norm_num)⟩

theorem place_val (n : ℕ) (hn : n < 33) (j : Fin 128) : (place n j).val = n * 128 + j.val := by
  unfold place
  dsimp only
  omega

/-- The state before block `n`: it starts at zero, and each block decays it and adds its decayed keys times its values. -/
def state (k v : ℕ → Fin 128 → Fin 256 → EReal) (K : Fin 128 → EReal) (c : EReal) : ℕ → Fin 256 → Fin 256 → EReal
  | 0, _, _ => 0
  | n + 1, d, e => state k v K c n d e * c + ∑ j, (k n j d * K j) * v n j e

/-- A row of a block's output: its own block's decayed products, and the decayed query times the state before the block. -/
def mix (q k v : Fin 128 → Fin 256 → EReal) (I : Fin 128 → Fin 128 → EReal) (Q : Fin 128 → EReal) (S : Fin 256 → Fin 256 → EReal)
    (r : Fin 128) (e : Fin 256) : EReal :=
  (∑ j, ((∑ d, q r d * k j d) * I r j) * v j e) + ∑ d, (q r d * Q r) * S d e

/-- The mean of 256 numbers. -/
def average (x : Fin 256 → EReal) : EReal := Ideal.div (∑ e, x e) (Ideal.ofBits .f32 1132462080#32)

/-- A row less its mean, divided by the root of its variance. -/
def normal (x : Fin 256 → EReal) (e : Fin 256) : EReal :=
  (x e - average x) * Ideal.rsqrt (average (fun i => (x i - average x) * (x i - average x)) + Ideal.ofBits .f32 925353388#32)

/-- The gate: a number times its sigmoid. -/
def gate (g : EReal) : EReal :=
  g * Ideal.div (Ideal.ofBits .f32 1065353216#32) (Ideal.ofBits .f32 1065353216#32 + Ideal.exp (-g))

/-- The state before block `n`, of the arguments and the decays. -/
def stateAt (K : Fin 4 → Fin 128 → EReal) (C : Fin 4 → EReal) (b h : Fin 4) (n : ℕ) : Fin 256 → Fin 256 → EReal :=
  state (fun n j => key P M b h (place n j)) (fun n j => value P M b h (place n j)) (K h) (C h) n

/-- A row of block `n`, of the arguments and the decays. -/
def mixAt (I : Fin 4 → Fin 128 → Fin 128 → EReal) (Q K : Fin 4 → Fin 128 → EReal) (C : Fin 4 → EReal) (b h : Fin 4) (n : ℕ)
    (r : Fin 128) : Fin 256 → EReal :=
  mix (fun j => query P M b h (place n j)) (fun j => key P M b h (place n j)) (fun j => value P M b h (place n j)) (I h) (Q h)
    (stateAt P M K C b h n) r

/-- One entry of the result, of the arguments and the decays. -/
def entry (I : Fin 4 → Fin 128 → Fin 128 → EReal) (Q K : Fin 4 → Fin 128 → EReal) (C : Fin 4 → EReal) (b h : Fin 4) (n : Fin 32)
    (r : Fin 128) (e : Fin 256) : EReal :=
  gate (P (ix2 ⟨b.val * 4096 + (n.val * 128 + r.val), by omega⟩ ⟨4096 + (h.val * 256 + e.val), by omega⟩))
    * normal (mixAt P M I Q K C b h (n.val + 1) r) e

end Cert.Proof.RetRow

end
end
-- ==== Proof.RetKernel.lean ====
/-
  The retention kernel's parts read at a point: the turned rows, the products within a block, the state after a block, and
  the normalised, gated output of a head.
-/
module

public import proofs.«01_k».proof.Proof.Gen.RetIdeal.Value
public import proofs.«01_k».proof.Proof.RetRow

@[expose] public section

set_option maxRecDepth 16384

noncomputable section

open Idealize.ShloMosaic Idealize.ShloMosaic.TcCoe Idealize.SL.Sem Idealize.ShloMosaic.StableHlo

namespace Cert.Proof.Ret

open Cert.RetIdeal Cert.RetIdeal.Gen RetRow

/-- A turned block of rows: each lane's partner is half a head away. -/
def turned (C S X : FVec Ideal S128x256 .f32) : FVec Ideal S128x256 .f32 :=
  addf (mulf X (shapeCast S128x256 C shapeCasts_S128x256_S128x256))
    (mulf (concatenate S128x256 1 [⟨S128x128, extractStridedSlice S128x128 ![0, 128] X slices_S128x256_o0_128_S128x128⟩,
      ⟨S128x128, extractStridedSlice S128x128 ![0, 0] X slices_S128x256_o0_0_S128x128⟩] concatenates_S128x128_S128x128_S128x256_d1)
      (shapeCast S128x256 S shapeCasts_S128x256_S128x256))

theorem turned_at (C S X : FVec Ideal S128x256 .f32) (r : Fin 128) (d : Fin 256) :
    turned C S X (ix2 r d) = X (ix2 r d) * C (ix2 r d)
      + (if hd : d.val < 128 then X (ix2 r ⟨128 + d.val, by omega⟩) else X (ix2 r ⟨d.val - 128, by omega⟩)) * S (ix2 r d) := by
  pointwise [turned]

/-- A block scaled by the sixteenth. -/
def scaled (X : FVec Ideal S128x256 .f32) : FVec Ideal S128x256 .f32 := mulf X (broadcast S128x256 (Scalar.ofBits (F := Ideal) .f32 0x3D800000#32))

theorem scaled_at (X : FVec Ideal S128x256 .f32) (r : Fin 128) (d : Fin 256) :
    scaled X (ix2 r d) = X (ix2 r d) * Ideal.ofBits .f32 1031798784#32 := by
  pointwise [scaled]

/-- Rows multiplied by a column. -/
def decayed (X : FVec Ideal S128x256 .f32) (D : FVec Ideal S1x128x1 .f32) : FVec Ideal S128x256 .bf16 :=
  truncf .bf16 (mulf X (broadcastTo S128x256 (shapeCast S128x1 D shapeCasts_S1x128x1_S128x1) broadcasts_S128x1_S128x256)) bitsLt_bf16_f32

theorem decayed_at (X : FVec Ideal S128x256 .f32) (D : FVec Ideal S1x128x1 .f32) (r : Fin 128) (d : Fin 256) :
    decayed X D (ix2 r d) = X (ix2 r d) * D (ix3 0 r 0) := by
  pointwise [decayed]

/-- Decayed keys times values, summed over the block. -/
def gathered (A V : FVec Ideal S128x256 .bf16) : FVec Ideal S256x256 .f32 :=
  matmul dot_S128x256_S128x256_S256x256_0_0_1_1_n_n none A V (constant S256x256 .f32 0x00000000#32)

theorem gathered_at (A V : FVec Ideal S128x256 .bf16) (d e : Fin 256) :
    gathered A V (ix2 d e) = ∑ j : Fin 128, A (ix2 j d) * V (ix2 j e) := by
  pointwise [gathered]

/-- The keys before the first block: nothing before the meta tokens. -/
def masked (X : FVec Ideal S128x256 .bf16) : FVec Ideal S128x256 .f32 :=
  select (broadcastTo S128x256 (shapeCast S128x1 k0_pay2 shapeCasts_S128x1_S128x1) broadcasts_S128x1_S128x256)
    (extf .f32 X bitsLt_bf16_f32) (broadcast S128x256 (Scalar.ofBits (F := Ideal) .f32 0x00000000#32))

theorem masked_at (X : FVec Ideal S128x256 .bf16) (r : Fin 128) (d : Fin 256) :
    masked X (ix2 r d) = if IntOp.cmpi .sge (BitVec.ofNat 32 r.val) 112#32 = 1#1 then X (ix2 r d) else 0 := by
  pointwise [masked, k0_pay2]
  rfl

/-- The first state of a head. -/
def first (C S : FVec Ideal S128x256 .f32) (X V : FVec Ideal S128x256 .bf16) (D : FVec Ideal S1x128x1 .f32) : FVec Ideal S1x256x256 .f32 :=
  shapeCast S1x256x256 (gathered (decayed (scaled (turned C S (masked X))) D) V) shapeCasts_S256x256_S1x256x256

/-- The state with its unit axis put back or dropped. -/
theorem lift_at (X : FVec Ideal S256x256 .f32) (d e : Fin 256) :
    shapeCast S1x256x256 X shapeCasts_S256x256_S1x256x256 (ix3 0 d e) = X (ix2 d e) := by
  pointwise

theorem drop_at (X : FVec Ideal S1x256x256 .f32) (d e : Fin 256) :
    shapeCast S256x256 X shapeCasts_S1x256x256_S256x256 (ix2 d e) = X (ix3 0 d e) := by
  pointwise

/-- The state after a block. -/
def next (K : FVec Ideal S128x256 .f32) (V : FVec Ideal S128x256 .bf16) (Z : FVec Ideal S1x256x256 .f32) (c : Ideal .f32) (D : FVec Ideal S1x128x1 .f32) :
    FVec Ideal S1x256x256 .f32 :=
  shapeCast S1x256x256 (addf (mulf (shapeCast S256x256 Z shapeCasts_S1x256x256_S256x256) (broadcast S256x256 c)) (gathered (decayed K D) V)) shapeCasts_S256x256_S1x256x256

theorem sum_at (A G : FVec Ideal S256x256 .f32) (c : Ideal .f32) (d e : Fin 256) :
    addf (mulf A (broadcast S256x256 c)) G (ix2 d e) = A (ix2 d e) * c + G (ix2 d e) := by
  pointwise

theorem next_at (K : FVec Ideal S128x256 .f32) (V : FVec Ideal S128x256 .bf16) (Z : FVec Ideal S1x256x256 .f32) (c : Ideal .f32) (D : FVec Ideal S1x128x1 .f32)
    (d e : Fin 256) : next K V Z c D (ix3 0 d e) = Z (ix3 0 d e) * c + ∑ j : Fin 128, (K (ix2 j d) * D (ix3 0 j 0)) * V (ix2 j e) := by
  unfold next
  rw [lift_at, sum_at, drop_at, gathered_at]
  simp only [decayed_at]

theorem first_at (C S : FVec Ideal S128x256 .f32) (X V : FVec Ideal S128x256 .bf16) (D : FVec Ideal S1x128x1 .f32) (d e : Fin 256) :
    first C S X V D (ix3 0 d e) = ∑ j : Fin 128, (scaled (turned C S (masked X)) (ix2 j d) * D (ix3 0 j 0)) * V (ix2 j e) := by
  unfold first
  rw [lift_at, gathered_at]
  simp only [decayed_at]

/-- The decayed products of a block's queries and keys. -/
def products (Q K : FVec Ideal S128x256 .bf16) (I : FVec Ideal S1x128x128 .f32) : FVec Ideal S128x128 .bf16 :=
  truncf .bf16 (mulf (matmul dot_S128x256_S128x256_S128x128_1_1_0_0_n_n none Q K (constant S128x128 .f32 0x00000000#32))
    (shapeCast S128x128 I shapeCasts_S1x128x128_S128x128)) bitsLt_bf16_f32

theorem products_at (Q K : FVec Ideal S128x256 .bf16) (I : FVec Ideal S1x128x128 .f32) (r j : Fin 128) :
    products Q K I (ix2 r j) = (∑ d : Fin 256, Q (ix2 r d) * K (ix2 j d)) * I (ix3 0 r j) := by
  pointwise [products]

/-- A block's output before the normalisation, of its products. -/
def mixed (A : FVec Ideal S128x128 .bf16) (V : FVec Ideal S128x256 .bf16) (Q : FVec Ideal S128x256 .bf16) (Z : FVec Ideal S256x256 .bf16) : FVec Ideal S128x256 .f32 :=
  addf (matmul dot_S128x128_S128x256_S128x256_1_0_0_1_n_n none A V (constant S128x256 .f32 0x00000000#32))
    (matmul dot_S128x256_S256x256_S128x256_1_0_0_1_n_n none Q Z (constant S128x256 .f32 0x00000000#32))

theorem mixed_at (A : FVec Ideal S128x128 .bf16) (V : FVec Ideal S128x256 .bf16) (Q : FVec Ideal S128x256 .bf16) (Z : FVec Ideal S256x256 .bf16) (r : Fin 128) (e : Fin 256) :
    mixed A V Q Z (ix2 r e) = (∑ j : Fin 128, A (ix2 r j) * V (ix2 j e)) + ∑ d : Fin 256, Q (ix2 r d) * Z (ix2 d e) := by
  pointwise [mixed]

/-- The rows less their means. -/
def centred (X : FVec Ideal S128x256 .f32) : FVec Ideal S128x256 .f32 :=
  subf X (broadcastTo S128x256 (divf (shapeCast S128x1 (multiReduction .add [1] S128 X 0x00000000#32 reduces_S128x256_S128 (.inl rfl) rfl) shapeCasts_S128_S128x1)
    (broadcast S128x1 (Scalar.ofBits (F := Ideal) .f32 0x43800000#32))) broadcasts_S128x1_S128x256)

theorem centred_at (X : FVec Ideal S128x256 .f32) (r : Fin 128) (e : Fin 256) :
    centred X (ix2 r e) = X (ix2 r e) - average (fun i => X (ix2 r i)) := by
  pointwise [centred, average]

/-- The variances of centred rows. -/
def spread (X : FVec Ideal S128x256 .f32) : FVec Ideal S128x1 .f32 :=
  divf (shapeCast S128x1 (multiReduction .add [1] S128 (mulf X X) 0x00000000#32 reduces_S128x256_S128 (.inl rfl) rfl) shapeCasts_S128_S128x1)
    (broadcast S128x1 (Scalar.ofBits (F := Ideal) .f32 0x43800000#32))

theorem spread_at (X : FVec Ideal S128x256 .f32) (r : Fin 128) :
    spread X (ix2 r 0) = average (fun i => X (ix2 r i) * X (ix2 r i)) := by
  pointwise [spread, average]

/-- The gated rows. -/
def gated (X : FVec Ideal S128x256 .f32) (W : FVec Ideal S128x1 .f32) (G : FVec Ideal S128x256 .bf16) : FVec Ideal S128x256 .bf16 :=
  k0_pay23 (F := Ideal) X W (k0_pay21 G) (k0_pay22 G)

theorem gated_at (X : FVec Ideal S128x256 .f32) (W : FVec Ideal S128x1 .f32) (G : FVec Ideal S128x256 .bf16) (r : Fin 128) (e : Fin 256) :
    gated X W G (ix2 r e) = gate (G (ix2 r e)) * (X (ix2 r e) * Ideal.rsqrt (W (ix2 r 0) + Ideal.ofBits .f32 925353388#32)) := by
  pointwise [gated, k0_pay23, k0_pay21, k0_pay22, gate]
  rw [zero_sub]

/-- A head's output block. -/
def output (Q K : FVec Ideal S128x256 .f32) (V : FVec Ideal S128x256 .bf16) (Z : FVec Ideal S1x256x256 .f32) (I : FVec Ideal S1x128x128 .f32) (D : FVec Ideal S1x128x1 .f32) :
    FVec Ideal S128x256 .f32 :=
  mixed (products (truncf .bf16 Q bitsLt_bf16_f32) (truncf .bf16 K bitsLt_bf16_f32) I) V (decayed Q D)
    (truncf .bf16 (shapeCast S256x256 Z shapeCasts_S1x256x256_S256x256) bitsLt_bf16_f32)

/-- A head's normalised and gated block. -/
def head (Y : FVec Ideal S128x256 .f32) (G : FVec Ideal S128x256 .bf16) : FVec Ideal S128x256 .bf16 :=
  gated (centred Y) (spread (centred Y)) G

theorem head_at (Y : FVec Ideal S128x256 .f32) (G : FVec Ideal S128x256 .bf16) (r : Fin 128) (e : Fin 256) :
    head Y G (ix2 r e) = gate (G (ix2 r e)) * normal (fun i => Y (ix2 r i)) e := by
  unfold head
  rw [gated_at, spread_at]
  simp only [centred_at]
  rfl

theorem trunc_at (X : FVec Ideal S128x256 .f32) (r : Fin 128) (d : Fin 256) : truncf (F := Ideal) .bf16 X bitsLt_bf16_f32 (ix2 r d) = X (ix2 r d) := by
  pointwise

theorem truncState_at (X : FVec Ideal S256x256 .f32) (r : Fin 256) (d : Fin 256) : truncf (F := Ideal) .bf16 X bitsLt_bf16_f32 (ix2 r d) = X (ix2 r d) := by
  pointwise

theorem output_at (Q K : FVec Ideal S128x256 .f32) (V : FVec Ideal S128x256 .bf16) (Z : FVec Ideal S1x256x256 .f32) (I : FVec Ideal S1x128x128 .f32) (D : FVec Ideal S1x128x1 .f32)
    (r : Fin 128) (e : Fin 256) :
    output Q K V Z I D (ix2 r e) = mix (fun r d => Q (ix2 r d)) (fun r d => K (ix2 r d)) (fun r d => V (ix2 r d)) (fun r j => I (ix3 0 r j))
      (fun r => D (ix3 0 r 0)) (fun d e => Z (ix3 0 d e)) r e := by
  unfold output mix
  rw [mixed_at]
  simp only [products_at, decayed_at, trunc_at, truncState_at, drop_at]

end Cert.Proof.Ret

end
end
-- ==== Proof.RetTables.lean ====
/-
  The tables the host hands to the retention kernel: the rotary tables, read at a slot and a lane, and the decays.
-/
module

public import Idealize.ShloMosaic.Lib.StableHlo.RunRead
public import proofs.«01_k».proof.Proof.RetKernel

@[expose] public section

set_option maxRecDepth 16384

noncomputable section

open Idealize.ShloMosaic Idealize.ShloMosaic.TcCoe Idealize.SL.Sem Idealize.ShloMosaic.StableHlo

namespace Cert.Proof.Ret

open Cert.RetIdeal Cert.RetIdeal.Gen RetRow

/-- The angles of all slots and pairs, as the host computes them. -/
def angles : FVec Ideal S4224x128 .f32 :=
  mulf
    (broadcastInDim S4224x128 ![0, 1] bcast_S4224x1_S4224x128_0_1
      (broadcastInDim S4224x1 ![0] bcast_S4224_S4224x1_0
        (sitofp (F := Ideal) .f32 (subi (iotaInDim S4224 32 0) (broadcastInDim S4224 ![] bcast_S_S4224 (constantI S_ 32 112#32))))))
    (broadcastInDim S4224x128 ![0, 1] bcast_S1x128_S4224x128_0_1
      (broadcastInDim S1x128 ![1] bcast_S128_S1x128_1
        (Host.powf (broadcastInDim S128 ![] bcast_S_S128 (constant (F := Ideal) S_ .f32 0x461C4000#32))
          (Host.divf
            (Host.negf (addf (broadcastInDim S128 ![] bcast_S_S128 (constant (F := Ideal) S_ .f32 0x00000000#32))
              (mulf (broadcastInDim S128 ![] bcast_S_S128 (constant (F := Ideal) S_ .f32 0x40000000#32)) (sitofp (F := Ideal) .f32 (iotaInDim S128 32 0)))))
            (broadcastInDim S128 ![] bcast_S_S128 (constant (F := Ideal) S_ .f32 0x43800000#32))))))

theorem angles_at (s : Fin 4224) (j : Fin 128) : angles (ix2 s j) = angle s j := by
  pointwise [angles, angle]

/-- A table of 256 lanes, of its two halves. -/
def table (L R : FVec Ideal S4224x128 .f32) : FVec Ideal S4224x256 .f32 :=
  shapeCast S4224x256 (broadcastInDim S1x4224x1x256 ![0, 1, 2, 3] bcast_S1x4224x1x256_S1x4224x1x256_0_1_2_3
    (shapeCast S1x4224x1x256 (concatenate S4224x256 1 [⟨S4224x128, L⟩, ⟨S4224x128, R⟩] concatenates_S4224x128_S4224x128_S4224x256_d1)
      shapeCasts_S4224x256_S1x4224x1x256)) shapeCasts_S1x4224x1x256_S4224x256

theorem table_at (L R : FVec Ideal S4224x128 .f32) (s : Fin 4224) (d : Fin 256) :
    table L R (ix2 s d) = if hd : d.val < 128 then L (ix2 s ⟨d.val, hd⟩) else R (ix2 s ⟨d.val - 128, by omega⟩) := by
  pointwise [table]

/-- The logarithm of each head's decay. -/
def logs : FVec Ideal S4 .f32 :=
  Host.log (subf (broadcastInDim S4 ![] bcast_S_S4 (constant (F := Ideal) S_ .f32 0x3F800000#32))
    (Host.powf (broadcastInDim S4 ![] bcast_S_S4 (constant (F := Ideal) S_ .f32 0x40000000#32))
      (subf (broadcastInDim S4 ![] bcast_S_S4 (constant (F := Ideal) S_ .f32 0xC0A00000#32)) (sitofp (F := Ideal) .f32 (iotaInDim S4 32 0)))))

/-- The rows of a block, counted. -/
def counts : FVec Ideal S128 .f32 := sitofp (F := Ideal) .f32 (iotaInDim S128 32 0)

/-- How far apart two rows of a block are. -/
def apart : FVec Ideal S128x128 .f32 :=
  subf (broadcastInDim S128x128 ![0, 1] bcast_S128x1_S128x128_0_1 (broadcastInDim S128x1 ![0] bcast_S128_S128x1_0 counts))
    (broadcastInDim S128x128 ![0, 1] bcast_S1x128_S128x128_0_1 (broadcastInDim S1x128 ![1] bcast_S128_S1x128_1 counts))

/-- The decay between two rows of a block. -/
def innerDecay : FVec Ideal S4x128x128 .f32 :=
  select (broadcastInDim S4x128x128 ![0, 1, 2] bcast_S1x128x128_S4x128x128_0_1_2
      (cmpf .oge (broadcastInDim S1x128x128 ![1, 2] bcast_S128x128_S1x128x128_1_2 apart)
        (broadcastInDim S1x128x128 ![] bcast_S_S1x128x128 (constant (F := Ideal) S_ .f32 0x00000000#32))))
    (Host.exp (mulf (broadcastInDim S4x128x128 ![0, 1, 2] bcast_S1x128x128_S4x128x128_0_1_2
        (broadcastInDim S1x128x128 ![1, 2] bcast_S128x128_S1x128x128_1_2
          (maximumf apart (broadcastInDim S128x128 ![] bcast_S_S128x128 (constant (F := Ideal) S_ .f32 0x00000000#32)))))
      (broadcastInDim S4x128x128 ![0, 1, 2] bcast_S4x1x1_S4x128x128_0_1_2 (broadcastInDim S4x1x1 ![0] bcast_S4_S4x1x1_0 logs))))
    (broadcastInDim S4x128x128 ![] bcast_S_S4x128x128 (constant (F := Ideal) S_ .f32 0x00000000#32))

/-- A decay for each head and row, of the exponents' row. -/
def rowDecay (X : FVec Ideal S1x128 .f32) : FVec Ideal S4x128x1 .f32 :=
  broadcastInDim S4x128x1 ![0, 1] bcast_S4x128_S4x128x1_0_1
    (Host.exp (mulf (broadcastInDim S4x128 ![0, 1] bcast_S1x128_S4x128_0_1 X)
      (broadcastInDim S4x128 ![0, 1] bcast_S4x1_S4x128_0_1 (broadcastInDim S4x1 ![0] bcast_S4_S4x1_0 logs))))

/-- The decay from the block's start to each row. -/
def queryDecay : FVec Ideal S4x128x1 .f32 :=
  rowDecay (addf (broadcastInDim S1x128 ![1] bcast_S128_S1x128_1 counts)
    (broadcastInDim S1x128 ![] bcast_S_S1x128 (constant (F := Ideal) S_ .f32 0x3F800000#32)))

/-- The decay from each row to the block's end. -/
def keyDecay : FVec Ideal S4x128x1 .f32 :=
  rowDecay (subf (broadcastInDim S1x128 ![] bcast_S_S1x128 (constant (F := Ideal) S_ .f32 0x42FE0000#32))
    (broadcastInDim S1x128 ![1] bcast_S128_S1x128_1 counts))

/-- The decay over a block. -/
def chunkDecay : FVec Ideal S4 .f32 :=
  Host.exp (mulf (broadcastInDim S4 ![] bcast_S_S4 (constant (F := Ideal) S_ .f32 0x43000000#32)) logs)

/-- The decays, read by head and row. -/
abbrev inner (h : Fin 4) (r j : Fin 128) : EReal := innerDecay (ix3 h r j)
abbrev queries (h : Fin 4) (r : Fin 128) : EReal := queryDecay (ix3 h r 0)
abbrev keys (h : Fin 4) (r : Fin 128) : EReal := keyDecay (ix3 h r 0)
abbrev chunk (h : Fin 4) : EReal := chunkDecay (ix1 h)

variable (m : (ℓ : Loc nD τ sig) → Buf (Elt Ideal) ℓ)

theorem entry_cos (c : Dev nD) : V m c main_v24 = table (Host.cos angles) (Host.cos angles) := by
  unfold V
  after_reads_simp
  rfl

theorem entry_sin (c : Dev nD) : V m c main_v29 = table (Host.negf (Host.sin angles)) (Host.sin angles) := by
  unfold V
  after_reads_simp
  rfl

theorem entry_inner (c : Dev nD) : V m c main_v55 = innerDecay := by
  unfold V
  after_reads_simp
  rfl

theorem entry_query (c : Dev nD) : V m c main_v64 = queryDecay := by
  unfold V
  after_reads_simp
  rfl

theorem entry_key (c : Dev nD) : V m c main_v73 = keyDecay := by
  unfold V
  after_reads_simp
  rfl

theorem entry_chunk (c : Dev nD) : V m c main_v76 = chunkDecay := by
  unfold V
  after_reads_simp
  rfl

theorem cos_at (s : Fin 4224) (d : Fin 256) :
    table (Host.cos angles) (Host.cos angles) (ix2 s d)
      = if hd : d.val < 128 then Ideal.cos (angle s ⟨d.val, hd⟩) else Ideal.cos (angle s ⟨d.val - 128, by omega⟩) := by
  rw [table_at]
  simp only [← angles_at]
  rfl

theorem sin_at (s : Fin 4224) (d : Fin 256) :
    table (Host.negf (Host.sin angles)) (Host.sin angles) (ix2 s d)
      = if hd : d.val < 128 then -(Ideal.sin (angle s ⟨d.val, hd⟩)) else Ideal.sin (angle s ⟨d.val - 128, by omega⟩) := by
  rw [table_at]
  simp only [← angles_at]
  rfl

/-- A turned row is the rotary turn, where the two tables hold the angles of the row's slot. -/
theorem turned_row (C S X : FVec Ideal S128x256 .f32) (r : Fin 128) (s : Fin 4224) (d : Fin 256)
    (hC : ∀ d, C (ix2 r d) = table (Host.cos angles) (Host.cos angles) (ix2 s d))
    (hS : ∀ d, S (ix2 r d) = table (Host.negf (Host.sin angles)) (Host.sin angles) (ix2 s d)) :
    turned C S X (ix2 r d) = turn (fun e => X (ix2 r e)) s d := by
  rw [turned_at, hC, hS, cos_at, sin_at]
  unfold turn
  split
  · rw [mul_neg, ← sub_eq_add_neg]
  · rfl

end Cert.Proof.Ret

end
end
-- ==== Proof.RetBlocks.lean ====
/-
  What the retention kernel's windows hold at a grid point, head by head, as entries of the arguments and of the tables.
-/
module

public import proofs.«01_k».proof.Proof.RetTables
public import proofs.«01_k».proof.Proof.Gen.RetIdeal.Value
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Proof.Ret

open Cert.RetIdeal Cert.RetIdeal.Gen RetRow
open AttnRow (slot)

variable (m : (ℓ : Loc nD τ sig) → Buf (Elt Ideal) ℓ)

/-- Which block each window holds at grid point `t`. -/
theorem idx : ∀ t : Fin cfg0.N, win0_0.index t = ![0] ∧ win0_1.index t = ![t.val, 1] ∧ win0_2.index t = ![t.val, 2] ∧ win0_3.index t = ![t.val, 3]
    ∧ win0_4.index t = ![t.val, 4] ∧ win0_5.index t = ![0, 2] ∧ win0_6.index t = ![0, 3]
    ∧ win0_7.index t = ![t.val % 32 + 1, 0] ∧ win0_8.index t = ![t.val % 32 + 1, 0]
    ∧ win0_9.index t = ![0, 0] ∧ win0_10.index t = ![0, 0]
    ∧ win0_11.index t = ![0, 0, 0] ∧ win0_12.index t = ![0, 0, 0] ∧ win0_13.index t = ![0, 0, 0] ∧ win0_14.index t = ![t.val, 0] :=
  (by decide +kernel : ∀ t : Fin grid0.N, _)

theorem lt (t : Fin cfg0.N) : t.val < 128 := lt_of_lt_of_eq t.isLt N_0

/-- The arguments, at their literal types. -/
abbrev P (c : Dev nD) : FVec Ideal S16384x5376 .bf16 := m ((c : Thread nD τ).loc main_arg0)
abbrev M (c : Dev nD) : FVec Ideal S128x5376 .bf16 := m ((c : Thread nD τ).loc main_arg1)

/-- The batch row and the block of a grid point. -/
abbrev batch (t : Fin cfg0.N) : Fin 4 := ⟨t.val / 32, by have := lt t; omega⟩
abbrev block (t : Fin cfg0.N) : Fin 32 := ⟨t.val % 32, by omega⟩

theorem own_q (c : Dev nD) (t : Fin cfg0.N) (r : Fin 128) (l : Fin 1024) :
    (show FVec Ideal S128x1024 .bf16 from X0_1 m c t) (ix2 r l) = P m c (ix2 ⟨t.val * 128 + r.val, by have := lt t; omega⟩ ⟨1024 + l.val, by omega⟩) := by
  show X0_1 m c t (ix2 r l) = _
  unfold X0_1 Pipeline.Window.fill
  rw [dif_pos (moved0_1 t _)]
  blk_simp [iblk]
  blk_ext [idx t]

theorem own_k (c : Dev nD) (t : Fin cfg0.N) (r : Fin 128) (l : Fin 1024) :
    (show FVec Ideal S128x1024 .bf16 from X0_2 m c t) (ix2 r l) = P m c (ix2 ⟨t.val * 128 + r.val, by have := lt t; omega⟩ ⟨2048 + l.val, by omega⟩) := by
  show X0_2 m c t (ix2 r l) = _
  unfold X0_2 Pipeline.Window.fill
  rw [dif_pos (moved0_2 t _)]
  blk_simp [iblk]
  blk_ext [idx t]

theorem own_v (c : Dev nD) (t : Fin cfg0.N) (r : Fin 128) (l : Fin 1024) :
    (show FVec Ideal S128x1024 .bf16 from X0_3 m c t) (ix2 r l) = P m c (ix2 ⟨t.val * 128 + r.val, by have := lt t; omega⟩ ⟨3072 + l.val, by omega⟩) := by
  show X0_3 m c t (ix2 r l) = _
  unfold X0_3 Pipeline.Window.fill
  rw [dif_pos (moved0_3 t _)]
  blk_simp [iblk]
  blk_ext [idx t]

theorem own_g (c : Dev nD) (t : Fin cfg0.N) (r : Fin 128) (l : Fin 1024) :
    (show FVec Ideal S128x1024 .bf16 from X0_4 m c t) (ix2 r l) = P m c (ix2 ⟨t.val * 128 + r.val, by have := lt t; omega⟩ ⟨4096 + l.val, by omega⟩) := by
  show X0_4 m c t (ix2 r l) = _
  unfold X0_4 Pipeline.Window.fill
  rw [dif_pos (moved0_4 t _)]
  blk_simp [iblk]
  blk_ext [idx t]

theorem meta_k (c : Dev nD) (t : Fin cfg0.N) (r : Fin 128) (l : Fin 1024) :
    (show FVec Ideal S128x1024 .bf16 from X0_5 m c t) (ix2 r l) = M m c (ix2 r ⟨2048 + l.val, by omega⟩) := by
  show X0_5 m c t (ix2 r l) = _
  unfold X0_5 Pipeline.Window.fill
  rw [dif_pos (moved0_5 t _)]
  blk_simp [iblk]
  blk_ext [idx t]

theorem meta_v (c : Dev nD) (t : Fin cfg0.N) (r : Fin 128) (l : Fin 1024) :
    (show FVec Ideal S128x1024 .bf16 from X0_6 m c t) (ix2 r l) = M m c (ix2 r ⟨3072 + l.val, by omega⟩) := by
  show X0_6 m c t (ix2 r l) = _
  unfold X0_6 Pipeline.Window.fill
  rw [dif_pos (moved0_6 t _)]
  blk_simp [iblk]
  blk_ext [idx t]

theorem own_cos (c : Dev nD) (t : Fin cfg0.N) (r : Fin 128) (l : Fin 256) :
    (show FVec Ideal S128x256 .f32 from iblk m c 7 t) (ix2 r l) = V m c main_v24 (ix2 ⟨(t.val % 32 + 1) * 128 + r.val, by omega⟩ l) := by
  show iblk m c 7 t (ix2 r l) = _
  blk_simp [iblk]
  blk_ext [idx t]

theorem own_sin (c : Dev nD) (t : Fin cfg0.N) (r : Fin 128) (l : Fin 256) :
    (show FVec Ideal S128x256 .f32 from iblk m c 8 t) (ix2 r l) = V m c main_v29 (ix2 ⟨(t.val % 32 + 1) * 128 + r.val, by omega⟩ l) := by
  show iblk m c 8 t (ix2 r l) = _
  blk_simp [iblk]
  blk_ext [idx t]

theorem meta_cos (c : Dev nD) (t : Fin cfg0.N) (r : Fin 128) (l : Fin 256) :
    (show FVec Ideal S128x256 .f32 from iblk m c 9 t) (ix2 r l) = V m c main_v24 (ix2 ⟨r.val, by omega⟩ l) := by
  show iblk m c 9 t (ix2 r l) = _
  blk_simp [iblk]
  blk_ext [idx t]

theorem meta_sin (c : Dev nD) (t : Fin cfg0.N) (r : Fin 128) (l : Fin 256) :
    (show FVec Ideal S128x256 .f32 from iblk m c 10 t) (ix2 r l) = V m c main_v29 (ix2 ⟨r.val, by omega⟩ l) := by
  show iblk m c 10 t (ix2 r l) = _
  blk_simp [iblk]
  blk_ext [idx t]

theorem win_inner (c : Dev nD) (t : Fin cfg0.N) (h : Fin 4) (r j : Fin 128) :
    (show FVec Ideal S4x128x128 .f32 from iblk m c 11 t) (ix3 h r j) = V m c main_v55 (ix3 h r j) := by
  show iblk m c 11 t (ix3 h r j) = _
  blk_simp [iblk]
  blk_ext [idx t]

theorem win_query (c : Dev nD) (t : Fin cfg0.N) (h : Fin 4) (r : Fin 128) :
    (show FVec Ideal S4x128x1 .f32 from iblk m c 12 t) (ix3 h r 0) = V m c main_v64 (ix3 h r 0) := by
  show iblk m c 12 t (ix3 h r 0) = _
  blk_simp [iblk]
  blk_ext [idx t]

theorem win_key (c : Dev nD) (t : Fin cfg0.N) (h : Fin 4) (r : Fin 128) :
    (show FVec Ideal S4x128x1 .f32 from iblk m c 13 t) (ix3 h r 0) = V m c main_v73 (ix3 h r 0) := by
  show iblk m c 13 t (ix3 h r 0) = _
  blk_simp [iblk]
  blk_ext [idx t]

theorem win_chunk (c : Dev nD) (t : Fin cfg0.N) (h : Fin 4) :
    (show FVec Ideal S4 .f32 from iblk m c 0 t) (ix1 h) = V m c main_v76 (ix1 h) := by
  show iblk m c 0 t (ix1 h) = _
  blk_simp [iblk]
  blk_ext [idx t]

/-- A head's queries, keys, values and gates of the point's block, and its keys and values of the meta tokens. -/
def qs (c : Dev nD) (t : Fin cfg0.N) (h : Fin 4) : FVec Ideal S128x256 .bf16 :=
  match h with
  | 0 => View.ld (X0_1 m c t) (Rect.unit ![0, 0] ![128, 256] inb_S128x1024_S128x256_0_0)
  | 1 => View.ld (X0_1 m c t) (Rect.unit ![0, 256] ![128, 256] inb_S128x1024_S128x256_0_256)
  | 2 => View.ld (X0_1 m c t) (Rect.unit ![0, 512] ![128, 256] inb_S128x1024_S128x256_0_512)
  | 3 => View.ld (X0_1 m c t) (Rect.unit ![0, 768] ![128, 256] inb_S128x1024_S128x256_0_768)
/-- A head's keys. -/
def ks (c : Dev nD) (t : Fin cfg0.N) (h : Fin 4) : FVec Ideal S128x256 .bf16 :=
  match h with
  | 0 => View.ld (X0_2 m c t) (Rect.unit ![0, 0] ![128, 256] inb_S128x1024_S128x256_0_0)
  | 1 => View.ld (X0_2 m c t) (Rect.unit ![0, 256] ![128, 256] inb_S128x1024_S128x256_0_256)
  | 2 => View.ld (X0_2 m c t) (Rect.unit ![0, 512] ![128, 256] inb_S128x1024_S128x256_0_512)
  | 3 => View.ld (X0_2 m c t) (Rect.unit ![0, 768] ![128, 256] inb_S128x1024_S128x256_0_768)
/-- A head's values. -/
def vs (c : Dev nD) (t : Fin cfg0.N) (h : Fin 4) : FVec Ideal S128x256 .bf16 :=
  match h with
  | 0 => View.ld (X0_3 m c t) (Rect.unit ![0, 0] ![128, 256] inb_S128x1024_S128x256_0_0)
  | 1 => View.ld (X0_3 m c t) (Rect.unit ![0, 256] ![128, 256] inb_S128x1024_S128x256_0_256)
  | 2 => View.ld (X0_3 m c t) (Rect.unit ![0, 512] ![128, 256] inb_S128x1024_S128x256_0_512)
  | 3 => View.ld (X0_3 m c t) (Rect.unit ![0, 768] ![128, 256] inb_S128x1024_S128x256_0_768)
/-- A head's gates. -/
def gs (c : Dev nD) (t : Fin cfg0.N) (h : Fin 4) : FVec Ideal S128x256 .bf16 :=
  match h with
  | 0 => View.ld (X0_4 m c t) (Rect.unit ![0, 0] ![128, 256] inb_S128x1024_S128x256_0_0)
  | 1 => View.ld (X0_4 m c t) (Rect.unit ![0, 256] ![128, 256] inb_S128x1024_S128x256_0_256)
  | 2 => View.ld (X0_4 m c t) (Rect.unit ![0, 512] ![128, 256] inb_S128x1024_S128x256_0_512)
  | 3 => View.ld (X0_4 m c t) (Rect.unit ![0, 768] ![128, 256] inb_S128x1024_S128x256_0_768)
/-- A head's meta keys. -/
def mks (c : Dev nD) (t : Fin cfg0.N) (h : Fin 4) : FVec Ideal S128x256 .bf16 :=
  match h with
  | 0 => View.ld (X0_5 m c t) (Rect.unit ![0, 0] ![128, 256] inb_S128x1024_S128x256_0_0)
  | 1 => View.ld (X0_5 m c t) (Rect.unit ![0, 256] ![128, 256] inb_S128x1024_S128x256_0_256)
  | 2 => View.ld (X0_5 m c t) (Rect.unit ![0, 512] ![128, 256] inb_S128x1024_S128x256_0_512)
  | 3 => View.ld (X0_5 m c t) (Rect.unit ![0, 768] ![128, 256] inb_S128x1024_S128x256_0_768)
/-- A head's meta values. -/
def mvs (c : Dev nD) (t : Fin cfg0.N) (h : Fin 4) : FVec Ideal S128x256 .bf16 :=
  match h with
  | 0 => View.ld (X0_6 m c t) (Rect.unit ![0, 0] ![128, 256] inb_S128x1024_S128x256_0_0)
  | 1 => View.ld (X0_6 m c t) (Rect.unit ![0, 256] ![128, 256] inb_S128x1024_S128x256_0_256)
  | 2 => View.ld (X0_6 m c t) (Rect.unit ![0, 512] ![128, 256] inb_S128x1024_S128x256_0_512)
  | 3 => View.ld (X0_6 m c t) (Rect.unit ![0, 768] ![128, 256] inb_S128x1024_S128x256_0_768)
/-- A head's decays. -/
def inners (c : Dev nD) (t : Fin cfg0.N) (h : Fin 4) : FVec Ideal S1x128x128 .f32 :=
  match h with
  | 0 => View.ld (iblk m c 11 t) (Rect.unit ![0, 0, 0] ![1, 128, 128] inb_S4x128x128_S1x128x128_0_0_0)
  | 1 => View.ld (iblk m c 11 t) (Rect.unit ![1, 0, 0] ![1, 128, 128] inb_S4x128x128_S1x128x128_1_0_0)
  | 2 => View.ld (iblk m c 11 t) (Rect.unit ![2, 0, 0] ![1, 128, 128] inb_S4x128x128_S1x128x128_2_0_0)
  | 3 => View.ld (iblk m c 11 t) (Rect.unit ![3, 0, 0] ![1, 128, 128] inb_S4x128x128_S1x128x128_3_0_0)
/-- A head's decays from the block's start. -/
def qds (c : Dev nD) (t : Fin cfg0.N) (h : Fin 4) : FVec Ideal S1x128x1 .f32 :=
  match h with
  | 0 => View.ld (iblk m c 12 t) (Rect.unit ![0, 0, 0] ![1, 128, 1] inb_S4x128x1_S1x128x1_0_0_0)
  | 1 => View.ld (iblk m c 12 t) (Rect.unit ![1, 0, 0] ![1, 128, 1] inb_S4x128x1_S1x128x1_1_0_0)
  | 2 => View.ld (iblk m c 12 t) (Rect.unit ![2, 0, 0] ![1, 128, 1] inb_S4x128x1_S1x128x1_2_0_0)
  | 3 => View.ld (iblk m c 12 t) (Rect.unit ![3, 0, 0] ![1, 128, 1] inb_S4x128x1_S1x128x1_3_0_0)
/-- A head's decays to the block's end. -/
def kds (c : Dev nD) (t : Fin cfg0.N) (h : Fin 4) : FVec Ideal S1x128x1 .f32 :=
  match h with
  | 0 => View.ld (iblk m c 13 t) (Rect.unit ![0, 0, 0] ![1, 128, 1] inb_S4x128x1_S1x128x1_0_0_0)
  | 1 => View.ld (iblk m c 13 t) (Rect.unit ![1, 0, 0] ![1, 128, 1] inb_S4x128x1_S1x128x1_1_0_0)
  | 2 => View.ld (iblk m c 13 t) (Rect.unit ![2, 0, 0] ![1, 128, 1] inb_S4x128x1_S1x128x1_2_0_0)
  | 3 => View.ld (iblk m c 13 t) (Rect.unit ![3, 0, 0] ![1, 128, 1] inb_S4x128x1_S1x128x1_3_0_0)
/-- A head's decay over the block. -/
def cds (c : Dev nD) (t : Fin cfg0.N) (h : Fin 4) : Ideal .f32 :=
  match h with
  | 0 => View.ld (iblk m c 0 t) (Rect.unit ![0] ![1] inb_S4_S1_0) (Shape.Idx.first (Nat.lt_of_lt_of_eq Nat.one_pos numel1_S1.symm))
  | 1 => View.ld (iblk m c 0 t) (Rect.unit ![1] ![1] inb_S4_S1_1) (Shape.Idx.first (Nat.lt_of_lt_of_eq Nat.one_pos numel1_S1.symm))
  | 2 => View.ld (iblk m c 0 t) (Rect.unit ![2] ![1] inb_S4_S1_2) (Shape.Idx.first (Nat.lt_of_lt_of_eq Nat.one_pos numel1_S1.symm))
  | 3 => View.ld (iblk m c 0 t) (Rect.unit ![3] ![1] inb_S4_S1_3) (Shape.Idx.first (Nat.lt_of_lt_of_eq Nat.one_pos numel1_S1.symm))

theorem qs_at (c : Dev nD) (t : Fin cfg0.N) (h : Fin 4) (r : Fin 128) (l : Fin 256) :
    qs m c t h (ix2 r l) = P m c (ix2 ⟨t.val * 128 + r.val, by have := lt t; omega⟩ ⟨1024 + (h.val * 256 + l.val), by omega⟩) := by
  refine Eq.trans ?_ (own_q m c t r ⟨h.val * 256 + l.val, by omega⟩)
  fin_cases h <;> (show X0_1 m c t _ = X0_1 m c t _; congr 1; funext a; fin_cases a <;> (apply Fin.ext; simp [Rect.unit, qs]))

theorem ks_at (c : Dev nD) (t : Fin cfg0.N) (h : Fin 4) (r : Fin 128) (l : Fin 256) :
    ks m c t h (ix2 r l) = P m c (ix2 ⟨t.val * 128 + r.val, by have := lt t; omega⟩ ⟨2048 + (h.val * 256 + l.val), by omega⟩) := by
  refine Eq.trans ?_ (own_k m c t r ⟨h.val * 256 + l.val, by omega⟩)
  fin_cases h <;> (show X0_2 m c t _ = X0_2 m c t _; congr 1; funext a; fin_cases a <;> (apply Fin.ext; simp [Rect.unit, ks]))

theorem vs_at (c : Dev nD) (t : Fin cfg0.N) (h : Fin 4) (r : Fin 128) (l : Fin 256) :
    vs m c t h (ix2 r l) = P m c (ix2 ⟨t.val * 128 + r.val, by have := lt t; omega⟩ ⟨3072 + (h.val * 256 + l.val), by omega⟩) := by
  refine Eq.trans ?_ (own_v m c t r ⟨h.val * 256 + l.val, by omega⟩)
  fin_cases h <;> (show X0_3 m c t _ = X0_3 m c t _; congr 1; funext a; fin_cases a <;> (apply Fin.ext; simp [Rect.unit, vs]))

theorem gs_at (c : Dev nD) (t : Fin cfg0.N) (h : Fin 4) (r : Fin 128) (l : Fin 256) :
    gs m c t h (ix2 r l) = P m c (ix2 ⟨t.val * 128 + r.val, by have := lt t; omega⟩ ⟨4096 + (h.val * 256 + l.val), by omega⟩) := by
  refine Eq.trans ?_ (own_g m c t r ⟨h.val * 256 + l.val, by omega⟩)
  fin_cases h <;> (show X0_4 m c t _ = X0_4 m c t _; congr 1; funext a; fin_cases a <;> (apply Fin.ext; simp [Rect.unit, gs]))

theorem mks_at (c : Dev nD) (t : Fin cfg0.N) (h : Fin 4) (r : Fin 128) (l : Fin 256) :
    mks m c t h (ix2 r l) = M m c (ix2 r ⟨2048 + (h.val * 256 + l.val), by omega⟩) := by
  refine Eq.trans ?_ (meta_k m c t r ⟨h.val * 256 + l.val, by omega⟩)
  fin_cases h <;> (show X0_5 m c t _ = X0_5 m c t _; congr 1; funext a; fin_cases a <;> (apply Fin.ext; simp [Rect.unit, mks]))

theorem mvs_at (c : Dev nD) (t : Fin cfg0.N) (h : Fin 4) (r : Fin 128) (l : Fin 256) :
    mvs m c t h (ix2 r l) = M m c (ix2 r ⟨3072 + (h.val * 256 + l.val), by omega⟩) := by
  refine Eq.trans ?_ (meta_v m c t r ⟨h.val * 256 + l.val, by omega⟩)
  fin_cases h <;> (show X0_6 m c t _ = X0_6 m c t _; congr 1; funext a; fin_cases a <;> (apply Fin.ext; simp [Rect.unit, mvs]))

theorem inners_at (c : Dev nD) (t : Fin cfg0.N) (h : Fin 4) (r j : Fin 128) : inners m c t h (ix3 0 r j) = inner h r j := by
  refine Eq.trans ?_ ((win_inner m c t h r j).trans (congrFun (entry_inner m c) _))
  fin_cases h <;> (show iblk m c 11 t _ = iblk m c 11 t _; congr 1; funext a; fin_cases a <;> (apply Fin.ext; simp [Rect.unit, inners]))

theorem qds_at (c : Dev nD) (t : Fin cfg0.N) (h : Fin 4) (r : Fin 128) : qds m c t h (ix3 0 r 0) = queries h r := by
  refine Eq.trans ?_ ((win_query m c t h r).trans (congrFun (entry_query m c) _))
  fin_cases h <;> (show iblk m c 12 t _ = iblk m c 12 t _; congr 1; funext a; fin_cases a <;> (apply Fin.ext; simp [Rect.unit, qds]))

theorem kds_at (c : Dev nD) (t : Fin cfg0.N) (h : Fin 4) (r : Fin 128) : kds m c t h (ix3 0 r 0) = keys h r := by
  refine Eq.trans ?_ ((win_key m c t h r).trans (congrFun (entry_key m c) _))
  fin_cases h <;> (show iblk m c 13 t _ = iblk m c 13 t _; congr 1; funext a; fin_cases a <;> (apply Fin.ext; simp [Rect.unit, kds]))

theorem cds_at (c : Dev nD) (t : Fin cfg0.N) (h : Fin 4) : cds m c t h = chunk h := by
  refine Eq.trans ?_ ((win_chunk m c t h).trans (congrFun (entry_chunk m c) _))
  fin_cases h <;> (show iblk m c 0 t _ = iblk m c 0 t _; congr 1; funext a; fin_cases a <;> (apply Fin.ext; simp [Rect.unit, Shape.Idx.first]))

end Cert.Proof.Ret

end
end
-- ==== Proof.RetPieces.lean ====
/-
  The retention kernel's stored pieces, head by head, as the one head's computation that they all are.
-/
module

public import proofs.«01_k».proof.Proof.RetKernel

@[expose] public section

noncomputable section

open Idealize.ShloMosaic

namespace Cert.Proof.Ret

open Cert.RetIdeal Cert.RetIdeal.Gen

variable (C S : FVec Ideal S128x256 .f32) (Q K V G : FVec Ideal S128x256 .bf16) (Z : FVec Ideal S1x256x256 .f32) (c : Ideal .f32)
  (I : FVec Ideal S1x128x128 .f32) (A B : FVec Ideal S1x128x1 .f32)

/-- A head's state after a block and a head's output, of what the kernel loads. -/
def stateOfLoads : FVec Ideal S1x256x256 .f32 := next (scaled (turned C S (extf .f32 K bitsLt_bf16_f32))) V Z c B

def headOfLoads : FVec Ideal S128x256 .bf16 :=
  head (output (turned C S (extf .f32 Q bitsLt_bf16_f32)) (scaled (turned C S (extf .f32 K bitsLt_bf16_f32))) V Z I A) G

theorem meta_0 : k0_pay5 C S K B V = first C S K V B := rfl
theorem meta_1 : k0_pay8 (k0_pay3 C) (k0_pay4 S) (k0_pay6 K) (k0_pay7 K) B V = first C S K V B := rfl
theorem meta_2 : k0_pay12 (k0_pay9 k0_pay2 (k0_pay3 C) (k0_pay4 S) K B V) = first C S K V B := rfl
theorem meta_3 : k0_pay13 k0_pay2 (k0_pay3 C) (k0_pay4 S) K B V = first C S K V B := rfl

theorem state_0 : k0_pay18 (k0_pay15 C S K) V (k0_pay16 Z) c B = stateOfLoads C S K V Z c B := rfl
theorem state_1 : k0_pay28 (k0_pay25 (k0_pay10 C) (k0_pay11 S) K) V (k0_pay26 Z) c B = stateOfLoads C S K V Z c B := rfl
theorem state_2 : k0_pay38 (k0_pay35 (k0_pay10 C) (k0_pay11 S) K) V (k0_pay36 Z) c B = stateOfLoads C S K V Z c B := rfl
theorem state_3 : k0_pay48 (k0_pay45 (k0_pay10 C) (k0_pay11 S) K) V (k0_pay46 Z) c B = stateOfLoads C S K V Z c B := rfl

theorem head_0 : k0_pay23 (k0_pay19 (k0_pay14 C S Q) (k0_pay16 Z) (k0_pay17 C S Q K V I) A)
    (k0_pay20 (k0_pay14 C S Q) (k0_pay16 Z) (k0_pay17 C S Q K V I) A) (k0_pay21 G) (k0_pay22 G) = headOfLoads C S Q K V G Z I A := rfl
theorem head_1 : k0_pay33 (k0_pay29 (k0_pay24 (k0_pay10 C) (k0_pay11 S) Q) (k0_pay26 Z) (k0_pay27 (k0_pay10 C) (k0_pay11 S) Q K V I) A)
    (k0_pay30 (k0_pay24 (k0_pay10 C) (k0_pay11 S) Q) (k0_pay26 Z) (k0_pay27 (k0_pay10 C) (k0_pay11 S) Q K V I) A) (k0_pay31 G) (k0_pay32 G)
    = headOfLoads C S Q K V G Z I A := rfl
theorem head_2 : k0_pay43 (k0_pay39 (k0_pay34 (k0_pay10 C) (k0_pay11 S) Q) (k0_pay36 Z) (k0_pay37 (k0_pay10 C) (k0_pay11 S) Q K V I) A)
    (k0_pay40 (k0_pay34 (k0_pay10 C) (k0_pay11 S) Q) (k0_pay36 Z) (k0_pay37 (k0_pay10 C) (k0_pay11 S) Q K V I) A) (k0_pay41 G) (k0_pay42 G)
    = headOfLoads C S Q K V G Z I A := rfl
theorem head_3 : k0_pay1 (k0_pay49 (k0_pay44 (k0_pay10 C) (k0_pay11 S) Q) (k0_pay46 Z) (k0_pay47 (k0_pay10 C) (k0_pay11 S) Q K V I) A)
    (k0_pay50 (k0_pay44 (k0_pay10 C) (k0_pay11 S) Q) (k0_pay46 Z) (k0_pay47 (k0_pay10 C) (k0_pay11 S) Q K V I) A) (k0_pay51 G) (k0_pay52 G)
    = headOfLoads C S Q K V G Z I A := rfl

end Cert.Proof.Ret

end
end
-- ==== Proof.RetRefValue.lean ====
/-
  The retention of the reference, read at an index: what its loop over the blocks starts from, the state and the outputs
  after each trip, and the result at a row and a column.
-/
module

public import proofs.«01_k».proof.Proof.Gen.RetRefIdeal.Run
public import proofs.«01_k».proof.Proof.RetTables

@[expose] public section

set_option maxRecDepth 16384

noncomputable section

open Idealize.ShloMosaic Idealize.ShloMosaic.TcCoe Idealize.SL.Sem Idealize.ShloMosaic.StableHlo

namespace Cert.Proof.RetRef

open Cert.RetRefIdeal Cert.RetRefIdeal.Gen Cert.RetRefIdeal.Value RetRow
open AttnRow (slot)

/-- The stream of slots of every batch row. -/
def stream (P : FVec Ideal S16384x5376 .bf16) (M : FVec Ideal S128x5376 .bf16) : FVec Ideal S4x4224x5376 .f32 :=
  concatenate S4x4224x5376 1
    [⟨S4x128x5376, broadcastInDim S4x128x5376 ![0, 1, 2] bcast_S1x128x5376_S4x128x5376_0_1_2
      (broadcastInDim S1x128x5376 ![1, 2] bcast_S128x5376_S1x128x5376_1_2 (extf .f32 M bitsLt_bf16_f32))⟩,
     ⟨S4x4096x5376, shapeCast S4x4096x5376 (extf .f32 P bitsLt_bf16_f32) shapeCasts_S16384x5376_S4x4096x5376⟩]
    concatenates_S4x128x5376_S4x4096x5376_S4x4224x5376_d1

theorem stream_at (P : FVec Ideal S16384x5376 .bf16) (M : FVec Ideal S128x5376 .bf16) (b : Fin 4) (s : Fin 4224) (c : Fin 5376) :
    stream P M (ix3 b s c) = slot P M b s c := by
  pointwise [stream, slot]

/-- A rotary table, broadcast over the batch rows and the heads. -/
def spreadTable (C : FVec Ideal S4224x128 .f32) : FVec Ideal S4x4224x4x128 .f32 :=
  broadcastInDim S4x4224x4x128 ![0, 1, 2, 3] bcast_S1x4224x1x128_S4x4224x4x128_0_1_2_3
    (broadcastInDim S1x4224x1x128 ![1, 3] bcast_S4224x128_S1x4224x1x128_1_3 C)

/-- The turned vectors of every slot and head. -/
def turnedOf (X : FVec Ideal S4x4224x1024 .f32) (C D : FVec Ideal S4224x128 .f32) : FVec Ideal S4x4224x4x256 .f32 :=
  concatenate S4x4224x4x256 3
    [⟨S4x4224x4x128, subf
        (mulf (extractStridedSlice S4x4224x4x128 ![0, 0, 0, 0] (shapeCast S4x4224x4x256 X shapeCasts_S4x4224x1024_S4x4224x4x256) slices_S4x4224x4x256_S4x4224x4x128_0_0_0_0) (spreadTable C))
        (mulf (extractStridedSlice S4x4224x4x128 ![0, 0, 0, 128] (shapeCast S4x4224x4x256 X shapeCasts_S4x4224x1024_S4x4224x4x256) slices_S4x4224x4x256_S4x4224x4x128_0_0_0_128) (spreadTable D))⟩,
     ⟨S4x4224x4x128, addf
        (mulf (extractStridedSlice S4x4224x4x128 ![0, 0, 0, 128] (shapeCast S4x4224x4x256 X shapeCasts_S4x4224x1024_S4x4224x4x256) slices_S4x4224x4x256_S4x4224x4x128_0_0_0_128) (spreadTable C))
        (mulf (extractStridedSlice S4x4224x4x128 ![0, 0, 0, 0] (shapeCast S4x4224x4x256 X shapeCasts_S4x4224x1024_S4x4224x4x256) slices_S4x4224x4x256_S4x4224x4x128_0_0_0_0) (spreadTable D))⟩]
    concatenates_S4x4224x4x128_S4x4224x4x128_S4x4224x4x256_d3

theorem turnedOf_at (X : FVec Ideal S4x4224x1024 .f32) (C D : FVec Ideal S4224x128 .f32) (b : Fin 4) (s : Fin 4224) (h : Fin 4) (d : Fin 256) :
    turnedOf X C D (ix4 b s h d) = if hd : d.val < 128 then
      X (ix3 b s ⟨h.val * 256 + d.val, by omega⟩) * C (ix2 s ⟨d.val, hd⟩) - X (ix3 b s ⟨h.val * 256 + (128 + d.val), by omega⟩) * D (ix2 s ⟨d.val, hd⟩)
     else
      X (ix3 b s ⟨h.val * 256 + (128 + (d.val - 128)), by omega⟩) * C (ix2 s ⟨d.val - 128, by omega⟩)
        + X (ix3 b s ⟨h.val * 256 + (d.val - 128), by omega⟩) * D (ix2 s ⟨d.val - 128, by omega⟩) := by
  pointwise [turnedOf, spreadTable]

/-- The turned vectors are the rotary turn. -/
theorem turnedOf_turn (X : FVec Ideal S4x4224x1024 .f32) (b : Fin 4) (s : Fin 4224) (h : Fin 4) (d : Fin 256) :
    turnedOf X (Host.cos Ret.angles) (Host.sin Ret.angles) (ix4 b s h d) = turn (fun e => X (ix3 b s ⟨h.val * 256 + e.val, by omega⟩)) s d := by
  have hc : ∀ j, (Host.cos Ret.angles : FVec Ideal S4224x128 .f32) (ix2 s j) = Ideal.cos (angle s j) := fun j => congrArg Ideal.cos (Ret.angles_at s j)
  have hs : ∀ j, (Host.sin Ret.angles : FVec Ideal S4224x128 .f32) (ix2 s j) = Ideal.sin (angle s j) := fun j => congrArg Ideal.sin (Ret.angles_at s j)
  rw [turnedOf_at]
  unfold turn
  simp only [hc, hs]
  split
  · rfl
  · rename_i hd
    have e : h.val * 256 + (128 + (d.val - 128)) = h.val * 256 + d.val := by omega
    simp only [e]

/-- An array of slots in blocks of 128. -/
def chunks (X : FVec Ideal S4x4224x4x256 .f32) : FVec Ideal S33x4x4x128x256 .f32 :=
  transpose S33x4x4x128x256 [1, 0, 3, 2, 4] (shapeCast S4x33x128x4x256 X shapeCasts_S4x4224x4x256_S4x33x128x4x256) transposes_S4x33x128x4x256_S33x4x4x128x256_1_0_3_2_4

theorem chunks_at (X : FVec Ideal S4x4224x4x256 .f32) (n : Fin 33) (b h : Fin 4) (r : Fin 128) (d : Fin 256) :
    chunks X (ix5 n b h r d) = X (ix4 b ⟨n.val * 128 + r.val, by omega⟩ h d) := by
  pointwise [chunks]

/-- The columns of the queries, of the keys and of the values. -/
def queryCols (X : FVec Ideal S4x4224x5376 .f32) : FVec Ideal S4x4224x1024 .f32 :=
  extractStridedSlice S4x4224x1024 ![0, 0, 1024] X slices_S4x4224x5376_S4x4224x1024_0_0_1024
def keyCols (X : FVec Ideal S4x4224x5376 .f32) : FVec Ideal S4x4224x1024 .f32 :=
  mulf (extractStridedSlice S4x4224x1024 ![0, 0, 2048] X slices_S4x4224x5376_S4x4224x1024_0_0_2048)
    (broadcastInDim S4x4224x1024 ![0, 1, 2] bcast_S1x4224x1_S4x4224x1024_0_1_2 (uitofp (F := Ideal) .f32
      (broadcastInDim S1x4224x1 ![1] bcast_S4224_S1x4224x1_1
        (cmpi .sge (iotaInDim S4224 32 0) (broadcastInDim S4224 ![] bcast_S_S4224 (constantI S_ 32 112#32))))))
def valueCols (X : FVec Ideal S4x4224x5376 .f32) : FVec Ideal S4x4224x4x256 .f32 :=
  shapeCast S4x4224x4x256 (extractStridedSlice S4x4224x1024 ![0, 0, 3072] X slices_S4x4224x5376_S4x4224x1024_0_0_3072) shapeCasts_S4x4224x1024_S4x4224x4x256

theorem queryCols_at (X : FVec Ideal S4x4224x5376 .f32) (b : Fin 4) (s : Fin 4224) (l : Fin 1024) :
    queryCols X (ix3 b s l) = X (ix3 b s ⟨1024 + l.val, by omega⟩) := by
  pointwise [queryCols]

theorem keyCols_at (X : FVec Ideal S4x4224x5376 .f32) (b : Fin 4) (s : Fin 4224) (l : Fin 1024) :
    keyCols X (ix3 b s l) = X (ix3 b s ⟨2048 + l.val, by omega⟩) * FloatOps.uitofp (F := Ideal) .f32 (holds s) := by
  pointwise [keyCols, holds]

theorem valueCols_at (X : FVec Ideal S4x4224x5376 .f32) (b : Fin 4) (s : Fin 4224) (h : Fin 4) (d : Fin 256) :
    valueCols X (ix4 b s h d) = X (ix3 b s ⟨3072 + (h.val * 256 + d.val), by omega⟩) := by
  pointwise [valueCols]

/-- The keys scaled by the sixteenth. -/
def sixteenth (X : FVec Ideal S4x4224x4x256 .f32) : FVec Ideal S4x4224x4x256 .f32 :=
  mulf X (broadcastInDim S4x4224x4x256 ![] bcast_S_S4x4224x4x256 (constant S_ .f32 0x3D800000#32))

theorem sixteenth_at (X : FVec Ideal S4x4224x4x256 .f32) (b : Fin 4) (s : Fin 4224) (h : Fin 4) (d : Fin 256) :
    sixteenth X (ix4 b s h d) = X (ix4 b s h d) * Ideal.ofBits .f32 1031798784#32 := by
  pointwise [sixteenth]

end Cert.Proof.RetRef

end
end
-- ==== Proof.RetRefEntry.lean ====
/-
  What the reference's loop over the blocks starts from.
-/
module

public import proofs.«01_k».proof.Proof.RetRefValue

@[expose] public section

set_option maxRecDepth 16384

noncomputable section

open Idealize.ShloMosaic Idealize.ShloMosaic.TcCoe Idealize.SL.Sem Idealize.ShloMosaic.StableHlo

namespace Cert.Proof.RetRef

open Cert.RetRefIdeal Cert.RetRefIdeal.Gen Cert.RetRefIdeal.Value RetRow

variable (m : (ℓ : Loc nD τ sig) → Buf (Elt Ideal) ℓ) (c : Dev nD)

/-- The arguments, at their literal types. -/
abbrev P : FVec Ideal S16384x5376 .bf16 := m ((c.tc : Thread nD τ).loc main_arg0)
abbrev M : FVec Ideal S128x5376 .bf16 := m ((c.tc : Thread nD τ).loc main_arg1)

/-- The two halves of the turned vectors. -/
def low (X : FVec Ideal S4x4224x1024 .f32) : FVec Ideal S4x4224x4x128 .f32 :=
  subf
    (mulf (extractStridedSlice S4x4224x4x128 ![0, 0, 0, 0] (shapeCast S4x4224x4x256 X shapeCasts_S4x4224x1024_S4x4224x4x256) slices_S4x4224x4x256_S4x4224x4x128_0_0_0_0) (spreadTable (Host.cos Ret.angles)))
    (mulf (extractStridedSlice S4x4224x4x128 ![0, 0, 0, 128] (shapeCast S4x4224x4x256 X shapeCasts_S4x4224x1024_S4x4224x4x256) slices_S4x4224x4x256_S4x4224x4x128_0_0_0_128) (spreadTable (Host.sin Ret.angles)))
def high (X : FVec Ideal S4x4224x1024 .f32) : FVec Ideal S4x4224x4x128 .f32 :=
  addf
    (mulf (extractStridedSlice S4x4224x4x128 ![0, 0, 0, 128] (shapeCast S4x4224x4x256 X shapeCasts_S4x4224x1024_S4x4224x4x256) slices_S4x4224x4x256_S4x4224x4x128_0_0_0_128) (spreadTable (Host.cos Ret.angles)))
    (mulf (extractStridedSlice S4x4224x4x128 ![0, 0, 0, 0] (shapeCast S4x4224x4x256 X shapeCasts_S4x4224x1024_S4x4224x4x256) slices_S4x4224x4x256_S4x4224x4x128_0_0_0_0) (spreadTable (Host.sin Ret.angles)))

/-- Two halves side by side. -/
def joined (A B : FVec Ideal S4x4224x4x128 .f32) : FVec Ideal S4x4224x4x256 .f32 :=
  concatenate S4x4224x4x256 3 [⟨S4x4224x4x128, A⟩, ⟨S4x4224x4x128, B⟩] concatenates_S4x4224x4x128_S4x4224x4x128_S4x4224x4x256_d3

theorem joined_eq (X : FVec Ideal S4x4224x1024 .f32) : joined (low X) (high X) = turnedOf X (Host.cos Ret.angles) (Host.sin Ret.angles) := rfl

theorem low_q : upto hostOps0 (launchContents m c) 53 (Proc.devRef .tc main_v41) = low (queryCols (stream (P m c) (M m c))) := by
  after_reads_simp
  rfl

theorem high_q : upto hostOps0 (launchContents m c) 53 (Proc.devRef .tc main_v46) = high (queryCols (stream (P m c) (M m c))) := by
  after_reads_simp
  rfl

theorem low_k : upto hostOps0 (launchContents m c) 70 (Proc.devRef .tc main_v58) = low (keyCols (stream (P m c) (M m c))) := by
  after_reads_simp
  rfl

theorem high_k : upto hostOps0 (launchContents m c) 70 (Proc.devRef .tc main_v63) = high (keyCols (stream (P m c) (M m c))) := by
  after_reads_simp
  rfl

/-- What the loop starts from: the blocks of queries, keys and values, the decays, and nothing in the state. -/
theorem entry_q : entryContents preI m c (Proc.devRef .tc main_v125_0) = chunks (turnedOf (queryCols (stream (P m c) (M m c))) (Host.cos Ret.angles) (Host.sin Ret.angles)) := by
  simp only [entryContents, afterL_cons, afterL_nil]
  after_reads_simp
  exact congrArg₂ (fun A B => chunks (joined A B)) (low_q m c) (high_q m c)

theorem entry_k : entryContents preI m c (Proc.devRef .tc main_v125_1)
    = chunks (sixteenth (turnedOf (keyCols (stream (P m c) (M m c))) (Host.cos Ret.angles) (Host.sin Ret.angles))) := by
  simp only [entryContents, afterL_cons, afterL_nil]
  after_reads_simp
  exact congrArg₂ (fun A B => chunks (sixteenth (joined A B))) (low_k m c) (high_k m c)

theorem entry_v : entryContents preI m c (Proc.devRef .tc main_v125_2) = chunks (valueCols (stream (P m c) (M m c))) := by
  simp only [entryContents, afterL_cons, afterL_nil]
  after_reads_simp
  rfl

theorem entry_inner : entryContents preI m c (Proc.devRef .tc main_v125_3) = Ret.innerDecay := by
  simp only [entryContents, afterL_cons, afterL_nil]
  after_reads_simp
  rfl

theorem entry_query : entryContents preI m c (Proc.devRef .tc main_v125_4) = Ret.queryDecay := by
  simp only [entryContents, afterL_cons, afterL_nil]
  after_reads_simp
  rfl

theorem entry_chunk : entryContents preI m c (Proc.devRef .tc main_v125_5) = broadcastInDim S4x1x1 ![0] bcast_S4_S4x1x1_0 Ret.chunkDecay := by
  simp only [entryContents, afterL_cons, afterL_nil]
  after_reads_simp
  rfl

theorem entry_key : entryContents preI m c (Proc.devRef .tc main_v125_6) = Ret.keyDecay := by
  simp only [entryContents, afterL_cons, afterL_nil]
  after_reads_simp
  rfl

theorem entry_state : entryContents preI m c (Proc.devRef .tc main_v125_8) = broadcastInDim S4x4x256x256 ![] bcast_S_S4x4x256x256 (constant (F := Ideal) S_ .f32 0x00000000#32) := by
  simp only [entryContents, afterL_cons, afterL_nil]
  after_reads_simp
  rfl

theorem entry_proj : entryContents preI m c (Proc.devRef .tc main_arg0) = P m c := by
  simp only [entryContents, afterL_cons, afterL_nil]
  after_reads_simp

end Cert.Proof.RetRef

end
end
-- ==== Proof.RetRefLoop.lean ====
/-
  One trip of the reference's loop over the blocks, read at an index, and what the operations after the loop make of the
  outputs.
-/
module

public import Idealize.ShloMosaic.Lib.WordCmp
public import proofs.«01_k».proof.Proof.RetRefEntry

@[expose] public section

set_option maxRecDepth 16384

noncomputable section

open Idealize.ShloMosaic Idealize.ShloMosaic.TcCoe Idealize.SL.Sem Idealize.ShloMosaic.StableHlo

namespace Cert.Proof.RetRef

open Cert.RetRefIdeal Cert.RetRefIdeal.Gen Cert.RetRefIdeal.Value RetRow

/-- The block of an array that starts at `start`. -/
def cut (X : FVec Ideal S33x4x4x128x256 .f32) (start : Fin 5 → Int) : FVec Ideal S4x4x128x256 .f32 :=
  shapeCast S4x4x128x256 (Host.dynamicSlice S1x4x4x128x256 X start sliceFits_S33x4x4x128x256_S1x4x4x128x256) shapeCasts_S1x4x4x128x256_S4x4x128x256

/-- The array with the block that starts at `start` replaced. -/
def put (X : FVec Ideal S33x4x4x128x256 .f32) (U : FVec Ideal S4x4x128x256 .f32) (start : Fin 5 → Int) : FVec Ideal S33x4x4x128x256 .f32 :=
  Host.dynamicUpdateSlice X (broadcastInDim S1x4x4x128x256 ![1, 2, 3, 4] bcast_S4x4x128x256_S1x4x4x128x256_1_2_3_4 U) start updateFits_S33x4x4x128x256_S1x4x4x128x256

/-- Block `n` fits where it starts. -/
theorem fits (n : Fin 33) : S33x4x4x128x256.Slices ![n.val, 0, 0, 0, 0] S1x4x4x128x256 :=
  ⟨rfl, fun a => by
    have := n.isLt
    fin_cases a
    · show n.val + 1 ≤ 33
      omega
    · exact le_refl 4
    · exact le_refl 4
    · exact le_refl 128
    · exact le_refl 256⟩

theorem cut_at (X : FVec Ideal S33x4x4x128x256 .f32) (start : Fin 5 → Int) (n : Fin 33) (hs : ∀ a, start a = ((![n.val, 0, 0, 0, 0] : Fin 5 → ℕ) a : Int))
    (b h : Fin 4) (r : Fin 128) (d : Fin 256) : cut X start (ix4 b h r d) = X (ix5 n b h r d) := by
  unfold cut
  rw [WordCmp.dynamicSlice_eq_extract S1x4x4x128x256 X start _ ![n.val, 0, 0, 0, 0] (fits n) hs]
  pointwise []

theorem put_same (X : FVec Ideal S33x4x4x128x256 .f32) (U : FVec Ideal S4x4x128x256 .f32) (start : Fin 5 → Int) (n : Fin 33)
    (hs : ∀ a, start a = ((![n.val, 0, 0, 0, 0] : Fin 5 → ℕ) a : Int)) (b h : Fin 4) (r : Fin 128) (d : Fin 256) :
    put X U start (ix5 n b h r d) = U (ix4 b h r d) := by
  unfold put
  rw [WordCmp.dynamicUpdateSlice_eq_update X _ start _ ![n.val, 0, 0, 0, 0] (fits n) hs]
  pointwise []
  exact if_pos ⟨le_refl _, Nat.lt_succ_self _⟩

theorem put_other (X : FVec Ideal S33x4x4x128x256 .f32) (U : FVec Ideal S4x4x128x256 .f32) (start : Fin 5 → Int) (n : Fin 33)
    (hs : ∀ a, start a = ((![n.val, 0, 0, 0, 0] : Fin 5 → ℕ) a : Int)) (n' : Fin 33) (hn : n'.val < n.val) (b h : Fin 4) (r : Fin 128) (d : Fin 256) :
    put X U start (ix5 n' b h r d) = X (ix5 n' b h r d) := by
  unfold put
  rw [WordCmp.dynamicUpdateSlice_eq_update X _ start _ ![n.val, 0, 0, 0, 0] (fits n) hs]
  pointwise []
  exact if_neg fun hh => absurd hh.1 (Nat.not_le.mpr hn)

/-- The state after a block. -/
def stateOf (k v : FVec Ideal S4x4x128x256 .f32) (S : FVec Ideal S4x4x256x256 .f32) (K : FVec Ideal S4x128x1 .f32) (C : FVec Ideal S4x1x1 .f32) :
    FVec Ideal S4x4x256x256 .f32 :=
  addf (mulf S (broadcastInDim S4x4x256x256 ![0, 1, 2, 3] bcast_S1x4x1x1_S4x4x256x256_0_1_2_3 (broadcastInDim S1x4x1x1 ![1, 2, 3] bcast_S4x1x1_S1x4x1x1_1_2_3 C)))
    (Host.dotGeneral dot_S4x4x128x256_S4x4x128x256_S4x4x256x256_2_2_3_3_01_01 none
      (mulf k (broadcastInDim S4x4x128x256 ![0, 1, 2, 3] bcast_S1x4x128x1_S4x4x128x256_0_1_2_3 (broadcastInDim S1x4x128x1 ![1, 2, 3] bcast_S4x128x1_S1x4x128x1_1_2_3 K))) v)

theorem stateOf_at (k v : FVec Ideal S4x4x128x256 .f32) (S : FVec Ideal S4x4x256x256 .f32) (K : FVec Ideal S4x128x1 .f32) (C : FVec Ideal S4x1x1 .f32)
    (b h : Fin 4) (d e : Fin 256) :
    stateOf k v S K C (ix4 b h d e) = S (ix4 b h d e) * C (ix3 h 0 0) + ∑ j : Fin 128, (k (ix4 b h j d) * K (ix3 h j 0)) * v (ix4 b h j e) := by
  pointwise [stateOf]

/-- The products of a block's queries and keys. -/
def scoresOf (q k : FVec Ideal S4x4x128x256 .f32) (I : FVec Ideal S4x128x128 .f32) : FVec Ideal S4x4x128x128 .f32 :=
  mulf (Host.dotGeneral dot_S4x4x128x256_S4x4x128x256_S4x4x128x128_3_3_2_2_01_01 none q k)
    (broadcastInDim S4x4x128x128 ![0, 1, 2, 3] bcast_S1x4x128x128_S4x4x128x128_0_1_2_3 (broadcastInDim S1x4x128x128 ![1, 2, 3] bcast_S4x128x128_S1x4x128x128_1_2_3 I))

theorem scoresOf_at (q k : FVec Ideal S4x4x128x256 .f32) (I : FVec Ideal S4x128x128 .f32) (b h : Fin 4) (r j : Fin 128) :
    scoresOf q k I (ix4 b h r j) = (∑ d : Fin 256, q (ix4 b h r d) * k (ix4 b h j d)) * I (ix3 h r j) := by
  pointwise [scoresOf]

/-- The block's output of its own rows, and of the state. -/
def ownOf (Z : FVec Ideal S4x4x128x128 .f32) (v : FVec Ideal S4x4x128x256 .f32) : FVec Ideal S4x4x128x256 .f32 :=
  Host.dotGeneral dot_S4x4x128x128_S4x4x128x256_S4x4x128x256_3_2_2_3_01_01 none Z v
def pastOf (q : FVec Ideal S4x4x128x256 .f32) (S : FVec Ideal S4x4x256x256 .f32) (Q : FVec Ideal S4x128x1 .f32) : FVec Ideal S4x4x128x256 .f32 :=
  Host.dotGeneral dot_S4x4x128x256_S4x4x256x256_S4x4x128x256_3_2_2_3_01_01 none
    (mulf q (broadcastInDim S4x4x128x256 ![0, 1, 2, 3] bcast_S1x4x128x1_S4x4x128x256_0_1_2_3 (broadcastInDim S1x4x128x1 ![1, 2, 3] bcast_S4x128x1_S1x4x128x1_1_2_3 Q))) S

theorem ownOf_at (Z : FVec Ideal S4x4x128x128 .f32) (v : FVec Ideal S4x4x128x256 .f32) (b h : Fin 4) (r : Fin 128) (e : Fin 256) :
    ownOf Z v (ix4 b h r e) = ∑ j : Fin 128, Z (ix4 b h r j) * v (ix4 b h j e) := by
  pointwise [ownOf]

theorem pastOf_at (q : FVec Ideal S4x4x128x256 .f32) (S : FVec Ideal S4x4x256x256 .f32) (Q : FVec Ideal S4x128x1 .f32) (b h : Fin 4) (r : Fin 128) (e : Fin 256) :
    pastOf q S Q (ix4 b h r e) = ∑ d : Fin 256, (q (ix4 b h r d) * Q (ix3 h r 0)) * S (ix4 b h d e) := by
  pointwise [pastOf]

/-- A block's output. -/
def outputOf (q k v : FVec Ideal S4x4x128x256 .f32) (S : FVec Ideal S4x4x256x256 .f32) (I : FVec Ideal S4x128x128 .f32) (Q : FVec Ideal S4x128x1 .f32) :
    FVec Ideal S4x4x128x256 .f32 :=
  addf (ownOf (scoresOf q k I) v) (pastOf q S Q)

theorem outputOf_at (q k v : FVec Ideal S4x4x128x256 .f32) (S : FVec Ideal S4x4x256x256 .f32) (I : FVec Ideal S4x128x128 .f32) (Q : FVec Ideal S4x128x1 .f32)
    (b h : Fin 4) (r : Fin 128) (e : Fin 256) :
    outputOf q k v S I Q (ix4 b h r e) = mix (fun r d => q (ix4 b h r d)) (fun r d => k (ix4 b h r d)) (fun r d => v (ix4 b h r d))
      (fun r j => I (ix3 h r j)) (fun r => Q (ix3 h r 0)) (fun d e => S (ix4 b h d e)) r e := by
  show ownOf (scoresOf q k I) v (ix4 b h r e) + pastOf q S Q (ix4 b h r e) = _
  rw [ownOf_at, pastOf_at]
  simp only [scoresOf_at]
  rfl

/-- The outputs, slot after slot. -/
def rowsOf (Y : FVec Ideal S33x4x4x128x256 .f32) : FVec Ideal S4x4224x4x256 .f32 :=
  shapeCast S4x4224x4x256 (transpose S4x33x128x4x256 [1, 0, 3, 2, 4] Y transposes_S33x4x4x128x256_S4x33x128x4x256_1_0_3_2_4) shapeCasts_S4x33x128x4x256_S4x4224x4x256

theorem rowsOf_at (Y : FVec Ideal S33x4x4x128x256 .f32) (b : Fin 4) (n : Fin 33) (r : Fin 128) (h : Fin 4) (e : Fin 256) :
    rowsOf Y (ix4 b ⟨n.val * 128 + r.val, by omega⟩ h e) = Y (ix5 n b h r e) := by
  pointwise [rowsOf]

/-- The mean over a head's lanes. -/
def meanOf (R : FVec Ideal S4x4224x4x256 .f32) : FVec Ideal S4x4224x4x1 .f32 :=
  Host.divf (broadcastInDim S4x4224x4x1 ![0, 1, 2] bcast_S4x4224x4_S4x4224x4x1_0_1_2 (Host.reduceAdd R (constant S_ .f32 0x00000000#32) reducesTo_S4x4224x4x256_S4x4224x4_d3 h_S_))
    (broadcastInDim S4x4224x4x1 ![] bcast_S_S4x4224x4x1 (constant S_ .f32 0x43800000#32))

theorem meanOf_at (R : FVec Ideal S4x4224x4x256 .f32) (b : Fin 4) (s : Fin 4224) (h : Fin 4) :
    meanOf R (ix4 b s h 0) = average (fun e => R (ix4 b s h e)) := by
  pointwise [meanOf, average]

/-- The lanes less their mean. -/
def lessMean (R : FVec Ideal S4x4224x4x256 .f32) : FVec Ideal S4x4224x4x256 .f32 :=
  subf R (broadcastInDim S4x4224x4x256 ![0, 1, 2, 3] bcast_S4x4224x4x1_S4x4224x4x256_0_1_2_3 (meanOf R))

theorem lessMean_at (R : FVec Ideal S4x4224x4x256 .f32) (b : Fin 4) (s : Fin 4224) (h : Fin 4) (e : Fin 256) :
    lessMean R (ix4 b s h e) = R (ix4 b s h e) - average (fun e => R (ix4 b s h e)) := by
  pointwise [lessMean, meanOf_at]

/-- The normalised lanes. -/
def normalOf (R : FVec Ideal S4x4224x4x256 .f32) : FVec Ideal S4x4224x4x256 .f32 :=
  mulf (lessMean R) (broadcastInDim S4x4224x4x256 ![0, 1, 2, 3] bcast_S4x4224x4x1_S4x4224x4x256_0_1_2_3
    (Host.rsqrt (addf (meanOf (mulf (lessMean R) (lessMean R))) (broadcastInDim S4x4224x4x1 ![] bcast_S_S4x4224x4x1 (constant S_ .f32 0x3727C5AC#32)))))

theorem normalOf_at (R : FVec Ideal S4x4224x4x256 .f32) (b : Fin 4) (s : Fin 4224) (h : Fin 4) (e : Fin 256) :
    normalOf R (ix4 b s h e) = normal (fun e => R (ix4 b s h e)) e := by
  pointwise [normalOf, meanOf_at, lessMean_at, normal]

/-- The gated result, of the gate's columns and the normalised lanes. -/
def gatedOf (G : FVec Ideal S16384x1024 .f32) (N : FVec Ideal S4x4224x4x256 .f32) : FVec Ideal S16384x1024 .bf16 :=
  truncf .bf16 (mulf (mulf G (Host.divf (broadcastInDim S16384x1024 ![] bcast_S_S16384x1024 (constant S_ .f32 0x3F800000#32))
      (addf (broadcastInDim S16384x1024 ![] bcast_S_S16384x1024 (constant S_ .f32 0x3F800000#32)) (Host.exp (Host.negf G)))))
    (shapeCast S16384x1024 (extractStridedSlice S4x4096x1024 ![0, 128, 0] (shapeCast S4x4224x1024 N shapeCasts_S4x4224x4x256_S4x4224x1024) slices_S4x4224x1024_S4x4096x1024_0_128_0)
      shapeCasts_S4x4096x1024_S16384x1024)) bitsLt_bf16_f32

theorem gatedOf_at (G : FVec Ideal S16384x1024 .f32) (N : FVec Ideal S4x4224x4x256 .f32) (b : Fin 4) (n : Fin 32) (r : Fin 128) (h : Fin 4) (e : Fin 256) :
    gatedOf G N (ix2 ⟨b.val * 4096 + (n.val * 128 + r.val), by omega⟩ ⟨h.val * 256 + e.val, by omega⟩)
      = (G (ix2 ⟨b.val * 4096 + (n.val * 128 + r.val), by omega⟩ ⟨h.val * 256 + e.val, by omega⟩)
          * Ideal.div 1 (1 + Ideal.exp (-G (ix2 ⟨b.val * 4096 + (n.val * 128 + r.val), by omega⟩ ⟨h.val * 256 + e.val, by omega⟩))))
        * N (ix4 b ⟨(n.val + 1) * 128 + r.val, by omega⟩ h e) := by
  pointwise [gatedOf]
  have e' : (⟨128 + (b.val * 4096 + (n.val * 128 + r.val)) % 4096, by omega⟩ : Fin 4224) = ⟨(n.val + 1) * 128 + r.val, by omega⟩ :=
    Fin.ext (show 128 + (b.val * 4096 + (n.val * 128 + r.val)) % 4096 = (n.val + 1) * 128 + r.val by omega)
  rw [e']

/-- The gate's columns. -/
def gateCols (P : FVec Ideal S16384x5376 .bf16) : FVec Ideal S16384x1024 .f32 :=
  extf .f32 (extractStridedSlice S16384x1024 ![0, 4096] P slices_S16384x5376_S16384x1024_0_4096) bitsLt_bf16_f32

theorem gateCols_at (P : FVec Ideal S16384x5376 .bf16) (i : Fin 16384) (l : Fin 1024) : gateCols P (ix2 i l) = P (ix2 i ⟨4096 + l.val, by omega⟩) := by
  pointwise [gateCols]

theorem out_eq (V0 : Valuation τ sig (Elt Ideal)) :
    out_main_v159 V0 = gatedOf (gateCols (V0 (Proc.devRef .tc main_arg0))) (normalOf (rowsOf (V0 (Proc.devRef .tc main_v125_9)))) := rfl

end Cert.Proof.RetRef

end
end
-- ==== Proof.RetRefResult.lean ====
/-
  The reference's loop over the blocks, by induction over its trips, and its result at a row and a column.
-/
module

public import proofs.«01_k».proof.Proof.RetRefLoop

@[expose] public section

set_option maxRecDepth 16384

noncomputable section

open Idealize.ShloMosaic Idealize.ShloMosaic.TcCoe Idealize.SL.Sem Idealize.ShloMosaic.StableHlo

namespace Cert.Proof.RetRef

open Cert.RetRefIdeal Cert.RetRefIdeal.Gen Cert.RetRefIdeal.Value RetRow

/-- Where a trip's block starts, of the counter. -/
def starts (z : IVec S_ 32) : Fin 5 → Int := fun k =>
  (((![z, constantI S_ 32 0#32, constantI S_ 32 0#32, constantI S_ 32 0#32, constantI S_ 32 0#32] : Fin 5 → IVec S_ 32)) k (Shape.Idx.first h_S_)).toInt

theorem starts_at (n : Fin 33) (z : IVec S_ 32) (hz : z = fun _ => BitVec.ofNat 32 n.val) (a : Fin 5) :
    starts z a = ((![n.val, 0, 0, 0, 0] : Fin 5 → ℕ) a : Int) := by
  subst hz
  have := n.isLt
  fin_cases a
  · exact WordCmp.toInt_ofNat_of_lt (by omega)
  all_goals rfl

theorem step_state (V0 : Valuation τ sig (Elt Ideal)) :
    step_main_v125_8 V0 = stateOf (cut (V0 (Proc.devRef .tc main_v125_1)) (starts (V0 (Proc.devRef .tc main_v125_7))))
      (cut (V0 (Proc.devRef .tc main_v125_2)) (starts (V0 (Proc.devRef .tc main_v125_7))))
      (V0 (Proc.devRef .tc main_v125_8)) (V0 (Proc.devRef .tc main_v125_6)) (V0 (Proc.devRef .tc main_v125_5)) := rfl

theorem step_output_res (V0 : Valuation τ sig (Elt Ideal)) :
    step_main_v125_9 V0 = put (V0 (Proc.devRef .tc main_v125_9))
      (outputOf (res_main_while0b_v160 V0) (res_main_while0b_v161 V0) (res_main_while0b_v162 V0)
        (V0 (Proc.devRef .tc main_v125_8)) (V0 (Proc.devRef .tc main_v125_3)) (V0 (Proc.devRef .tc main_v125_4)))
      (starts (V0 (Proc.devRef .tc main_v125_7))) := by
  unfold step_main_v125_9 put outputOf ownOf pastOf scoresOf starts
  rfl

theorem step_output (V0 : Valuation τ sig (Elt Ideal)) :
    step_main_v125_9 V0 = put (V0 (Proc.devRef .tc main_v125_9))
      (outputOf (cut (V0 (Proc.devRef .tc main_v125_0)) (starts (V0 (Proc.devRef .tc main_v125_7))))
        (cut (V0 (Proc.devRef .tc main_v125_1)) (starts (V0 (Proc.devRef .tc main_v125_7))))
        (cut (V0 (Proc.devRef .tc main_v125_2)) (starts (V0 (Proc.devRef .tc main_v125_7))))
        (V0 (Proc.devRef .tc main_v125_8)) (V0 (Proc.devRef .tc main_v125_3)) (V0 (Proc.devRef .tc main_v125_4)))
      (starts (V0 (Proc.devRef .tc main_v125_7))) := by
  have e0 : res_main_while0b_v160 V0 = cut (V0 (Proc.devRef .tc main_v125_0)) (starts (V0 (Proc.devRef .tc main_v125_7))) := rfl
  have e1 : res_main_while0b_v161 V0 = cut (V0 (Proc.devRef .tc main_v125_1)) (starts (V0 (Proc.devRef .tc main_v125_7))) := rfl
  have e2 : res_main_while0b_v162 V0 = cut (V0 (Proc.devRef .tc main_v125_2)) (starts (V0 (Proc.devRef .tc main_v125_7))) := rfl
  rw [step_output_res, e0, e1, e2]

variable (m : (ℓ : Loc nD τ sig) → Buf (Elt Ideal) ℓ) (c : Dev nD)

/-- The contents before trip `k`. -/
def trips (k : ℕ) : Valuation τ sig (Elt Ideal) := STEP^[k] (entryContents preI m c)

theorem trips_succ (k : ℕ) : trips m c (k + 1) = STEP (trips m c k) := Function.iterate_succ_apply' _ _ _

theorem trips_q (k : ℕ) : trips m c k (Proc.devRef .tc main_v125_0) = chunks (turnedOf (queryCols (stream (P m c) (M m c))) (Host.cos Ret.angles) (Host.sin Ret.angles)) := by
  induction k with
  | zero => exact entry_q m c
  | succ k ih => rw [trips_succ, STEP_main_v125_0]; exact ih

theorem trips_k (k : ℕ) : trips m c k (Proc.devRef .tc main_v125_1)
    = chunks (sixteenth (turnedOf (keyCols (stream (P m c) (M m c))) (Host.cos Ret.angles) (Host.sin Ret.angles))) := by
  induction k with
  | zero => exact entry_k m c
  | succ k ih => rw [trips_succ, STEP_main_v125_1]; exact ih

theorem trips_v (k : ℕ) : trips m c k (Proc.devRef .tc main_v125_2) = chunks (valueCols (stream (P m c) (M m c))) := by
  induction k with
  | zero => exact entry_v m c
  | succ k ih => rw [trips_succ, STEP_main_v125_2]; exact ih

theorem trips_inner (k : ℕ) : trips m c k (Proc.devRef .tc main_v125_3) = Ret.innerDecay := by
  induction k with
  | zero => exact entry_inner m c
  | succ k ih => rw [trips_succ, STEP_main_v125_3]; exact ih

theorem trips_query (k : ℕ) : trips m c k (Proc.devRef .tc main_v125_4) = Ret.queryDecay := by
  induction k with
  | zero => exact entry_query m c
  | succ k ih => rw [trips_succ, STEP_main_v125_4]; exact ih

theorem trips_chunk (k : ℕ) : trips m c k (Proc.devRef .tc main_v125_5) = broadcastInDim S4x1x1 ![0] bcast_S4_S4x1x1_0 Ret.chunkDecay := by
  induction k with
  | zero => exact entry_chunk m c
  | succ k ih => rw [trips_succ, STEP_main_v125_5]; exact ih

theorem trips_key (k : ℕ) : trips m c k (Proc.devRef .tc main_v125_6) = Ret.keyDecay := by
  induction k with
  | zero => exact entry_key m c
  | succ k ih => rw [trips_succ, STEP_main_v125_6]; exact ih

theorem trips_counter (k : ℕ) : trips m c k (Proc.devRef .tc main_v125_7) = fun _ => BitVec.ofNat 32 k := by
  induction k with
  | zero => exact ctr_entry m c
  | succ k ih =>
    rw [trips_succ, STEP_main_v125_7]
    unfold step_main_v125_7
    rw [ih]
    funext i
    exact (BitVec.ofNat_add k 1).symm

/-- The row of a block, as a slot. -/
theorem row_place (n : Fin 33) (r : Fin 128) : (⟨n.val * 128 + r.val, by omega⟩ : Fin 4224) = place n.val r :=
  Fin.ext (place_val n.val n.isLt r).symm

theorem query_at (n : Fin 33) (b h : Fin 4) (r : Fin 128) (d : Fin 256) (P : FVec Ideal S16384x5376 .bf16) (M : FVec Ideal S128x5376 .bf16) :
    chunks (turnedOf (queryCols (stream P M)) (Host.cos Ret.angles) (Host.sin Ret.angles)) (ix5 n b h r d) = query P M b h (place n.val r) d := by
  rw [chunks_at, row_place, turnedOf_turn]
  simp only [queryCols_at, stream_at]
  rfl

theorem key_at (n : Fin 33) (b h : Fin 4) (r : Fin 128) (d : Fin 256) (P : FVec Ideal S16384x5376 .bf16) (M : FVec Ideal S128x5376 .bf16) :
    chunks (sixteenth (turnedOf (keyCols (stream P M)) (Host.cos Ret.angles) (Host.sin Ret.angles))) (ix5 n b h r d) = key P M b h (place n.val r) d := by
  rw [chunks_at, row_place, sixteenth_at, turnedOf_turn]
  simp only [keyCols_at, stream_at]
  rfl

theorem value_at (n : Fin 33) (b h : Fin 4) (r : Fin 128) (d : Fin 256) (P : FVec Ideal S16384x5376 .bf16) (M : FVec Ideal S128x5376 .bf16) :
    chunks (valueCols (stream P M)) (ix5 n b h r d) = value P M b h (place n.val r) d := by
  rw [chunks_at, row_place, valueCols_at, stream_at]
  rfl

theorem cut_q (n : Fin 33) (b h : Fin 4) (r : Fin 128) (d : Fin 256) :
    cut (trips m c n.val (Proc.devRef .tc main_v125_0)) (starts (trips m c n.val (Proc.devRef .tc main_v125_7))) (ix4 b h r d)
      = query (P m c) (M m c) b h (place n.val r) d := by
  rw [cut_at _ _ n (starts_at n _ (trips_counter m c n.val)), trips_q]
  exact query_at n b h r d _ _

theorem cut_k (n : Fin 33) (b h : Fin 4) (r : Fin 128) (d : Fin 256) :
    cut (trips m c n.val (Proc.devRef .tc main_v125_1)) (starts (trips m c n.val (Proc.devRef .tc main_v125_7))) (ix4 b h r d)
      = key (P m c) (M m c) b h (place n.val r) d := by
  rw [cut_at _ _ n (starts_at n _ (trips_counter m c n.val)), trips_k]
  exact key_at n b h r d _ _

theorem cut_v (n : Fin 33) (b h : Fin 4) (r : Fin 128) (d : Fin 256) :
    cut (trips m c n.val (Proc.devRef .tc main_v125_2)) (starts (trips m c n.val (Proc.devRef .tc main_v125_7))) (ix4 b h r d)
      = value (P m c) (M m c) b h (place n.val r) d := by
  rw [cut_at _ _ n (starts_at n _ (trips_counter m c n.val)), trips_v]
  exact value_at n b h r d _ _

theorem chunk_at (h : Fin 4) : (broadcastInDim S4x1x1 ![0] bcast_S4_S4x1x1_0 Ret.chunkDecay : FVec Ideal S4x1x1 .f32) (ix3 h 0 0) = Ret.chunk h := by
  pointwise [Ret.chunk]

theorem trips_state (k : ℕ) (hk : k ≤ 33) (b h : Fin 4) (d e : Fin 256) :
    (show FVec Ideal S4x4x256x256 .f32 from trips m c k (Proc.devRef .tc main_v125_8)) (ix4 b h d e) = stateAt (P m c) (M m c) Ret.keys Ret.chunk b h k d e := by
  induction k generalizing d e with
  | zero =>
    refine (congrFun (entry_state m c) _).trans ?_
    pointwise [stateAt, state]
  | succ k ih =>
    have hk' : k < 33 := hk
    refine (congrFun ((congrFun (trips_succ m c k) _).trans ((STEP_main_v125_8 _).trans (step_state _))) _).trans ?_
    rw [stateOf_at, trips_key, trips_chunk, chunk_at]
    rw [show (trips m c k (Proc.devRef .tc main_v125_8)) (ix4 b h d e) = _ from ih (by omega) d e]
    simp only [cut_k m c ⟨k, hk'⟩, cut_v m c ⟨k, hk'⟩]
    rfl

theorem trips_output (k : ℕ) (hk : k ≤ 33) (n : Fin 33) (hn : n.val < k) (b h : Fin 4) (r : Fin 128) (e : Fin 256) :
    (show FVec Ideal S33x4x4x128x256 .f32 from trips m c k (Proc.devRef .tc main_v125_9)) (ix5 n b h r e)
      = mixAt (P m c) (M m c) Ret.inner Ret.queries Ret.keys Ret.chunk b h n.val r e := by
  induction k with
  | zero => exact absurd hn (Nat.not_lt_zero _)
  | succ k ih =>
    have hk' : k < 33 := hk
    refine (congrFun ((congrFun (trips_succ m c k) _).trans ((STEP_main_v125_9 _).trans (step_output _))) _).trans ?_
    by_cases hnk : n.val < k
    · rw [put_other _ _ _ ⟨k, hk'⟩ (starts_at ⟨k, hk'⟩ _ (trips_counter m c k)) n hnk]
      exact ih (by omega) hnk
    · obtain rfl : n = ⟨k, hk'⟩ := Fin.ext (by show n.val = k; omega)
      rw [put_same _ _ _ ⟨k, hk'⟩ (starts_at ⟨k, hk'⟩ _ (trips_counter m c k)), outputOf_at, trips_inner, trips_query]
      have hs : (fun d e => (trips m c k (Proc.devRef .tc main_v125_8)) (ix4 b h d e)) = stateAt (P m c) (M m c) Ret.keys Ret.chunk b h k :=
        funext fun d => funext fun e => trips_state m c k (by omega) b h d e
      rw [hs]
      simp only [cut_q m c ⟨k, hk'⟩, cut_k m c ⟨k, hk'⟩, cut_v m c ⟨k, hk'⟩]
      rfl

/-- One entry of the reference's result. -/
theorem result_at (b : Fin 4) (n : Fin 32) (h : Fin 4) (r : Fin 128) (e : Fin 256) :
    (show FVec Ideal S16384x1024 .bf16 from out_main_v159 (trips m c 33)) (ix2 ⟨b.val * 4096 + (n.val * 128 + r.val), by omega⟩ ⟨h.val * 256 + e.val, by omega⟩)
      = entry (P m c) (M m c) Ret.inner Ret.queries Ret.keys Ret.chunk b h n r e := by
  refine (congrFun (out_eq _) _).trans ?_
  rw [gatedOf_at, gateCols_at, normalOf_at]
  have hr : (fun e => rowsOf (trips m c 33 (Proc.devRef .tc main_v125_9)) (ix4 b ⟨(n.val + 1) * 128 + r.val, by omega⟩ h e))
      = mixAt (P m c) (M m c) Ret.inner Ret.queries Ret.keys Ret.chunk b h (n.val + 1) r :=
    funext fun e => (rowsOf_at _ b ⟨n.val + 1, by omega⟩ r h e).trans (trips_output m c 33 le_rfl ⟨n.val + 1, by omega⟩ (by show n.val + 1 < 33; omega) b h r e)
  have hp : trips m c 33 (Proc.devRef .tc main_arg0) = P m c := iter_main_arg0 m c 33
  rw [hr, hp]
  have h1 : (Ideal.ofBits .f32 1065353216#32 : EReal) = 1 := by pointwise []
  unfold entry gate
  rw [h1]

end Cert.Proof.RetRef

end
end
-- ==== Proof.RetValue.lean ====
/-
  The retention at the ideal instance: the state that the kernel keeps between the grid points is the recurrence's, the blocks that it
  writes are the reference's result, and so the kernel computes the reference.
-/
module

public import proofs.«01_k».proof.Defs
public import proofs.«01_k».proof.Proof.RetBlocks
public import proofs.«01_k».proof.Proof.RetPieces
public import proofs.«01_k».proof.Proof.RetRefResult
public import Idealize.ShloMosaic.Lib.Pipeline.ReadBack

@[expose] public section

set_option maxRecDepth 16384

noncomputable section

open Idealize.ShloMosaic Idealize.ShloMosaic.TcCoe Idealize.SL.Sem Idealize.ShloMosaic.StableHlo

namespace Cert.Proof.Ret

open Cert.RetIdeal Cert.RetIdeal.Gen RetRow
open AttnRow (slot)

variable (m : (ℓ : Loc nD τ sig) → Buf (Elt Ideal) ℓ)

/-- The angles' cosines and sines of the point's block and of the first block. -/
abbrev cosOwn (c : Dev nD) (t : Fin cfg0.N) : FVec Ideal S128x256 .f32 := iblk m c 7 t
abbrev sinOwn (c : Dev nD) (t : Fin cfg0.N) : FVec Ideal S128x256 .f32 := iblk m c 8 t
abbrev cosMeta (c : Dev nD) (t : Fin cfg0.N) : FVec Ideal S128x256 .f32 := iblk m c 9 t
abbrev sinMeta (c : Dev nD) (t : Fin cfg0.N) : FVec Ideal S128x256 .f32 := iblk m c 10 t

theorem place_own (t : Fin cfg0.N) (r : Fin 128) : place (t.val % 32 + 1) r = ⟨(t.val % 32 + 1) * 128 + r.val, by omega⟩ :=
  Fin.ext (place_val _ (by omega) r)

theorem place_meta (r : Fin 128) : place 0 r = ⟨r.val, by omega⟩ := Fin.ext ((place_val _ (by omega) r).trans (by simp))

theorem slot_own (c : Dev nD) (t : Fin cfg0.N) (r : Fin 128) (l : Fin 5376) :
    slot (P m c) (M m c) (batch t) (place (t.val % 32 + 1) r) l = P m c (ix2 ⟨t.val * 128 + r.val, by have := lt t; omega⟩ l) := by
  have := lt t
  rw [place_own]
  unfold slot
  rw [dif_neg (by dsimp only; omega)]
  congr 2
  apply Fin.ext
  dsimp only
  omega

theorem slot_meta (c : Dev nD) (b : Fin 4) (r : Fin 128) (l : Fin 5376) :
    slot (P m c) (M m c) b (place 0 r) l = M m c (ix2 r l) := by
  rw [place_meta]
  unfold slot
  rw [dif_pos r.isLt]

theorem holds_late : ∀ s : Fin 4224, 128 ≤ s.val → holds s = 1#1 := by decide +kernel

theorem count_one : FloatOps.uitofp (F := Ideal) .f32 1#1 = 1 := by
  show ((((1#1 : BitVec 1).toNat : ℕ) : ℝ) : EReal) = 1
  norm_num

theorem count_zero : FloatOps.uitofp (F := Ideal) .f32 0#1 = 0 := by
  show ((((0#1 : BitVec 1).toNat : ℕ) : ℝ) : EReal) = 0
  norm_num

theorem wide_at (X : FVec Ideal S128x256 .bf16) (r : Fin 128) (d : Fin 256) : extf (F := Ideal) .f32 X bitsLt_bf16_f32 (ix2 r d) = X (ix2 r d) := by
  pointwise

/-- The turned queries and the turned and scaled keys of the point's block. -/
def queriesOf (c : Dev nD) (t : Fin cfg0.N) (h : Fin 4) : FVec Ideal S128x256 .f32 :=
  turned (cosOwn m c t) (sinOwn m c t) (extf .f32 (qs m c t h) bitsLt_bf16_f32)

def keysOf (c : Dev nD) (t : Fin cfg0.N) (h : Fin 4) : FVec Ideal S128x256 .f32 :=
  scaled (turned (cosOwn m c t) (sinOwn m c t) (extf .f32 (ks m c t h) bitsLt_bf16_f32))

theorem queriesOf_at (c : Dev nD) (t : Fin cfg0.N) (h : Fin 4) (r : Fin 128) (d : Fin 256) :
    queriesOf m c t h (ix2 r d) = query (P m c) (M m c) (batch t) h (place (t.val % 32 + 1) r) d := by
  unfold queriesOf query
  rw [turned_row _ _ _ r (place (t.val % 32 + 1) r) d
    (fun d => by rw [place_own]; exact (own_cos m c t r d).trans (congrFun (entry_cos m c) _))
    (fun d => by rw [place_own]; exact (own_sin m c t r d).trans (congrFun (entry_sin m c) _))]
  congr 1
  funext e
  rw [wide_at, qs_at, slot_own]

theorem keysOf_at (c : Dev nD) (t : Fin cfg0.N) (h : Fin 4) (r : Fin 128) (d : Fin 256) :
    keysOf m c t h (ix2 r d) = key (P m c) (M m c) (batch t) h (place (t.val % 32 + 1) r) d := by
  unfold keysOf key
  rw [scaled_at, turned_row _ _ _ r (place (t.val % 32 + 1) r) d
    (fun d => by rw [place_own]; exact (own_cos m c t r d).trans (congrFun (entry_cos m c) _))
    (fun d => by rw [place_own]; exact (own_sin m c t r d).trans (congrFun (entry_sin m c) _)),
    holds_late (place (t.val % 32 + 1) r) (by rw [place_own]; dsimp only; omega), count_one]
  congr 2
  funext e
  rw [wide_at, ks_at, slot_own, mul_one]

theorem valuesOf_at (c : Dev nD) (t : Fin cfg0.N) (h : Fin 4) (r : Fin 128) (e : Fin 256) :
    vs m c t h (ix2 r e) = value (P m c) (M m c) (batch t) h (place (t.val % 32 + 1) r) e := by
  unfold value
  rw [vs_at, slot_own]

/-- The meta tokens' turned and scaled keys. -/
def metaKeys (c : Dev nD) (t : Fin cfg0.N) (h : Fin 4) : FVec Ideal S128x256 .f32 :=
  scaled (turned (cosMeta m c t) (sinMeta m c t) (masked (mks m c t h)))

theorem masked_key (X : EReal) (b : BitVec 1) : (if b = 1#1 then X else 0) = X * FloatOps.uitofp (F := Ideal) .f32 b := by
  rcases BitVec.eq_zero_or_eq_one b with h | h
  · rw [h, if_neg (by decide), count_zero, mul_zero]
  · rw [h, if_pos rfl, count_one, mul_one]

theorem metaKeys_at (c : Dev nD) (t : Fin cfg0.N) (b h : Fin 4) (r : Fin 128) (d : Fin 256) :
    metaKeys m c t h (ix2 r d) = key (P m c) (M m c) b h (place 0 r) d := by
  unfold metaKeys key
  rw [scaled_at, turned_row _ _ _ r (place 0 r) d
    (fun d => by rw [place_meta]; exact (meta_cos m c t r d).trans (congrFun (entry_cos m c) _))
    (fun d => by rw [place_meta]; exact (meta_sin m c t r d).trans (congrFun (entry_sin m c) _))]
  congr 2
  funext e
  rw [masked_at, mks_at, slot_meta, masked_key, place_meta]
  rfl

theorem metaValues_at (c : Dev nD) (t : Fin cfg0.N) (b h : Fin 4) (r : Fin 128) (e : Fin 256) :
    mvs m c t h (ix2 r e) = value (P m c) (M m c) b h (place 0 r) e := by
  unfold value
  rw [mvs_at, slot_meta]

/-- A head's state before the first block of projected tokens. -/
def metaState (c : Dev nD) (t : Fin cfg0.N) (h : Fin 4) : FVec Ideal S1x256x256 .f32 :=
  first (cosMeta m c t) (sinMeta m c t) (mks m c t h) (mvs m c t h) (kds m c t h)

/-- The state of an argument before block `n`. -/
abbrev stateOf (c : Dev nD) (b h : Fin 4) (n : ℕ) (d e : Fin 256) : EReal := stateAt (P m c) (M m c) keys chunk b h n d e

theorem metaState_at (c : Dev nD) (t : Fin cfg0.N) (b h : Fin 4) (d e : Fin 256) :
    metaState m c t h (ix3 0 d e) = stateOf m c b h 1 d e := by
  unfold metaState stateOf stateAt state state
  rw [first_at, zero_mul, zero_add]
  refine Finset.sum_congr rfl fun j _ => ?_
  rw [metaValues_at m c t b, kds_at]
  exact congrArg (fun x => x * keys h j * _) (metaKeys_at m c t b h j d)

/-- A head's state after the point's block, and the block's output. -/
def nextState (c : Dev nD) (t : Fin cfg0.N) (h : Fin 4) (Z : FVec Ideal S1x256x256 .f32) : FVec Ideal S1x256x256 .f32 :=
  stateOfLoads (cosOwn m c t) (sinOwn m c t) (ks m c t h) (vs m c t h) Z (cds m c t h) (kds m c t h)

def headOf (c : Dev nD) (t : Fin cfg0.N) (h : Fin 4) (Z : FVec Ideal S1x256x256 .f32) : FVec Ideal S128x256 .bf16 :=
  headOfLoads (cosOwn m c t) (sinOwn m c t) (qs m c t h) (ks m c t h) (vs m c t h) (gs m c t h) Z (inners m c t h) (qds m c t h)

theorem nextState_at (c : Dev nD) (t : Fin cfg0.N) (h : Fin 4) (Z : FVec Ideal S1x256x256 .f32)
    (hZ : ∀ d e, Z (ix3 0 d e) = stateOf m c (batch t) h (t.val % 32 + 1) d e) (d e : Fin 256) :
    nextState m c t h Z (ix3 0 d e) = stateOf m c (batch t) h (t.val % 32 + 2) d e := by
  show next (keysOf m c t h) (vs m c t h) Z (cds m c t h) (kds m c t h) (ix3 0 d e) = _
  rw [next_at, hZ, cds_at]
  refine congrArg (_ + ·) (Finset.sum_congr rfl fun j _ => ?_)
  rw [keysOf_at, valuesOf_at, kds_at]

theorem headOf_at (c : Dev nD) (t : Fin cfg0.N) (h : Fin 4) (Z : FVec Ideal S1x256x256 .f32)
    (hZ : ∀ d e, Z (ix3 0 d e) = stateOf m c (batch t) h (t.val % 32 + 1) d e) (r : Fin 128) (e : Fin 256) :
    headOf m c t h Z (ix2 r e) = entry (P m c) (M m c) inner queries keys chunk (batch t) h (block t) r e := by
  have := lt t
  show head (output (queriesOf m c t h) (keysOf m c t h) (vs m c t h) Z (inners m c t h) (qds m c t h)) (gs m c t h) (ix2 r e) = _
  unfold entry
  rw [head_at, gs_at]
  simp only [output_at, queriesOf_at, keysOf_at, valuesOf_at, inners_at, qds_at, hZ]
  refine congrArg₂ (· * ·) (congrArg gate (congrArg (P m c) ?_)) rfl
  funext a
  fin_cases a
  · exact Fin.ext (show t.val * 128 + r.val = t.val / 32 * 4096 + (t.val % 32 * 128 + r.val) by omega)
  · rfl

/-- A head's slab of a state. -/
def slabs (X : Vec Ideal S4x256x256 .f32) (h : Fin 4) : FVec Ideal S1x256x256 .f32 :=
  match h with
  | 0 => View.ld X (Rect.unit ![0, 0, 0] ![1, 256, 256] inb_S4x256x256_S1x256x256_0_0_0)
  | 1 => View.ld X (Rect.unit ![1, 0, 0] ![1, 256, 256] inb_S4x256x256_S1x256x256_1_0_0)
  | 2 => View.ld X (Rect.unit ![2, 0, 0] ![1, 256, 256] inb_S4x256x256_S1x256x256_2_0_0)
  | 3 => View.ld X (Rect.unit ![3, 0, 0] ![1, 256, 256] inb_S4x256x256_S1x256x256_3_0_0)

theorem slabs_at (X : Vec Ideal S4x256x256 .f32) (h : Fin 4) (d e : Fin 256) : slabs X h (ix3 0 d e) = X (ix3 h d e) := by
  fin_cases h <;> (show X _ = X _; congr 1; funext a; fin_cases a <;> (apply Fin.ext; simp [Rect.unit, slabs]))

/-- The states of a batch row's four heads before block `n`. -/
def states (c : Dev nD) (b : Fin 4) (n : ℕ) : FVec Ideal S4x256x256 .f32 := fun y => stateOf m c b (y 0) n (y 1) (y 2)

theorem place_state (c : Dev nD) (t : Fin cfg0.N) (h : Fin 4) (Z : FVec Ideal S1x256x256 .f32)
    (hZ : ∀ d e, Z (ix3 0 d e) = stateOf m c (batch t) h (t.val % 32 + 1) d e) (x : S1x256x256.Idx) (y : S4x256x256.Idx)
    (h0 : (y 0).val = h.val) (h1 : (y 1).val = (x 1).val) (h2 : (y 2).val = (x 2).val) :
    nextState m c t h Z x = states m c (batch t) (t.val % 32 + 2) y := by
  have e0 : (y 0 : Fin 4) = h := Fin.ext h0
  have e1 : (y 1 : Fin 256) = x 1 := Fin.ext h1
  have e2 : (y 2 : Fin 256) = x 2 := Fin.ext h2
  have ex : x = ix3 0 (x 1) (x 2) := by
    funext a
    fin_cases a
    · exact Subsingleton.elim (α := Fin 1) _ _
    · rfl
    · rfl
  have moved : ∀ (a : Fin 4) (p q : Fin 256), a = h → p = x 1 → q = x 2 →
      stateOf m c (batch t) h (t.val % 32 + 2) (x 1) (x 2) = stateOf m c (batch t) a (t.val % 32 + 2) p q := by
    rintro _ _ _ rfl rfl rfl
    rfl
  exact (congrArg (nextState m c t h Z) ex).trans ((nextState_at m c t h Z hZ (x 1) (x 2)).trans (moved (y 0) (y 1) (y 2) e0 e1 e2))

/-- Where the later stores of a list reach, the earlier ones do not show. -/
theorem canon_upper {r : Shape} {a : EltTy} (L' : List (View.Piece (Elt Ideal) r a)) (y : r.Idx) : ∀ (L : List (View.Piece (Elt Ideal) r a))
    (_ : ∃ p ∈ L, y ∈ p.1.set), View.canon (L ++ L') y = View.canon L y
  | [], h => by obtain ⟨_, hp, _⟩ := h; exact absurd hp List.not_mem_nil
  | p :: L, h => by
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      refine canon_upper L' y L ?_
      obtain ⟨q, hq, hy⟩ := h
      rcases List.mem_cons.mp hq with rfl | hq
      · exact absurd hy hm
      · exact ⟨q, hq, hy⟩

theorem canon_four {r : Shape} {a : EltTy} (p q u v : View.Piece (Elt Ideal) r a) (L : List (View.Piece (Elt Ideal) r a)) (y : r.Idx)
    (h : ∃ w ∈ [p, q, u, v], y ∈ w.1.set) : View.canon (p :: q :: u :: v :: L) y = View.canon [p, q, u, v] y :=
  canon_upper L y [p, q, u, v] h

/-- The state after a batch row's first block of projected tokens. -/
theorem after_first (c : Dev nD) (t : Fin cfg0.N) (h0 : t.val % 32 = 0) :
    (outsAt0 m c t.val t.isLt).2 = states m c (batch t) (t.val % 32 + 2) := by
  funext y
  have hm : ∀ (h : Fin 4) d e, metaState m c t h (ix3 0 d e) = stateOf m c (batch t) h (t.val % 32 + 1) d e := fun h d e => by
    rw [h0]; exact metaState_at m c t (batch t) h d e
  rw [outsAt0_A m c t h0]; dsimp only; frame_out
  simp (disch := decide) only [↓View.readCov_skip, View.readCov_cons_toLoadRect]
  refine (canon_four _ _ _ _ _ _ ?_).trans ?_
  · exact View.cover_of_tiled_head _ _ _ (by rfl) _
  canon_tiles x h
  case piece3 => exact (congrFun (state_0 _ _ _ _ _ _ _) x).trans (place_state m c t 0 _ (fun d e => (congrFun (meta_0 _ _ _ _ _) _).trans (hm 0 d e)) x y (by omega) (by omega) (by omega))
  case piece2 => exact (congrFun (state_1 _ _ _ _ _ _ _) x).trans (place_state m c t 1 _ (fun d e => (congrFun (meta_1 _ _ _ _ _) _).trans (hm 1 d e)) x y (by omega) (by omega) (by omega))
  case piece1 => exact (congrFun (state_2 _ _ _ _ _ _ _) x).trans (place_state m c t 2 _ (fun d e => (congrFun (meta_2 _ _ _ _ _) _).trans (hm 2 d e)) x y (by omega) (by omega) (by omega))
  case piece0 => exact (congrFun (state_3 _ _ _ _ _ _ _) x).trans (place_state m c t 3 _ (fun d e => (congrFun (meta_3 _ _ _ _ _) _).trans (hm 3 d e)) x y (by omega) (by omega) (by omega))

/-- The state after a later block. -/
theorem after_later (c : Dev nD) (t : Fin cfg0.N) (h0 : ¬ t.val % 32 = 0)
    (hs : (outsAt0 m c (t.val - 1) (by have := t.isLt; omega)).2 = states m c (batch t) (t.val % 32 + 1)) :
    (outsAt0 m c t.val t.isLt).2 = states m c (batch t) (t.val % 32 + 2) := by
  funext y
  have hm : ∀ (h : Fin 4) d e, slabs (states m c (batch t) (t.val % 32 + 1)) h (ix3 0 d e) = stateOf m c (batch t) h (t.val % 32 + 1) d e :=
    fun h d e => slabs_at _ h d e
  rw [outsAt0_B m c t h0]; dsimp only; frame_out
  rw [read_unread_whole, hs]
  canon_tiles x h
  case piece3 => exact (congrFun (state_0 _ _ _ _ _ _ _) x).trans (place_state m c t 0 (slabs (states m c (batch t) (t.val % 32 + 1)) 0) (hm 0) x y (by omega) (by omega) (by omega))
  case piece2 => exact (congrFun (state_1 _ _ _ _ _ _ _) x).trans (place_state m c t 1 (slabs (states m c (batch t) (t.val % 32 + 1)) 1) (hm 1) x y (by omega) (by omega) (by omega))
  case piece1 => exact (congrFun (state_2 _ _ _ _ _ _ _) x).trans (place_state m c t 2 (slabs (states m c (batch t) (t.val % 32 + 1)) 2) (hm 2) x y (by omega) (by omega) (by omega))
  case piece0 => exact (congrFun (state_3 _ _ _ _ _ _ _) x).trans (place_state m c t 3 (slabs (states m c (batch t) (t.val % 32 + 1)) 3) (hm 3) x y (by omega) (by omega) (by omega))

/-- The state after every grid point. -/
theorem after_point (c : Dev nD) : ∀ (n : ℕ) (hn : n < cfg0.N),
    (outsAt0 m c n hn).2 = states m c (batch ⟨n, hn⟩) (n % 32 + 2)
  | 0, hn => after_first m c ⟨0, hn⟩ rfl
  | n + 1, hn => by
    by_cases h0 : (n + 1) % 32 = 0
    · exact after_first m c ⟨n + 1, hn⟩ h0
    · refine after_later m c ⟨n + 1, hn⟩ h0 ((after_point c n (by omega)).trans ?_)
      have eb : batch ⟨n, by omega⟩ = batch ⟨n + 1, hn⟩ := Fin.ext (show n / 32 = (n + 1) / 32 by omega)
      have en : n % 32 + 2 = (n + 1) % 32 + 1 := by omega
      rw [eb, en]

/-- The state before a later block. -/
theorem before_later (c : Dev nD) (t : Fin cfg0.N) (h0 : ¬ t.val % 32 = 0) :
    (outsAt0 m c (t.val - 1) (by have := t.isLt; omega)).2 = states m c (batch t) (t.val % 32 + 1) := by
  refine (after_point m c (t.val - 1) (by have := t.isLt; omega)).trans ?_
  have eb : batch ⟨t.val - 1, by have := t.isLt; omega⟩ = batch t := Fin.ext (show (t.val - 1) / 32 = t.val / 32 by omega)
  have en : (t.val - 1) % 32 + 2 = t.val % 32 + 1 := by omega
  rw [eb, en]

/-- A head's piece of the block that a grid point writes. -/
theorem place_head (c : Dev nD) (X : FVec Ideal S16384x1024 .bf16)
    (hX : ∀ b h n r e, X (ix2 ⟨b.val * 4096 + (n.val * 128 + r.val), by omega⟩ ⟨h.val * 256 + e.val, by omega⟩)
      = entry (P m c) (M m c) inner queries keys chunk b h n r e)
    (t : Fin cfg0.N) (h : Fin 4) (Z : FVec Ideal S1x256x256 .f32)
    (hZ : ∀ d e, Z (ix3 0 d e) = stateOf m c (batch t) h (t.val % 32 + 1) d e) (x : S128x256.Idx) (z : S16384x1024.Idx)
    (h0 : (z 0).val = t.val * 128 + (x 0).val) (h1 : (z 1).val = h.val * 256 + (x 1).val) :
    headOf m c t h Z x = X z := by
  idx_vars x
  refine (headOf_at m c t h Z hZ x0 x1).trans ((hX (batch t) h (block t) x0 x1).symm.trans ?_)
  have := lt t
  congr 1
  funext a
  fin_cases a
  · exact Fin.ext (by simp only [ix2] at h0 ⊢; dsimp at h0 ⊢; omega)
  · exact Fin.ext h1.symm

/-- The block that a batch row's first grid point writes. -/
theorem block_first (c : Dev nD) (X : FVec Ideal S16384x1024 .bf16)
    (hX : ∀ b h n r e, X (ix2 ⟨b.val * 4096 + (n.val * 128 + r.val), by omega⟩ ⟨h.val * 256 + e.val, by omega⟩)
      = entry (P m c) (M m c) inner queries keys chunk b h n r e)
    (t : Fin cfg0.N) (h0 : t.val % 32 = 0)
    (y : S128x1024.Idx) (z : S16384x1024.Idx) (z0 : (z 0).val = t.val * 128 + (y 0).val) (z1 : (z 1).val = (y 1).val) :
    (outsAt0 m c t.val t.isLt).1 y = X z := by
  have hm : ∀ (h : Fin 4) d e, metaState m c t h (ix3 0 d e) = stateOf m c (batch t) h (t.val % 32 + 1) d e := fun h d e => by
    rw [h0]; exact metaState_at m c t (batch t) h d e
  rw [outsAt0_A m c t h0]; dsimp only; frame_out
  simp (disch := decide) only [↓View.readCov_skip, View.readCov_cons_toLoadRect]
  canon_tiles x h
  case piece3 => exact (congrFun (head_0 _ _ _ _ _ _ _ _ _) x).trans (place_head m c X hX t 0 _ (fun d e => (congrFun (meta_0 _ _ _ _ _) _).trans (hm 0 d e)) x z (by omega) (by rw [z1, h1]; simp))
  case piece2 => exact (congrFun (head_1 _ _ _ _ _ _ _ _ _) x).trans (place_head m c X hX t 1 _ (fun d e => (congrFun (meta_1 _ _ _ _ _) _).trans (hm 1 d e)) x z (by omega) (by rw [z1, h1]; rfl))
  case piece1 => exact (congrFun (head_2 _ _ _ _ _ _ _ _ _) x).trans (place_head m c X hX t 2 _ (fun d e => (congrFun (meta_2 _ _ _ _ _) _).trans (hm 2 d e)) x z (by omega) (by rw [z1, h1]; rfl))
  case piece0 => exact (congrFun (head_3 _ _ _ _ _ _ _ _ _) x).trans (place_head m c X hX t 3 _ (fun d e => (congrFun (meta_3 _ _ _ _ _) _).trans (hm 3 d e)) x z (by omega) (by rw [z1, h1]; rfl))

/-- The block that a later grid point writes. -/
theorem block_later (c : Dev nD) (X : FVec Ideal S16384x1024 .bf16)
    (hX : ∀ b h n r e, X (ix2 ⟨b.val * 4096 + (n.val * 128 + r.val), by omega⟩ ⟨h.val * 256 + e.val, by omega⟩)
      = entry (P m c) (M m c) inner queries keys chunk b h n r e)
    (t : Fin cfg0.N) (h0 : ¬ t.val % 32 = 0)
    (y : S128x1024.Idx) (z : S16384x1024.Idx) (z0 : (z 0).val = t.val * 128 + (y 0).val) (z1 : (z 1).val = (y 1).val) :
    (outsAt0 m c t.val t.isLt).1 y = X z := by
  have hm : ∀ (h : Fin 4) d e, slabs (states m c (batch t) (t.val % 32 + 1)) h (ix3 0 d e) = stateOf m c (batch t) h (t.val % 32 + 1) d e :=
    fun h d e => slabs_at _ h d e
  rw [outsAt0_B m c t h0]; dsimp only; frame_out
  rw [read_unread_whole, before_later m c t h0]
  canon_tiles x h
  case piece3 => exact (congrFun (head_0 _ _ _ _ _ _ _ _ _) x).trans (place_head m c X hX t 0 (slabs (states m c (batch t) (t.val % 32 + 1)) 0) (hm 0) x z (by omega) (by rw [z1, h1]; simp))
  case piece2 => exact (congrFun (head_1 _ _ _ _ _ _ _ _ _) x).trans (place_head m c X hX t 1 (slabs (states m c (batch t) (t.val % 32 + 1)) 1) (hm 1) x z (by omega) (by rw [z1, h1]; rfl))
  case piece1 => exact (congrFun (head_2 _ _ _ _ _ _ _ _ _) x).trans (place_head m c X hX t 2 (slabs (states m c (batch t) (t.val % 32 + 1)) 2) (hm 2) x z (by omega) (by rw [z1, h1]; rfl))
  case piece0 => exact (congrFun (head_3 _ _ _ _ _ _ _ _ _) x).trans (place_head m c X hX t 3 (slabs (states m c (batch t) (t.val % 32 + 1)) 3) (hm 3) x z (by omega) (by rw [z1, h1]; rfl))

/-- The array that the kernel leaves. -/
theorem final (c : Dev nD) (X : FVec Ideal S16384x1024 .bf16)
    (hX : ∀ b h n r e, X (ix2 ⟨b.val * 4096 + (n.val * 128 + r.val), by omega⟩ ⟨h.val * 256 + e.val, by omega⟩)
      = entry (P m c) (M m c) inner queries keys chunk b h n r e) :
    (dats m 0 c).arrAt 14 (cfgs 0).N = X := by
  refine (dats m 0 c).arrAt_eq_of_covers 14 _ (by decide +kernel) fun t _ y => ?_
  blk_simp
  rw [after0_14]
  have hz : ∃ z : S16384x1024.Idx, X (((View.whole main_v77).slice (win0_14.rect t)).emb y) = X z
      ∧ (z 0).val = t.val * 128 + (y 0).val ∧ (z 1).val = (y 1).val := by
    have := lt t
    have b0 : (y 0).val < 128 := (y 0).isLt
    have b1 : (y 1).val < 1024 := (y 1).isLt
    refine ⟨ix2 ⟨t.val * 128 + (y 0).val, by omega⟩ ⟨(y 1).val, b1⟩, ?_, rfl, rfl⟩
    blk_ext [idx t]
  obtain ⟨z, hz, z0, z1⟩ := hz
  rw [hz]
  clear hz
  by_cases h0 : t.val % 32 = 0
  · exact block_first m c X hX t h0 y z z0 z1
  · exact block_later m c X hX t h0 y z z0 z1

/-- The retention at the ideal instance: the kernel's result is the reference's. -/
theorem algebraic : Cert.algebraic_RetIdeal_RetRefIdeal := by
  intro m ρ m' ρ' _ hagree
  refine ⟨_, Cert.RetIdeal.Value.run_blocks m ρ, ?_⟩
  refine (θ_run Cert.RetRefIdeal.defs _ _).mono (fun _ h c => ?_) (Cert.RetRefIdeal.Value.run (F := Ideal) m' ρ')
  obtain ⟨e0, kept⟩ := h c
  obtain ⟨a0, a1⟩ := hagree c
  refine ⟨e0.trans ?_, kept⟩
  refine Eq.trans (b := (show FVec Ideal S16384x1024 .bf16 from Cert.RetRefIdeal.Value.out_main_v159 (RetRef.trips m' c 33))) ?_
    (final m c _ fun b h n r e => ?_).symm
  · rfl
  · refine (RetRef.result_at m' c b n h r e).trans ?_
    have e0 : RetRef.P m' c = P m c := a0
    have e1 : RetRef.M m' c = M m c := a1
    rw [e0, e1]

end Cert.Proof.Ret

end
end
-- ==== Proof.lean ====
module

public import proofs.«01_k».proof.Defs
public import proofs.«01_k».proof.Proof.Gen.Kernel
public import proofs.«01_k».proof.Proof.Gen.Inproj
public import proofs.«01_k».proof.Proof.Gen.InprojIdeal
public import proofs.«01_k».proof.Proof.Gen.InprojRefIdeal
public import proofs.«01_k».proof.Proof.Gen.Mix
public import proofs.«01_k».proof.Proof.Gen.MixIdeal
public import proofs.«01_k».proof.Proof.Gen.MixRefIdeal
public import proofs.«01_k».proof.Proof.Gen.Attn
public import proofs.«01_k».proof.Proof.Gen.AttnIdeal
public import proofs.«01_k».proof.Proof.Gen.Ret
public import proofs.«01_k».proof.Proof.Gen.RetIdeal
public import proofs.«01_k».proof.Proof.Gen.Inproj.Frame
public import proofs.«01_k».proof.Proof.Gen.InprojIdeal.Frame
public import proofs.«01_k».proof.Proof.Gen.Mix.Frame
public import proofs.«01_k».proof.Proof.Gen.MixIdeal.Frame
public import proofs.«01_k».proof.Proof.Gen.Attn.Frame
public import proofs.«01_k».proof.Proof.Gen.AttnIdeal.Frame
public import proofs.«01_k».proof.Proof.Gen.Ret.Frame
public import proofs.«01_k».proof.Proof.Gen.RetIdeal.Frame
public import proofs.«01_k».proof.Proof.ExpertsFrame
public import proofs.«01_k».proof.Proof.References
public import proofs.«01_k».proof.Proof.Gen.InprojIdeal.Value
public import proofs.«01_k».proof.Proof.Gen.MixIdeal.Value
public import proofs.«01_k».proof.Proof.Gen.AttnIdeal.Value
public import proofs.«01_k».proof.Proof.Gen.AttnRefIdeal
public import proofs.«01_k».proof.Proof.Gen.AttnRefIdeal.Run
public import proofs.«01_k».proof.Proof.Gen.RetIdeal.Value
public import proofs.«01_k».proof.Proof.Gen.RetRefIdeal
public import proofs.«01_k».proof.Proof.Gen.RetRefIdeal.Run
public import proofs.«01_k».proof.Proof.InprojValue
public import proofs.«01_k».proof.Proof.MixValue
public import proofs.«01_k».proof.Proof.AttnFinite
public import proofs.«01_k».proof.Proof.AttnValue
public import proofs.«01_k».proof.Proof.RetValue

@[expose] public section

namespace Cert.Proof

open Idealize.ShloMosaic Idealize.SL.Sem

/-- Everything this certificate claims. -/
theorem claim : Cert.Claim :=
  ⟨Cert.Kernel.Gen.facts, Cert.Inproj.Gen.facts, Cert.InprojIdeal.Gen.facts, Cert.InprojRefIdeal.Gen.facts, Cert.Mix.Gen.facts, Cert.MixIdeal.Gen.facts, Cert.MixRefIdeal.Gen.facts, Cert.Attn.Gen.facts, Cert.AttnIdeal.Gen.facts, Cert.AttnRefIdeal.Gen.facts, Cert.Ret.Gen.facts, Cert.RetIdeal.Gen.facts, Cert.RetRefIdeal.Gen.facts,
    AttnFinite.facts,
    fun m ρ _ => Experts.frame m ρ,
    fun m ρ _ => Cert.Inproj.Gen.frame m ρ,
    fun m ρ _ => Cert.InprojIdeal.Gen.frame m ρ,
    References.inproj,
    fun m ρ _ => Cert.Mix.Gen.frame m ρ,
    fun m ρ _ => Cert.MixIdeal.Gen.frame m ρ,
    References.mix,
    fun m ρ _ => Cert.Attn.Gen.frame m ρ,
    fun m ρ _ => Cert.AttnIdeal.Gen.frame m ρ,
    fun m ρ _ => Cert.AttnIdeal.Gen.frame m ρ,
    References.attn,
    fun m ρ _ => References.attn m ρ trivial,
    fun m ρ _ => Cert.Ret.Gen.frame m ρ,
    fun m ρ _ => Cert.RetIdeal.Gen.frame m ρ,
    References.ret,
    trivial, Inproj.algebraic, trivial, Mix.algebraic, trivial, Attn.algebraic, trivial, Ret.algebraic⟩

end Cert.Proof

end
